-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dpre (m : (ℓ : Loc Cert.Dpre.nD Cert.Dpre.τ Cert.Dpre.sig) → Buf (Elt Bits) ℓ) : Prop :=
  True

def Pre_DpreIdeal (m : (ℓ : Loc Cert.DpreIdeal.nD Cert.DpreIdeal.τ Cert.DpreIdeal.sig) → Buf (Elt Ideal) ℓ) : Prop :=
  True

def Pre_DpreRefIdeal (m : (ℓ : Loc Cert.DpreRefIdeal.nD Cert.DpreRefIdeal.τ Cert.DpreRefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_QueryDx (m : (ℓ : Loc Cert.QueryDx.nD Cert.QueryDx.τ Cert.QueryDx.sig) → Buf (Elt Bits) ℓ) : Prop :=
  True

def Pre_QueryDxIdeal (m : (ℓ : Loc Cert.QueryDxIdeal.nD Cert.QueryDxIdeal.τ Cert.QueryDxIdeal.sig) → Buf (Elt Ideal) ℓ) : Prop :=
  True

def Pre_QueryDxRefIdeal (m : (ℓ : Loc Cert.QueryDxRefIdeal.nD Cert.QueryDxRefIdeal.τ Cert.QueryDxRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_Fz (m : (ℓ : Loc Cert.Fz.nD Cert.Fz.τ Cert.Fz.sig) → Buf (Elt Bits) ℓ) : Prop :=
  True

def Pre_FzIdeal (m : (ℓ : Loc Cert.FzIdeal.nD Cert.FzIdeal.τ Cert.FzIdeal.sig) → Buf (Elt Ideal) ℓ) : Prop :=
  True

def Pre_FzRefIdeal (m : (ℓ : Loc Cert.FzRefIdeal.nD Cert.FzRefIdeal.τ Cert.FzRefIdeal.sig) → Buf (Elt Ideal) ℓ) : Prop :=
  True

def Pre_FzDw (m : (ℓ : Loc Cert.FzDw.nD Cert.FzDw.τ Cert.FzDw.sig) → Buf (Elt Bits) ℓ) : Prop :=
  True

def Pre_FzDwIdeal (m : (ℓ : Loc Cert.FzDwIdeal.nD Cert.FzDwIdeal.τ Cert.FzDwIdeal.sig) → Buf (Elt Ideal) ℓ) : Prop :=
  True

def Pre_FzDwRefIdeal (m : (ℓ : Loc Cert.FzDwRefIdeal.nD Cert.FzDwRefIdeal.τ Cert.FzDwRefIdeal.sig) → Buf (Elt Ideal) ℓ) : Prop :=
  True

def Pre_FzDx (m : (ℓ : Loc Cert.FzDx.nD Cert.FzDx.τ Cert.FzDx.sig) → Buf (Elt Bits) ℓ) : Prop :=
  True

def Pre_FzDxIdeal (m : (ℓ : Loc Cert.FzDxIdeal.nD Cert.FzDxIdeal.τ Cert.FzDxIdeal.sig) → Buf (Elt Ideal) ℓ) : Prop :=
  True

def Pre_FzDxRefIdeal (m : (ℓ : Loc Cert.FzDxRefIdeal.nD Cert.FzDxRefIdeal.τ Cert.FzDxRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_real_scores [hPre_real_scores : Cert.Pre_real_scores.Facts] (m : (ℓ : Loc Cert.AttIdeal.nD Cert.AttIdeal.τ Cert.AttIdeal.sig) → Buf (Elt Ideal) ℓ) : Prop :=
  ∀ c : Dev Cert.AttIdeal.nD,
    (Cert.Pre_real_scores.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_real_scores [hPre_real_scores : Cert.Pre_real_scores.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_real_scores.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2))
      ∧ r.2.sem = fun _ => 0)

def quiescent_Dpre [hDpre : Cert.Dpre.Facts] : Prop :=
  ∀ (m : (ℓ : Loc Cert.Dpre.nD Cert.Dpre.τ Cert.Dpre.sig) → Buf (Elt Bits) ℓ) (g : Dev Cert.Dpre.nD → PrngReg), Pre_Dpre m →
    θ_run (Cert.Dpre.defs (F := Bits)) (onTc (τ := Cert.Dpre.τ) (Cert.Dpre.main (F := Bits))) ⟨m, fun _ => 0, g⟩ (fun r => (∀ c : Dev Cert.Dpre.nD,
      r.2.mem ((c.tc : Thread Cert.Dpre.nD Cert.Dpre.τ).loc Cert.Dpre.main_arg0) = m ((c.tc : Thread Cert.Dpre.nD Cert.Dpre.τ).loc Cert.Dpre.main_arg0)
      ∧ r.2.mem ((c.tc : Thread Cert.Dpre.nD Cert.Dpre.τ).loc Cert.Dpre.main_arg1) = m ((c.tc : Thread Cert.Dpre.nD Cert.Dpre.τ).loc Cert.Dpre.main_arg1)
      ∧ r.2.mem ((c.tc : Thread Cert.Dpre.nD Cert.Dpre.τ).loc Cert.Dpre.main_arg2) = m ((c.tc : Thread Cert.Dpre.nD Cert.Dpre.τ).loc Cert.Dpre.main_arg2)
      ∧ r.2.mem ((c.tc : Thread Cert.Dpre.nD Cert.Dpre.τ).loc Cert.Dpre.main_arg3) = m ((c.tc : Thread Cert.Dpre.nD Cert.Dpre.τ).loc Cert.Dpre.main_arg3))
      ∧ r.2.sem = fun _ => 0)

def quiescent_DpreIdeal [hDpreIdeal : Cert.DpreIdeal.Facts] : Prop :=
  ∀ (m : (ℓ : Loc Cert.DpreIdeal.nD Cert.DpreIdeal.τ Cert.DpreIdeal.sig) → Buf (Elt Ideal) ℓ) (g : Dev Cert.DpreIdeal.nD → PrngReg), Pre_DpreIdeal m →
    θ_run (Cert.DpreIdeal.defs (F := Ideal)) (onTc (τ := Cert.DpreIdeal.τ) (Cert.DpreIdeal.main (F := Ideal))) ⟨m, fun _ => 0, g⟩ (fun r => (∀ c : Dev Cert.DpreIdeal.nD,
      r.2.mem ((c.tc : Thread Cert.DpreIdeal.nD Cert.DpreIdeal.τ).loc Cert.DpreIdeal.main_arg0) = m ((c.tc : Thread Cert.DpreIdeal.nD Cert.DpreIdeal.τ).loc Cert.DpreIdeal.main_arg0)
      ∧ r.2.mem ((c.tc : Thread Cert.DpreIdeal.nD Cert.DpreIdeal.τ).loc Cert.DpreIdeal.main_arg1) = m ((c.tc : Thread Cert.DpreIdeal.nD Cert.DpreIdeal.τ).loc Cert.DpreIdeal.main_arg1)
      ∧ r.2.mem ((c.tc : Thread Cert.DpreIdeal.nD Cert.DpreIdeal.τ).loc Cert.DpreIdeal.main_arg2) = m ((c.tc : Thread Cert.DpreIdeal.nD Cert.DpreIdeal.τ).loc Cert.DpreIdeal.main_arg2)
      ∧ r.2.mem ((c.tc : Thread Cert.DpreIdeal.nD Cert.DpreIdeal.τ).loc Cert.DpreIdeal.main_arg3) = m ((c.tc : Thread Cert.DpreIdeal.nD Cert.DpreIdeal.τ).loc Cert.DpreIdeal.main_arg3))
      ∧ r.2.sem = fun _ => 0)

def quiescent_DpreRefIdeal [hDpreRefIdeal : Cert.DpreRefIdeal.Facts] : Prop :=
  ∀ (m : (ℓ : Loc Cert.DpreRefIdeal.nD Cert.DpreRefIdeal.τ Cert.DpreRefIdeal.sig) → Buf (Elt Ideal) ℓ) (g : Dev Cert.DpreRefIdeal.nD → PrngReg), Pre_DpreRefIdeal m →
    θ_run (Cert.DpreRefIdeal.defs (F := Ideal)) (onTc (τ := Cert.DpreRefIdeal.τ) (Cert.DpreRefIdeal.main (F := Ideal))) ⟨m, fun _ => 0, g⟩ (fun r => (∀ c : Dev Cert.DpreRefIdeal.nD,
      r.2.mem ((c.tc : Thread Cert.DpreRefIdeal.nD Cert.DpreRefIdeal.τ).loc Cert.DpreRefIdeal.main_arg0) = m ((c.tc : Thread Cert.DpreRefIdeal.nD Cert.DpreRefIdeal.τ).loc Cert.DpreRefIdeal.main_arg0)
      ∧ r.2.mem ((c.tc : Thread Cert.DpreRefIdeal.nD Cert.DpreRefIdeal.τ).loc Cert.DpreRefIdeal.main_arg1) = m ((c.tc : Thread Cert.DpreRefIdeal.nD Cert.DpreRefIdeal.τ).loc Cert.DpreRefIdeal.main_arg1)
      ∧ r.2.mem ((c.tc : Thread Cert.DpreRefIdeal.nD Cert.DpreRefIdeal.τ).loc Cert.DpreRefIdeal.main_arg2) = m ((c.tc : Thread Cert.DpreRefIdeal.nD Cert.DpreRefIdeal.τ).loc Cert.DpreRefIdeal.main_arg2)
      ∧ r.2.mem ((c.tc : Thread Cert.DpreRefIdeal.nD Cert.DpreRefIdeal.τ).loc Cert.DpreRefIdeal.main_arg3) = m ((c.tc : Thread Cert.DpreRefIdeal.nD Cert.DpreRefIdeal.τ).loc Cert.DpreRefIdeal.main_arg3))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1)
      ∧ r.2.mem ((c.tc : Thread Cert.Dw1.nD Cert.Dw1.τ).loc Cert.Dw1.main_arg2) = m ((c.tc : Thread Cert.Dw1.nD Cert.Dw1.τ).loc Cert.Dw1.main_arg2)
      ∧ r.2.mem ((c.tc : Thread Cert.Dw1.nD Cert.Dw1.τ).loc Cert.Dw1.main_arg3) = m ((c.tc : Thread Cert.Dw1.nD Cert.Dw1.τ).loc Cert.Dw1.main_arg3))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
      ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
      ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1)
      ∧ r.2.mem ((c.tc : Thread Cert.Dw1RefIdeal.nD Cert.Dw1RefIdeal.τ).loc Cert.Dw1RefIdeal.main_arg2) = m ((c.tc : Thread Cert.Dw1RefIdeal.nD Cert.Dw1RefIdeal.τ).loc Cert.Dw1RefIdeal.main_arg2)
      ∧ r.2.mem ((c.tc : Thread Cert.Dw1RefIdeal.nD Cert.Dw1RefIdeal.τ).loc Cert.Dw1RefIdeal.main_arg3) = m ((c.tc : Thread Cert.Dw1RefIdeal.nD Cert.Dw1RefIdeal.τ).loc Cert.Dw1RefIdeal.main_arg3))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2)
      ∧ r.2.mem ((c.tc : Thread Cert.Dn.nD Cert.Dn.τ).loc Cert.Dn.main_arg3) = m ((c.tc : Thread Cert.Dn.nD Cert.Dn.τ).loc Cert.Dn.main_arg3))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
      ∧ r.2.mem ((c.tc : Thread Cert.DnIdeal.nD Cert.DnIdeal.τ).loc Cert.DnIdeal.main_arg3) = m ((c.tc : Thread Cert.DnIdeal.nD Cert.DnIdeal.τ).loc Cert.DnIdeal.main_arg3))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2)
      ∧ r.2.mem ((c.tc : Thread Cert.DnRefIdeal.nD Cert.DnRefIdeal.τ).loc Cert.DnRefIdeal.main_arg3) = m ((c.tc : Thread Cert.DnRefIdeal.nD Cert.DnRefIdeal.τ).loc Cert.DnRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_QueryDx [hQueryDx : Cert.QueryDx.Facts] : Prop :=
  ∀ (m : (ℓ : Loc Cert.QueryDx.nD Cert.QueryDx.τ Cert.QueryDx.sig) → Buf (Elt Bits) ℓ) (g : Dev Cert.QueryDx.nD → PrngReg), Pre_QueryDx m →
    θ_run (Cert.QueryDx.defs (F := Bits)) (onTc (τ := Cert.QueryDx.τ) (Cert.QueryDx.main (F := Bits))) ⟨m, fun _ => 0, g⟩ (fun r => (∀ c : Dev Cert.QueryDx.nD,
      r.2.mem ((c.tc : Thread Cert.QueryDx.nD Cert.QueryDx.τ).loc Cert.QueryDx.main_arg0) = m ((c.tc : Thread Cert.QueryDx.nD Cert.QueryDx.τ).loc Cert.QueryDx.main_arg0)
      ∧ r.2.mem ((c.tc : Thread Cert.QueryDx.nD Cert.QueryDx.τ).loc Cert.QueryDx.main_arg1) = m ((c.tc : Thread Cert.QueryDx.nD Cert.QueryDx.τ).loc Cert.QueryDx.main_arg1))
      ∧ r.2.sem = fun _ => 0)

def quiescent_QueryDxIdeal [hQueryDxIdeal : Cert.QueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ r.2.sem = fun _ => 0)

def quiescent_QueryDxRefIdeal [hQueryDxRefIdeal : Cert.QueryDxRefIdeal.Facts] : Prop :=
  ∀ (m : (ℓ : Loc Cert.QueryDxRefIdeal.nD Cert.QueryDxRefIdeal.τ Cert.QueryDxRefIdeal.sig) → Buf (Elt Ideal) ℓ) (g : Dev Cert.QueryDxRefIdeal.nD → PrngReg), Pre_QueryDxRefIdeal m →
    θ_run (Cert.QueryDxRefIdeal.defs (F := Ideal)) (onTc (τ := Cert.QueryDxRefIdeal.τ) (Cert.QueryDxRefIdeal.main (F := Ideal))) ⟨m, fun _ => 0, g⟩ (fun r => (∀ c : Dev Cert.QueryDxRefIdeal.nD,
      r.2.mem ((c.tc : Thread Cert.QueryDxRefIdeal.nD Cert.QueryDxRefIdeal.τ).loc Cert.QueryDxRefIdeal.main_arg0) = m ((c.tc : Thread Cert.QueryDxRefIdeal.nD Cert.QueryDxRefIdeal.τ).loc Cert.QueryDxRefIdeal.main_arg0)
      ∧ r.2.mem ((c.tc : Thread Cert.QueryDxRefIdeal.nD Cert.QueryDxRefIdeal.τ).loc Cert.QueryDxRefIdeal.main_arg1) = m ((c.tc : Thread Cert.QueryDxRefIdeal.nD Cert.QueryDxRefIdeal.τ).loc Cert.QueryDxRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1))
      ∧ r.2.sem = fun _ => 0)

def quiescent_Fz [hFz : Cert.Fz.Facts] : Prop :=
  ∀ (m : (ℓ : Loc Cert.Fz.nD Cert.Fz.τ Cert.Fz.sig) → Buf (Elt Bits) ℓ) (g : Dev Cert.Fz.nD → PrngReg), Pre_Fz m →
    θ_run (Cert.Fz.defs (F := Bits)) (onTc (τ := Cert.Fz.τ) (Cert.Fz.main (F := Bits))) ⟨m, fun _ => 0, g⟩ (fun r => (∀ c : Dev Cert.Fz.nD,
      r.2.mem ((c.tc : Thread Cert.Fz.nD Cert.Fz.τ).loc Cert.Fz.main_arg0) = m ((c.tc : Thread Cert.Fz.nD Cert.Fz.τ).loc Cert.Fz.main_arg0)
      ∧ r.2.mem ((c.tc : Thread Cert.Fz.nD Cert.Fz.τ).loc Cert.Fz.main_arg1) = m ((c.tc : Thread Cert.Fz.nD Cert.Fz.τ).loc Cert.Fz.main_arg1))
      ∧ r.2.sem = fun _ => 0)

def quiescent_FzIdeal [hFzIdeal : Cert.FzIdeal.Facts] : Prop :=
  ∀ (m : (ℓ : Loc Cert.FzIdeal.nD Cert.FzIdeal.τ Cert.FzIdeal.sig) → Buf (Elt Ideal) ℓ) (g : Dev Cert.FzIdeal.nD → PrngReg), Pre_FzIdeal m →
    θ_run (Cert.FzIdeal.defs (F := Ideal)) (onTc (τ := Cert.FzIdeal.τ) (Cert.FzIdeal.main (F := Ideal))) ⟨m, fun _ => 0, g⟩ (fun r => (∀ c : Dev Cert.FzIdeal.nD,
      r.2.mem ((c.tc : Thread Cert.FzIdeal.nD Cert.FzIdeal.τ).loc Cert.FzIdeal.main_arg0) = m ((c.tc : Thread Cert.FzIdeal.nD Cert.FzIdeal.τ).loc Cert.FzIdeal.main_arg0)
      ∧ r.2.mem ((c.tc : Thread Cert.FzIdeal.nD Cert.FzIdeal.τ).loc Cert.FzIdeal.main_arg1) = m ((c.tc : Thread Cert.FzIdeal.nD Cert.FzIdeal.τ).loc Cert.FzIdeal.main_arg1))
      ∧ r.2.sem = fun _ => 0)

def quiescent_FzRefIdeal [hFzRefIdeal : Cert.FzRefIdeal.Facts] : Prop :=
  ∀ (m : (ℓ : Loc Cert.FzRefIdeal.nD Cert.FzRefIdeal.τ Cert.FzRefIdeal.sig) → Buf (Elt Ideal) ℓ) (g : Dev Cert.FzRefIdeal.nD → PrngReg), Pre_FzRefIdeal m →
    θ_run (Cert.FzRefIdeal.defs (F := Ideal)) (onTc (τ := Cert.FzRefIdeal.τ) (Cert.FzRefIdeal.main (F := Ideal))) ⟨m, fun _ => 0, g⟩ (fun r => (∀ c : Dev Cert.FzRefIdeal.nD,
      r.2.mem ((c.tc : Thread Cert.FzRefIdeal.nD Cert.FzRefIdeal.τ).loc Cert.FzRefIdeal.main_arg0) = m ((c.tc : Thread Cert.FzRefIdeal.nD Cert.FzRefIdeal.τ).loc Cert.FzRefIdeal.main_arg0)
      ∧ r.2.mem ((c.tc : Thread Cert.FzRefIdeal.nD Cert.FzRefIdeal.τ).loc Cert.FzRefIdeal.main_arg1) = m ((c.tc : Thread Cert.FzRefIdeal.nD Cert.FzRefIdeal.τ).loc Cert.FzRefIdeal.main_arg1))
      ∧ r.2.sem = fun _ => 0)

def quiescent_FzDw [hFzDw : Cert.FzDw.Facts] : Prop :=
  ∀ (m : (ℓ : Loc Cert.FzDw.nD Cert.FzDw.τ Cert.FzDw.sig) → Buf (Elt Bits) ℓ) (g : Dev Cert.FzDw.nD → PrngReg), Pre_FzDw m →
    θ_run (Cert.FzDw.defs (F := Bits)) (onTc (τ := Cert.FzDw.τ) (Cert.FzDw.main (F := Bits))) ⟨m, fun _ => 0, g⟩ (fun r => (∀ c : Dev Cert.FzDw.nD,
      r.2.mem ((c.tc : Thread Cert.FzDw.nD Cert.FzDw.τ).loc Cert.FzDw.main_arg0) = m ((c.tc : Thread Cert.FzDw.nD Cert.FzDw.τ).loc Cert.FzDw.main_arg0)
      ∧ r.2.mem ((c.tc : Thread Cert.FzDw.nD Cert.FzDw.τ).loc Cert.FzDw.main_arg1) = m ((c.tc : Thread Cert.FzDw.nD Cert.FzDw.τ).loc Cert.FzDw.main_arg1))
      ∧ r.2.sem = fun _ => 0)

def quiescent_FzDwIdeal [hFzDwIdeal : Cert.FzDwIdeal.Facts] : Prop :=
  ∀ (m : (ℓ : Loc Cert.FzDwIdeal.nD Cert.FzDwIdeal.τ Cert.FzDwIdeal.sig) → Buf (Elt Ideal) ℓ) (g : Dev Cert.FzDwIdeal.nD → PrngReg), Pre_FzDwIdeal m →
    θ_run (Cert.FzDwIdeal.defs (F := Ideal)) (onTc (τ := Cert.FzDwIdeal.τ) (Cert.FzDwIdeal.main (F := Ideal))) ⟨m, fun _ => 0, g⟩ (fun r => (∀ c : Dev Cert.FzDwIdeal.nD,
      r.2.mem ((c.tc : Thread Cert.FzDwIdeal.nD Cert.FzDwIdeal.τ).loc Cert.FzDwIdeal.main_arg0) = m ((c.tc : Thread Cert.FzDwIdeal.nD Cert.FzDwIdeal.τ).loc Cert.FzDwIdeal.main_arg0)
      ∧ r.2.mem ((c.tc : Thread Cert.FzDwIdeal.nD Cert.FzDwIdeal.τ).loc Cert.FzDwIdeal.main_arg1) = m ((c.tc : Thread Cert.FzDwIdeal.nD Cert.FzDwIdeal.τ).loc Cert.FzDwIdeal.main_arg1))
      ∧ r.2.sem = fun _ => 0)

def quiescent_FzDwRefIdeal [hFzDwRefIdeal : Cert.FzDwRefIdeal.Facts] : Prop :=
  ∀ (m : (ℓ : Loc Cert.FzDwRefIdeal.nD Cert.FzDwRefIdeal.τ Cert.FzDwRefIdeal.sig) → Buf (Elt Ideal) ℓ) (g : Dev Cert.FzDwRefIdeal.nD → PrngReg), Pre_FzDwRefIdeal m →
    θ_run (Cert.FzDwRefIdeal.defs (F := Ideal)) (onTc (τ := Cert.FzDwRefIdeal.τ) (Cert.FzDwRefIdeal.main (F := Ideal))) ⟨m, fun _ => 0, g⟩ (fun r => (∀ c : Dev Cert.FzDwRefIdeal.nD,
      r.2.mem ((c.tc : Thread Cert.FzDwRefIdeal.nD Cert.FzDwRefIdeal.τ).loc Cert.FzDwRefIdeal.main_arg0) = m ((c.tc : Thread Cert.FzDwRefIdeal.nD Cert.FzDwRefIdeal.τ).loc Cert.FzDwRefIdeal.main_arg0)
      ∧ r.2.mem ((c.tc : Thread Cert.FzDwRefIdeal.nD Cert.FzDwRefIdeal.τ).loc Cert.FzDwRefIdeal.main_arg1) = m ((c.tc : Thread Cert.FzDwRefIdeal.nD Cert.FzDwRefIdeal.τ).loc Cert.FzDwRefIdeal.main_arg1))
      ∧ r.2.sem = fun _ => 0)

def quiescent_FzDx [hFzDx : Cert.FzDx.Facts] : Prop :=
  ∀ (m : (ℓ : Loc Cert.FzDx.nD Cert.FzDx.τ Cert.FzDx.sig) → Buf (Elt Bits) ℓ) (g : Dev Cert.FzDx.nD → PrngReg), Pre_FzDx m →
    θ_run (Cert.FzDx.defs (F := Bits)) (onTc (τ := Cert.FzDx.τ) (Cert.FzDx.main (F := Bits))) ⟨m, fun _ => 0, g⟩ (fun r => (∀ c : Dev Cert.FzDx.nD,
      r.2.mem ((c.tc : Thread Cert.FzDx.nD Cert.FzDx.τ).loc Cert.FzDx.main_arg0) = m ((c.tc : Thread Cert.FzDx.nD Cert.FzDx.τ).loc Cert.FzDx.main_arg0)
      ∧ r.2.mem ((c.tc : Thread Cert.FzDx.nD Cert.FzDx.τ).loc Cert.FzDx.main_arg1) = m ((c.tc : Thread Cert.FzDx.nD Cert.FzDx.τ).loc Cert.FzDx.main_arg1)
      ∧ r.2.mem ((c.tc : Thread Cert.FzDx.nD Cert.FzDx.τ).loc Cert.FzDx.main_arg2) = m ((c.tc : Thread Cert.FzDx.nD Cert.FzDx.τ).loc Cert.FzDx.main_arg2))
      ∧ r.2.sem = fun _ => 0)

def quiescent_FzDxIdeal [hFzDxIdeal : Cert.FzDxIdeal.Facts] : Prop :=
  ∀ (m : (ℓ : Loc Cert.FzDxIdeal.nD Cert.FzDxIdeal.τ Cert.FzDxIdeal.sig) → Buf (Elt Ideal) ℓ) (g : Dev Cert.FzDxIdeal.nD → PrngReg), Pre_FzDxIdeal m →
    θ_run (Cert.FzDxIdeal.defs (F := Ideal)) (onTc (τ := Cert.FzDxIdeal.τ) (Cert.FzDxIdeal.main (F := Ideal))) ⟨m, fun _ => 0, g⟩ (fun r => (∀ c : Dev Cert.FzDxIdeal.nD,
      r.2.mem ((c.tc : Thread Cert.FzDxIdeal.nD Cert.FzDxIdeal.τ).loc Cert.FzDxIdeal.main_arg0) = m ((c.tc : Thread Cert.FzDxIdeal.nD Cert.FzDxIdeal.τ).loc Cert.FzDxIdeal.main_arg0)
      ∧ r.2.mem ((c.tc : Thread Cert.FzDxIdeal.nD Cert.FzDxIdeal.τ).loc Cert.FzDxIdeal.main_arg1) = m ((c.tc : Thread Cert.FzDxIdeal.nD Cert.FzDxIdeal.τ).loc Cert.FzDxIdeal.main_arg1)
      ∧ r.2.mem ((c.tc : Thread Cert.FzDxIdeal.nD Cert.FzDxIdeal.τ).loc Cert.FzDxIdeal.main_arg2) = m ((c.tc : Thread Cert.FzDxIdeal.nD Cert.FzDxIdeal.τ).loc Cert.FzDxIdeal.main_arg2))
      ∧ r.2.sem = fun _ => 0)

def quiescent_FzDxRefIdeal [hFzDxRefIdeal : Cert.FzDxRefIdeal.Facts] : Prop :=
  ∀ (m : (ℓ : Loc Cert.FzDxRefIdeal.nD Cert.FzDxRefIdeal.τ Cert.FzDxRefIdeal.sig) → Buf (Elt Ideal) ℓ) (g : Dev Cert.FzDxRefIdeal.nD → PrngReg), Pre_FzDxRefIdeal m →
    θ_run (Cert.FzDxRefIdeal.defs (F := Ideal)) (onTc (τ := Cert.FzDxRefIdeal.τ) (Cert.FzDxRefIdeal.main (F := Ideal))) ⟨m, fun _ => 0, g⟩ (fun r => (∀ c : Dev Cert.FzDxRefIdeal.nD,
      r.2.mem ((c.tc : Thread Cert.FzDxRefIdeal.nD Cert.FzDxRefIdeal.τ).loc Cert.FzDxRefIdeal.main_arg0) = m ((c.tc : Thread Cert.FzDxRefIdeal.nD Cert.FzDxRefIdeal.τ).loc Cert.FzDxRefIdeal.main_arg0)
      ∧ r.2.mem ((c.tc : Thread Cert.FzDxRefIdeal.nD Cert.FzDxRefIdeal.τ).loc Cert.FzDxRefIdeal.main_arg1) = m ((c.tc : Thread Cert.FzDxRefIdeal.nD Cert.FzDxRefIdeal.τ).loc Cert.FzDxRefIdeal.main_arg1)
      ∧ r.2.mem ((c.tc : Thread Cert.FzDxRefIdeal.nD Cert.FzDxRefIdeal.τ).loc Cert.FzDxRefIdeal.main_arg2) = m ((c.tc : Thread Cert.FzDxRefIdeal.nD Cert.FzDxRefIdeal.τ).loc Cert.FzDxRefIdeal.main_arg2))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ r.2.sem = fun _ => 0)

def quiescent_AttIdeal_pre_real_scores [hAttIdeal : Cert.AttIdeal.Facts] [hPre_real_scores : Cert.Pre_real_scores.Facts] : Prop :=
  ∀ (m : (ℓ : Loc Cert.AttIdeal.nD Cert.AttIdeal.τ Cert.AttIdeal.sig) → Buf (Elt Ideal) ℓ) (g : Dev Cert.AttIdeal.nD → PrngReg), Pre_AttIdeal_real_scores m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_AttRefIdeal_pre_real_scores [hAttRefIdeal : Cert.AttRefIdeal.Facts] [hPre_real_scores : Cert.Pre_real_scores.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_real_scores m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)) (v3 : (c : Dev Cert.KernelIdeal.nD) → Buf (Elt Ideal) ((c.tc : Thread Cert.KernelIdeal.nD Cert.KernelIdeal.τ).loc Cert.KernelIdeal.main_v67_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_v67_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v8)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v8) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)) →
    ∃ (v0 : (c : Dev Cert.Dw2Ideal.nD) → Buf (Elt Ideal) ((c.tc : Thread Cert.Dw2Ideal.nD Cert.Dw2Ideal.τ).loc Cert.Dw2Ideal.main_v8)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v8) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v8) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2))

def preserves_Dpre_DpreIdeal : Prop :=
  True

def algebraic_DpreIdeal_DpreRefIdeal [hDpreIdeal : Cert.DpreIdeal.Facts] [hDpreRefIdeal : Cert.DpreRefIdeal.Facts] : Prop :=
  ∀ (m : (ℓ : Loc Cert.DpreIdeal.nD Cert.DpreIdeal.τ Cert.DpreIdeal.sig) → Buf (Elt Ideal) ℓ) (g : Dev Cert.DpreIdeal.nD → PrngReg)
    (m' : (ℓ : Loc Cert.DpreRefIdeal.nD Cert.DpreRefIdeal.τ Cert.DpreRefIdeal.sig) → Buf (Elt Ideal) ℓ) (g' : Dev Cert.DpreRefIdeal.nD → PrngReg), Pre_DpreIdeal m →
    (∀ c : Dev Cert.DpreIdeal.nD,
      m' ((c.tc : Thread Cert.DpreRefIdeal.nD Cert.DpreRefIdeal.τ).loc Cert.DpreRefIdeal.main_arg0) = m ((c.tc : Thread Cert.DpreIdeal.nD Cert.DpreIdeal.τ).loc Cert.DpreIdeal.main_arg0)
      ∧ m' ((c.tc : Thread Cert.DpreRefIdeal.nD Cert.DpreRefIdeal.τ).loc Cert.DpreRefIdeal.main_arg1) = m ((c.tc : Thread Cert.DpreIdeal.nD Cert.DpreIdeal.τ).loc Cert.DpreIdeal.main_arg1)
      ∧ m' ((c.tc : Thread Cert.DpreRefIdeal.nD Cert.DpreRefIdeal.τ).loc Cert.DpreRefIdeal.main_arg2) = m ((c.tc : Thread Cert.DpreIdeal.nD Cert.DpreIdeal.τ).loc Cert.DpreIdeal.main_arg2)
      ∧ m' ((c.tc : Thread Cert.DpreRefIdeal.nD Cert.DpreRefIdeal.τ).loc Cert.DpreRefIdeal.main_arg3) = m ((c.tc : Thread Cert.DpreIdeal.nD Cert.DpreIdeal.τ).loc Cert.DpreIdeal.main_arg3)) →
    ∃ (v0 : (c : Dev Cert.DpreIdeal.nD) → Buf (Elt Ideal) ((c.tc : Thread Cert.DpreIdeal.nD Cert.DpreIdeal.τ).loc Cert.DpreIdeal.main_v9)),
      θ_run (Cert.DpreIdeal.defs (F := Ideal)) (onTc (τ := Cert.DpreIdeal.τ) (Cert.DpreIdeal.main (F := Ideal))) ⟨m, fun _ => 0, g⟩ (fun r => ∀ c : Dev Cert.DpreIdeal.nD,
          r.2.mem ((c.tc : Thread Cert.DpreIdeal.nD Cert.DpreIdeal.τ).loc Cert.DpreIdeal.main_v9) = v0 c
          ∧ r.2.mem ((c.tc : Thread Cert.DpreIdeal.nD Cert.DpreIdeal.τ).loc Cert.DpreIdeal.main_arg0) = m ((c.tc : Thread Cert.DpreIdeal.nD Cert.DpreIdeal.τ).loc Cert.DpreIdeal.main_arg0)
          ∧ r.2.mem ((c.tc : Thread Cert.DpreIdeal.nD Cert.DpreIdeal.τ).loc Cert.DpreIdeal.main_arg1) = m ((c.tc : Thread Cert.DpreIdeal.nD Cert.DpreIdeal.τ).loc Cert.DpreIdeal.main_arg1)
          ∧ r.2.mem ((c.tc : Thread Cert.DpreIdeal.nD Cert.DpreIdeal.τ).loc Cert.DpreIdeal.main_arg2) = m ((c.tc : Thread Cert.DpreIdeal.nD Cert.DpreIdeal.τ).loc Cert.DpreIdeal.main_arg2)
          ∧ r.2.mem ((c.tc : Thread Cert.DpreIdeal.nD Cert.DpreIdeal.τ).loc Cert.DpreIdeal.main_arg3) = m ((c.tc : Thread Cert.DpreIdeal.nD Cert.DpreIdeal.τ).loc Cert.DpreIdeal.main_arg3))
      ∧ θ_run (Cert.DpreRefIdeal.defs (F := Ideal)) (onTc (τ := Cert.DpreRefIdeal.τ) (Cert.DpreRefIdeal.main (F := Ideal))) ⟨m', fun _ => 0, g'⟩ (fun r => ∀ c : Dev Cert.DpreRefIdeal.nD,
          r.2.mem ((c.tc : Thread Cert.DpreRefIdeal.nD Cert.DpreRefIdeal.τ).loc Cert.DpreRefIdeal.main_v15) = v0 c
          ∧ r.2.mem ((c.tc : Thread Cert.DpreRefIdeal.nD Cert.DpreRefIdeal.τ).loc Cert.DpreRefIdeal.main_arg0) = m' ((c.tc : Thread Cert.DpreRefIdeal.nD Cert.DpreRefIdeal.τ).loc Cert.DpreRefIdeal.main_arg0)
          ∧ r.2.mem ((c.tc : Thread Cert.DpreRefIdeal.nD Cert.DpreRefIdeal.τ).loc Cert.DpreRefIdeal.main_arg1) = m' ((c.tc : Thread Cert.DpreRefIdeal.nD Cert.DpreRefIdeal.τ).loc Cert.DpreRefIdeal.main_arg1)
          ∧ r.2.mem ((c.tc : Thread Cert.DpreRefIdeal.nD Cert.DpreRefIdeal.τ).loc Cert.DpreRefIdeal.main_arg2) = m' ((c.tc : Thread Cert.DpreRefIdeal.nD Cert.DpreRefIdeal.τ).loc Cert.DpreRefIdeal.main_arg2)
          ∧ r.2.mem ((c.tc : Thread Cert.DpreRefIdeal.nD Cert.DpreRefIdeal.τ).loc Cert.DpreRefIdeal.main_arg3) = m' ((c.tc : Thread Cert.DpreRefIdeal.nD Cert.DpreRefIdeal.τ).loc Cert.DpreRefIdeal.main_arg3))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)
      ∧ m' ((c.tc : Thread Cert.Dw1RefIdeal.nD Cert.Dw1RefIdeal.τ).loc Cert.Dw1RefIdeal.main_arg2) = m ((c.tc : Thread Cert.Dw1Ideal.nD Cert.Dw1Ideal.τ).loc Cert.Dw1Ideal.main_arg2)
      ∧ m' ((c.tc : Thread Cert.Dw1RefIdeal.nD Cert.Dw1RefIdeal.τ).loc Cert.Dw1RefIdeal.main_arg3) = m ((c.tc : Thread Cert.Dw1Ideal.nD Cert.Dw1Ideal.τ).loc Cert.Dw1Ideal.main_arg3)) →
    ∃ (v0 : (c : Dev Cert.Dw1Ideal.nD) → Buf (Elt Ideal) ((c.tc : Thread Cert.Dw1Ideal.nD Cert.Dw1Ideal.τ).loc Cert.Dw1Ideal.main_v11)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v11) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
          ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
          ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v18) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1)
          ∧ r.2.mem ((c.tc : Thread Cert.Dw1RefIdeal.nD Cert.Dw1RefIdeal.τ).loc Cert.Dw1RefIdeal.main_arg2) = m' ((c.tc : Thread Cert.Dw1RefIdeal.nD Cert.Dw1RefIdeal.τ).loc Cert.Dw1RefIdeal.main_arg2)
          ∧ r.2.mem ((c.tc : Thread Cert.Dw1RefIdeal.nD Cert.Dw1RefIdeal.τ).loc Cert.Dw1RefIdeal.main_arg3) = m' ((c.tc : Thread Cert.Dw1RefIdeal.nD Cert.Dw1RefIdeal.τ).loc Cert.Dw1RefIdeal.main_arg3))

def preserves_Dn_DnIdeal : Prop :=
  True

def algebraic_DnIdeal_DnRefIdeal [hDnIdeal : Cert.DnIdeal.Facts] [hDnRefIdeal : Cert.DnRefIdeal.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnIdeal m →
    (∀ c : Dev Cert.DnIdeal.nD,
      m' ((c.tc : Thread Cert.DnRefIdeal.nD Cert.DnRefIdeal.τ).loc Cert.DnRefIdeal.main_arg0) = m ((c.tc : Thread Cert.DnIdeal.nD Cert.DnIdeal.τ).loc Cert.DnIdeal.main_arg0)
      ∧ m' ((c.tc : Thread Cert.DnRefIdeal.nD Cert.DnRefIdeal.τ).loc Cert.DnRefIdeal.main_arg1) = m ((c.tc : Thread Cert.DnIdeal.nD Cert.DnIdeal.τ).loc Cert.DnIdeal.main_arg1)
      ∧ m' ((c.tc : Thread Cert.DnRefIdeal.nD Cert.DnRefIdeal.τ).loc Cert.DnRefIdeal.main_arg2) = m ((c.tc : Thread Cert.DnIdeal.nD Cert.DnIdeal.τ).loc Cert.DnIdeal.main_arg2)
      ∧ m' ((c.tc : Thread Cert.DnRefIdeal.nD Cert.DnRefIdeal.τ).loc Cert.DnRefIdeal.main_arg3) = m ((c.tc : Thread Cert.DnIdeal.nD Cert.DnIdeal.τ).loc Cert.DnIdeal.main_arg3)) →
    ∃ (v0 : (c : Dev Cert.DnIdeal.nD) → Buf (Elt Ideal) ((c.tc : Thread Cert.DnIdeal.nD Cert.DnIdeal.τ).loc Cert.DnIdeal.main_v11)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v11) = v0 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
          ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
          ∧ r.2.mem ((c.tc : Thread Cert.DnIdeal.nD Cert.DnIdeal.τ).loc Cert.DnIdeal.main_arg3) = m ((c.tc : Thread Cert.DnIdeal.nD Cert.DnIdeal.τ).loc Cert.DnIdeal.main_arg3))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v15) = v0 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1)
          ∧ r.2.mem ((c.tc : Thread Cert.DnRefIdeal.nD Cert.DnRefIdeal.τ).loc Cert.DnRefIdeal.main_arg2) = m' ((c.tc : Thread Cert.DnRefIdeal.nD Cert.DnRefIdeal.τ).loc Cert.DnRefIdeal.main_arg2)
          ∧ r.2.mem ((c.tc : Thread Cert.DnRefIdeal.nD Cert.DnRefIdeal.τ).loc Cert.DnRefIdeal.main_arg3) = m' ((c.tc : Thread Cert.DnRefIdeal.nD Cert.DnRefIdeal.τ).loc Cert.DnRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v1) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v0) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_QueryDx_QueryDxIdeal : Prop :=
  True

def algebraic_QueryDxIdeal_QueryDxRefIdeal [hQueryDxIdeal : Cert.QueryDxIdeal.Facts] [hQueryDxRefIdeal : Cert.QueryDxRefIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg)
    (m' : (ℓ : Loc Cert.QueryDxRefIdeal.nD Cert.QueryDxRefIdeal.τ Cert.QueryDxRefIdeal.sig) → Buf (Elt Ideal) ℓ) (g' : Dev Cert.QueryDxRefIdeal.nD → PrngReg), Pre_QueryDxIdeal m →
    (∀ c : Dev Cert.QueryDxIdeal.nD,
      m' ((c.tc : Thread Cert.QueryDxRefIdeal.nD Cert.QueryDxRefIdeal.τ).loc Cert.QueryDxRefIdeal.main_arg0) = m ((c.tc : Thread Cert.QueryDxIdeal.nD Cert.QueryDxIdeal.τ).loc Cert.QueryDxIdeal.main_arg0)
      ∧ m' ((c.tc : Thread Cert.QueryDxRefIdeal.nD Cert.QueryDxRefIdeal.τ).loc Cert.QueryDxRefIdeal.main_arg1) = m ((c.tc : Thread Cert.QueryDxIdeal.nD Cert.QueryDxIdeal.τ).loc Cert.QueryDxIdeal.main_arg1)) →
    ∃ (v0 : (c : Dev Cert.QueryDxIdeal.nD) → Buf (Elt Ideal) ((c.tc : Thread Cert.QueryDxIdeal.nD Cert.QueryDxIdeal.τ).loc Cert.QueryDxIdeal.main_v2)),
      θ_run (Cert.QueryDxIdeal.defs (F := Ideal)) (onTc (τ := Cert.QueryDxIdeal.τ) (Cert.QueryDxIdeal.main (F := Ideal))) ⟨m, fun _ => 0, g⟩ (fun r => ∀ c : Dev Cert.QueryDxIdeal.nD,
          r.2.mem ((c.tc : Thread Cert.QueryDxIdeal.nD Cert.QueryDxIdeal.τ).loc Cert.QueryDxIdeal.main_v2) = v0 c
          ∧ r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
          ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ θ_run (Cert.QueryDxRefIdeal.defs (F := Ideal)) (onTc (τ := Cert.QueryDxRefIdeal.τ) (Cert.QueryDxRefIdeal.main (F := Ideal))) ⟨m', fun _ => 0, g'⟩ (fun r => ∀ c : Dev Cert.QueryDxRefIdeal.nD,
          r.2.mem ((c.tc : Thread Cert.QueryDxRefIdeal.nD Cert.QueryDxRefIdeal.τ).loc Cert.QueryDxRefIdeal.main_v2) = v0 c
          ∧ r.2.mem ((c.tc : Thread Cert.QueryDxRefIdeal.nD Cert.QueryDxRefIdeal.τ).loc Cert.QueryDxRefIdeal.main_arg0) = m' ((c.tc : Thread Cert.QueryDxRefIdeal.nD Cert.QueryDxRefIdeal.τ).loc Cert.QueryDxRefIdeal.main_arg0)
          ∧ r.2.mem ((c.tc : Thread Cert.QueryDxRefIdeal.nD Cert.QueryDxRefIdeal.τ).loc Cert.QueryDxRefIdeal.main_arg1) = m' ((c.tc : Thread Cert.QueryDxRefIdeal.nD Cert.QueryDxRefIdeal.τ).loc Cert.QueryDxRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v2)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v2) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v7) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v2)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v2) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v4) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v2)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v2) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v7) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v3)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v3) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v4) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1))

def preserves_Fz_FzIdeal : Prop :=
  True

def algebraic_FzIdeal_FzRefIdeal [hFzIdeal : Cert.FzIdeal.Facts] [hFzRefIdeal : Cert.FzRefIdeal.Facts] : Prop :=
  ∀ (m : (ℓ : Loc Cert.FzIdeal.nD Cert.FzIdeal.τ Cert.FzIdeal.sig) → Buf (Elt Ideal) ℓ) (g : Dev Cert.FzIdeal.nD → PrngReg)
    (m' : (ℓ : Loc Cert.FzRefIdeal.nD Cert.FzRefIdeal.τ Cert.FzRefIdeal.sig) → Buf (Elt Ideal) ℓ) (g' : Dev Cert.FzRefIdeal.nD → PrngReg), Pre_FzIdeal m →
    (∀ c : Dev Cert.FzIdeal.nD,
      m' ((c.tc : Thread Cert.FzRefIdeal.nD Cert.FzRefIdeal.τ).loc Cert.FzRefIdeal.main_arg0) = m ((c.tc : Thread Cert.FzIdeal.nD Cert.FzIdeal.τ).loc Cert.FzIdeal.main_arg0)
      ∧ m' ((c.tc : Thread Cert.FzRefIdeal.nD Cert.FzRefIdeal.τ).loc Cert.FzRefIdeal.main_arg1) = m ((c.tc : Thread Cert.FzIdeal.nD Cert.FzIdeal.τ).loc Cert.FzIdeal.main_arg1)) →
    ∃ (v0 : (c : Dev Cert.FzIdeal.nD) → Buf (Elt Ideal) ((c.tc : Thread Cert.FzIdeal.nD Cert.FzIdeal.τ).loc Cert.FzIdeal.main_v5)),
      θ_run (Cert.FzIdeal.defs (F := Ideal)) (onTc (τ := Cert.FzIdeal.τ) (Cert.FzIdeal.main (F := Ideal))) ⟨m, fun _ => 0, g⟩ (fun r => ∀ c : Dev Cert.FzIdeal.nD,
          r.2.mem ((c.tc : Thread Cert.FzIdeal.nD Cert.FzIdeal.τ).loc Cert.FzIdeal.main_v5) = v0 c
          ∧ r.2.mem ((c.tc : Thread Cert.FzIdeal.nD Cert.FzIdeal.τ).loc Cert.FzIdeal.main_arg0) = m ((c.tc : Thread Cert.FzIdeal.nD Cert.FzIdeal.τ).loc Cert.FzIdeal.main_arg0)
          ∧ r.2.mem ((c.tc : Thread Cert.FzIdeal.nD Cert.FzIdeal.τ).loc Cert.FzIdeal.main_arg1) = m ((c.tc : Thread Cert.FzIdeal.nD Cert.FzIdeal.τ).loc Cert.FzIdeal.main_arg1))
      ∧ θ_run (Cert.FzRefIdeal.defs (F := Ideal)) (onTc (τ := Cert.FzRefIdeal.τ) (Cert.FzRefIdeal.main (F := Ideal))) ⟨m', fun _ => 0, g'⟩ (fun r => ∀ c : Dev Cert.FzRefIdeal.nD,
          r.2.mem ((c.tc : Thread Cert.FzRefIdeal.nD Cert.FzRefIdeal.τ).loc Cert.FzRefIdeal.main_v2) = v0 c
          ∧ r.2.mem ((c.tc : Thread Cert.FzRefIdeal.nD Cert.FzRefIdeal.τ).loc Cert.FzRefIdeal.main_arg0) = m' ((c.tc : Thread Cert.FzRefIdeal.nD Cert.FzRefIdeal.τ).loc Cert.FzRefIdeal.main_arg0)
          ∧ r.2.mem ((c.tc : Thread Cert.FzRefIdeal.nD Cert.FzRefIdeal.τ).loc Cert.FzRefIdeal.main_arg1) = m' ((c.tc : Thread Cert.FzRefIdeal.nD Cert.FzRefIdeal.τ).loc Cert.FzRefIdeal.main_arg1))

def preserves_FzDw_FzDwIdeal : Prop :=
  True

def algebraic_FzDwIdeal_FzDwRefIdeal [hFzDwIdeal : Cert.FzDwIdeal.Facts] [hFzDwRefIdeal : Cert.FzDwRefIdeal.Facts] : Prop :=
  ∀ (m : (ℓ : Loc Cert.FzDwIdeal.nD Cert.FzDwIdeal.τ Cert.FzDwIdeal.sig) → Buf (Elt Ideal) ℓ) (g : Dev Cert.FzDwIdeal.nD → PrngReg)
    (m' : (ℓ : Loc Cert.FzDwRefIdeal.nD Cert.FzDwRefIdeal.τ Cert.FzDwRefIdeal.sig) → Buf (Elt Ideal) ℓ) (g' : Dev Cert.FzDwRefIdeal.nD → PrngReg), Pre_FzDwIdeal m →
    (∀ c : Dev Cert.FzDwIdeal.nD,
      m' ((c.tc : Thread Cert.FzDwRefIdeal.nD Cert.FzDwRefIdeal.τ).loc Cert.FzDwRefIdeal.main_arg0) = m ((c.tc : Thread Cert.FzDwIdeal.nD Cert.FzDwIdeal.τ).loc Cert.FzDwIdeal.main_arg0)
      ∧ m' ((c.tc : Thread Cert.FzDwRefIdeal.nD Cert.FzDwRefIdeal.τ).loc Cert.FzDwRefIdeal.main_arg1) = m ((c.tc : Thread Cert.FzDwIdeal.nD Cert.FzDwIdeal.τ).loc Cert.FzDwIdeal.main_arg1)) →
    ∃ (v0 : (c : Dev Cert.FzDwIdeal.nD) → Buf (Elt Ideal) ((c.tc : Thread Cert.FzDwIdeal.nD Cert.FzDwIdeal.τ).loc Cert.FzDwIdeal.main_v3)),
      θ_run (Cert.FzDwIdeal.defs (F := Ideal)) (onTc (τ := Cert.FzDwIdeal.τ) (Cert.FzDwIdeal.main (F := Ideal))) ⟨m, fun _ => 0, g⟩ (fun r => ∀ c : Dev Cert.FzDwIdeal.nD,
          r.2.mem ((c.tc : Thread Cert.FzDwIdeal.nD Cert.FzDwIdeal.τ).loc Cert.FzDwIdeal.main_v3) = v0 c
          ∧ r.2.mem ((c.tc : Thread Cert.FzDwIdeal.nD Cert.FzDwIdeal.τ).loc Cert.FzDwIdeal.main_arg0) = m ((c.tc : Thread Cert.FzDwIdeal.nD Cert.FzDwIdeal.τ).loc Cert.FzDwIdeal.main_arg0)
          ∧ r.2.mem ((c.tc : Thread Cert.FzDwIdeal.nD Cert.FzDwIdeal.τ).loc Cert.FzDwIdeal.main_arg1) = m ((c.tc : Thread Cert.FzDwIdeal.nD Cert.FzDwIdeal.τ).loc Cert.FzDwIdeal.main_arg1))
      ∧ θ_run (Cert.FzDwRefIdeal.defs (F := Ideal)) (onTc (τ := Cert.FzDwRefIdeal.τ) (Cert.FzDwRefIdeal.main (F := Ideal))) ⟨m', fun _ => 0, g'⟩ (fun r => ∀ c : Dev Cert.FzDwRefIdeal.nD,
          r.2.mem ((c.tc : Thread Cert.FzDwRefIdeal.nD Cert.FzDwRefIdeal.τ).loc Cert.FzDwRefIdeal.main_v8) = v0 c
          ∧ r.2.mem ((c.tc : Thread Cert.FzDwRefIdeal.nD Cert.FzDwRefIdeal.τ).loc Cert.FzDwRefIdeal.main_arg0) = m' ((c.tc : Thread Cert.FzDwRefIdeal.nD Cert.FzDwRefIdeal.τ).loc Cert.FzDwRefIdeal.main_arg0)
          ∧ r.2.mem ((c.tc : Thread Cert.FzDwRefIdeal.nD Cert.FzDwRefIdeal.τ).loc Cert.FzDwRefIdeal.main_arg1) = m' ((c.tc : Thread Cert.FzDwRefIdeal.nD Cert.FzDwRefIdeal.τ).loc Cert.FzDwRefIdeal.main_arg1))

def preserves_FzDx_FzDxIdeal : Prop :=
  True

def algebraic_FzDxIdeal_FzDxRefIdeal [hFzDxIdeal : Cert.FzDxIdeal.Facts] [hFzDxRefIdeal : Cert.FzDxRefIdeal.Facts] : Prop :=
  ∀ (m : (ℓ : Loc Cert.FzDxIdeal.nD Cert.FzDxIdeal.τ Cert.FzDxIdeal.sig) → Buf (Elt Ideal) ℓ) (g : Dev Cert.FzDxIdeal.nD → PrngReg)
    (m' : (ℓ : Loc Cert.FzDxRefIdeal.nD Cert.FzDxRefIdeal.τ Cert.FzDxRefIdeal.sig) → Buf (Elt Ideal) ℓ) (g' : Dev Cert.FzDxRefIdeal.nD → PrngReg), Pre_FzDxIdeal m →
    (∀ c : Dev Cert.FzDxIdeal.nD,
      m' ((c.tc : Thread Cert.FzDxRefIdeal.nD Cert.FzDxRefIdeal.τ).loc Cert.FzDxRefIdeal.main_arg0) = m ((c.tc : Thread Cert.FzDxIdeal.nD Cert.FzDxIdeal.τ).loc Cert.FzDxIdeal.main_arg0)
      ∧ m' ((c.tc : Thread Cert.FzDxRefIdeal.nD Cert.FzDxRefIdeal.τ).loc Cert.FzDxRefIdeal.main_arg1) = m ((c.tc : Thread Cert.FzDxIdeal.nD Cert.FzDxIdeal.τ).loc Cert.FzDxIdeal.main_arg1)
      ∧ m' ((c.tc : Thread Cert.FzDxRefIdeal.nD Cert.FzDxRefIdeal.τ).loc Cert.FzDxRefIdeal.main_arg2) = m ((c.tc : Thread Cert.FzDxIdeal.nD Cert.FzDxIdeal.τ).loc Cert.FzDxIdeal.main_arg2)) →
    ∃ (v0 : (c : Dev Cert.FzDxIdeal.nD) → Buf (Elt Ideal) ((c.tc : Thread Cert.FzDxIdeal.nD Cert.FzDxIdeal.τ).loc Cert.FzDxIdeal.main_v6)),
      θ_run (Cert.FzDxIdeal.defs (F := Ideal)) (onTc (τ := Cert.FzDxIdeal.τ) (Cert.FzDxIdeal.main (F := Ideal))) ⟨m, fun _ => 0, g⟩ (fun r => ∀ c : Dev Cert.FzDxIdeal.nD,
          r.2.mem ((c.tc : Thread Cert.FzDxIdeal.nD Cert.FzDxIdeal.τ).loc Cert.FzDxIdeal.main_v6) = v0 c
          ∧ r.2.mem ((c.tc : Thread Cert.FzDxIdeal.nD Cert.FzDxIdeal.τ).loc Cert.FzDxIdeal.main_arg0) = m ((c.tc : Thread Cert.FzDxIdeal.nD Cert.FzDxIdeal.τ).loc Cert.FzDxIdeal.main_arg0)
          ∧ r.2.mem ((c.tc : Thread Cert.FzDxIdeal.nD Cert.FzDxIdeal.τ).loc Cert.FzDxIdeal.main_arg1) = m ((c.tc : Thread Cert.FzDxIdeal.nD Cert.FzDxIdeal.τ).loc Cert.FzDxIdeal.main_arg1)
          ∧ r.2.mem ((c.tc : Thread Cert.FzDxIdeal.nD Cert.FzDxIdeal.τ).loc Cert.FzDxIdeal.main_arg2) = m ((c.tc : Thread Cert.FzDxIdeal.nD Cert.FzDxIdeal.τ).loc Cert.FzDxIdeal.main_arg2))
      ∧ θ_run (Cert.FzDxRefIdeal.defs (F := Ideal)) (onTc (τ := Cert.FzDxRefIdeal.τ) (Cert.FzDxRefIdeal.main (F := Ideal))) ⟨m', fun _ => 0, g'⟩ (fun r => ∀ c : Dev Cert.FzDxRefIdeal.nD,
          r.2.mem ((c.tc : Thread Cert.FzDxRefIdeal.nD Cert.FzDxRefIdeal.τ).loc Cert.FzDxRefIdeal.main_v5) = v0 c
          ∧ r.2.mem ((c.tc : Thread Cert.FzDxRefIdeal.nD Cert.FzDxRefIdeal.τ).loc Cert.FzDxRefIdeal.main_arg0) = m' ((c.tc : Thread Cert.FzDxRefIdeal.nD Cert.FzDxRefIdeal.τ).loc Cert.FzDxRefIdeal.main_arg0)
          ∧ r.2.mem ((c.tc : Thread Cert.FzDxRefIdeal.nD Cert.FzDxRefIdeal.τ).loc Cert.FzDxRefIdeal.main_arg1) = m' ((c.tc : Thread Cert.FzDxRefIdeal.nD Cert.FzDxRefIdeal.τ).loc Cert.FzDxRefIdeal.main_arg1)
          ∧ r.2.mem ((c.tc : Thread Cert.FzDxRefIdeal.nD Cert.FzDxRefIdeal.τ).loc Cert.FzDxRefIdeal.main_arg2) = m' ((c.tc : Thread Cert.FzDxRefIdeal.nD Cert.FzDxRefIdeal.τ).loc Cert.FzDxRefIdeal.main_arg2))

def preserves_Att_AttIdeal : Prop :=
  IdealRules.named_const.Statement Cert.AttIdeal.κ "mask" .f32 0xF149F2CA#32 ⊥

def algebraic_AttIdeal_AttRefIdeal_pre_real_scores [hAttIdeal : Cert.AttIdeal.Facts] [hAttRefIdeal : Cert.AttRefIdeal.Facts] [hPre_real_scores : Cert.Pre_real_scores.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_real_scores m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)) →
    ∃ (v0 : (c : Dev Cert.AttIdeal.nD) → Buf (Elt Ideal) ((c.tc : Thread Cert.AttIdeal.nD Cert.AttIdeal.τ).loc Cert.AttIdeal.main_v11)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v11) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v54) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDw2 : Cert.Dw2.Facts) (hDw2Ideal : Cert.Dw2Ideal.Facts) (hDw2RefIdeal : Cert.Dw2RefIdeal.Facts) (hDpre : Cert.Dpre.Facts) (hDpreIdeal : Cert.DpreIdeal.Facts) (hDpreRefIdeal : Cert.DpreRefIdeal.Facts) (hDw1 : Cert.Dw1.Facts) (hDw1Ideal : Cert.Dw1Ideal.Facts) (hDw1RefIdeal : Cert.Dw1RefIdeal.Facts) (hDn : Cert.Dn.Facts) (hDnIdeal : Cert.DnIdeal.Facts) (hDnRefIdeal : Cert.DnRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hKv : Cert.Kv.Facts) (hKvIdeal : Cert.KvIdeal.Facts) (hKvRefIdeal : Cert.KvRefIdeal.Facts) (hQuery : Cert.Query.Facts) (hQueryIdeal : Cert.QueryIdeal.Facts) (hQueryRefIdeal : Cert.QueryRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hQueryDx : Cert.QueryDx.Facts) (hQueryDxIdeal : Cert.QueryDxIdeal.Facts) (hQueryDxRefIdeal : Cert.QueryDxRefIdeal.Facts) (hKvDw : Cert.KvDw.Facts) (hKvDwIdeal : Cert.KvDwIdeal.Facts) (hKvDwRefIdeal : Cert.KvDwRefIdeal.Facts) (hKvDx : Cert.KvDx.Facts) (hKvDxIdeal : Cert.KvDxIdeal.Facts) (hKvDxRefIdeal : Cert.KvDxRefIdeal.Facts) (hQkvDw : Cert.QkvDw.Facts) (hQkvDwIdeal : Cert.QkvDwIdeal.Facts) (hQkvDwRefIdeal : Cert.QkvDwRefIdeal.Facts) (hQkvDx : Cert.QkvDx.Facts) (hQkvDxIdeal : Cert.QkvDxIdeal.Facts) (hQkvDxRefIdeal : Cert.QkvDxRefIdeal.Facts) (hFz : Cert.Fz.Facts) (hFzIdeal : Cert.FzIdeal.Facts) (hFzRefIdeal : Cert.FzRefIdeal.Facts) (hFzDw : Cert.FzDw.Facts) (hFzDwIdeal : Cert.FzDwIdeal.Facts) (hFzDwRefIdeal : Cert.FzDwRefIdeal.Facts) (hFzDx : Cert.FzDx.Facts) (hFzDxIdeal : Cert.FzDxIdeal.Facts) (hFzDxRefIdeal : Cert.FzDxRefIdeal.Facts) (hAtt : Cert.Att.Facts) (hAttIdeal : Cert.AttIdeal.Facts) (hAttRefIdeal : Cert.AttRefIdeal.Facts) (hPre_finite : Cert.Pre_finite.Facts) (hPre_real_scores : Cert.Pre_real_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dpre (hDpre := hDpre)
    ∧ quiescent_DpreIdeal (hDpreIdeal := hDpreIdeal)
    ∧ quiescent_DpreRefIdeal (hDpreRefIdeal := hDpreRefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dn (hDn := hDn)
    ∧ quiescent_DnIdeal (hDnIdeal := hDnIdeal)
    ∧ quiescent_DnRefIdeal (hDnRefIdeal := hDnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_Kv (hKv := hKv)
    ∧ quiescent_KvIdeal (hKvIdeal := hKvIdeal)
    ∧ quiescent_KvRefIdeal (hKvRefIdeal := hKvRefIdeal)
    ∧ quiescent_Query (hQuery := hQuery)
    ∧ quiescent_QueryIdeal (hQueryIdeal := hQueryIdeal)
    ∧ quiescent_QueryRefIdeal (hQueryRefIdeal := hQueryRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_QueryDx (hQueryDx := hQueryDx)
    ∧ quiescent_QueryDxIdeal (hQueryDxIdeal := hQueryDxIdeal)
    ∧ quiescent_QueryDxRefIdeal (hQueryDxRefIdeal := hQueryDxRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_Fz (hFz := hFz)
    ∧ quiescent_FzIdeal (hFzIdeal := hFzIdeal)
    ∧ quiescent_FzRefIdeal (hFzRefIdeal := hFzRefIdeal)
    ∧ quiescent_FzDw (hFzDw := hFzDw)
    ∧ quiescent_FzDwIdeal (hFzDwIdeal := hFzDwIdeal)
    ∧ quiescent_FzDwRefIdeal (hFzDwRefIdeal := hFzDwRefIdeal)
    ∧ quiescent_FzDx (hFzDx := hFzDx)
    ∧ quiescent_FzDxIdeal (hFzDxIdeal := hFzDxIdeal)
    ∧ quiescent_FzDxRefIdeal (hFzDxRefIdeal := hFzDxRefIdeal)
    ∧ quiescent_Att (hAtt := hAtt)
    ∧ quiescent_AttIdeal (hAttIdeal := hAttIdeal)
    ∧ quiescent_AttIdeal_pre_real_scores (hAttIdeal := hAttIdeal) (hPre_real_scores := hPre_real_scores)
    ∧ quiescent_AttRefIdeal (hAttRefIdeal := hAttRefIdeal)
    ∧ quiescent_AttRefIdeal_pre_real_scores (hAttRefIdeal := hAttRefIdeal) (hPre_real_scores := hPre_real_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Dw2_Dw2Ideal
    ∧ algebraic_Dw2Ideal_Dw2RefIdeal (hDw2Ideal := hDw2Ideal) (hDw2RefIdeal := hDw2RefIdeal)
    ∧ preserves_Dpre_DpreIdeal
    ∧ algebraic_DpreIdeal_DpreRefIdeal (hDpreIdeal := hDpreIdeal) (hDpreRefIdeal := hDpreRefIdeal)
    ∧ preserves_Dw1_Dw1Ideal
    ∧ algebraic_Dw1Ideal_Dw1RefIdeal (hDw1Ideal := hDw1Ideal) (hDw1RefIdeal := hDw1RefIdeal)
    ∧ preserves_Dn_DnIdeal
    ∧ algebraic_DnIdeal_DnRefIdeal (hDnIdeal := hDnIdeal) (hDnRefIdeal := hDnRefIdeal)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_Kv_KvIdeal
    ∧ algebraic_KvIdeal_KvRefIdeal (hKvIdeal := hKvIdeal) (hKvRefIdeal := hKvRefIdeal)
    ∧ preserves_Query_QueryIdeal
    ∧ algebraic_QueryIdeal_QueryRefIdeal (hQueryIdeal := hQueryIdeal) (hQueryRefIdeal := hQueryRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_QueryDx_QueryDxIdeal
    ∧ algebraic_QueryDxIdeal_QueryDxRefIdeal (hQueryDxIdeal := hQueryDxIdeal) (hQueryDxRefIdeal := hQueryDxRefIdeal)
    ∧ preserves_KvDw_KvDwIdeal
    ∧ algebraic_KvDwIdeal_KvDwRefIdeal (hKvDwIdeal := hKvDwIdeal) (hKvDwRefIdeal := hKvDwRefIdeal)
    ∧ preserves_KvDx_KvDxIdeal
    ∧ algebraic_KvDxIdeal_KvDxRefIdeal (hKvDxIdeal := hKvDxIdeal) (hKvDxRefIdeal := hKvDxRefIdeal)
    ∧ preserves_QkvDw_QkvDwIdeal
    ∧ algebraic_QkvDwIdeal_QkvDwRefIdeal (hQkvDwIdeal := hQkvDwIdeal) (hQkvDwRefIdeal := hQkvDwRefIdeal)
    ∧ preserves_QkvDx_QkvDxIdeal
    ∧ algebraic_QkvDxIdeal_QkvDxRefIdeal (hQkvDxIdeal := hQkvDxIdeal) (hQkvDxRefIdeal := hQkvDxRefIdeal)
    ∧ preserves_Fz_FzIdeal
    ∧ algebraic_FzIdeal_FzRefIdeal (hFzIdeal := hFzIdeal) (hFzRefIdeal := hFzRefIdeal)
    ∧ preserves_FzDw_FzDwIdeal
    ∧ algebraic_FzDwIdeal_FzDwRefIdeal (hFzDwIdeal := hFzDwIdeal) (hFzDwRefIdeal := hFzDwRefIdeal)
    ∧ preserves_FzDx_FzDxIdeal
    ∧ algebraic_FzDxIdeal_FzDxRefIdeal (hFzDxIdeal := hFzDxIdeal) (hFzDxRefIdeal := hFzDxRefIdeal)
    ∧ preserves_Att_AttIdeal
    ∧ algebraic_AttIdeal_AttRefIdeal_pre_real_scores (hAttIdeal := hAttIdeal) (hAttRefIdeal := hAttRefIdeal) (hPre_real_scores := hPre_real_scores)
-- ==== Pre_finite.lean ====
abbrev S4096x2048 : Shape := ⟨2, ![4096, 2048]⟩
abbrev S16x320 : Shape := ⟨2, ![16, 320]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x320 : S_.BroadcastsInDim S16x320 (![] : Fin 0 → Fin S16x320.rank)
  reducesTo_S16x320_S_d0_1 : S16x320.ReducesTo [0, 1] S_

variable [Facts]

def fn_part1 {F : FTy → Type} [FloatOps F] (main_arg4 : FVec F S4096x2048 .f32) (main_v13 : IVec S_ 1) (main_v16 : IVec S16x320 1) : IVec S_ 1 :=
  let main_c_5 : IVec S_ 1 := constantI S_ 1 1#1
  let main_v17 : IVec S_ 1 := (fun x v => Host.reduce IntOp.andi x v reducesTo_S16x320_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S4096x2048 .f32) (main_arg3 : FVec F S16x320 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S16x320 .f32 := Host.absf main_arg3
  let main_cst_4 : FVec F S_ .f32 := constant S_ .f32 0x7F800000#32
  let main_v15 : FVec F S16x320 .f32 := broadcastInDim S16x320 ![] bcast_S_S16x320 main_cst_4
  let main_v16 : IVec S16x320 1 := cmpf .olt main_v14 main_v15
  fn_part1 (F := F) main_arg4 main_v13 main_v16
-- ==== Pre_real_scores.lean ====
abbrev S4096x2048 : Shape := ⟨2, ![4096, 2048]⟩
abbrev S16x320 : Shape := ⟨2, ![16, 320]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x320 : S_.BroadcastsInDim S16x320 (![] : Fin 0 → Fin S16x320.rank)
  reducesTo_S16x320_S_d0_1 : S16x320.ReducesTo [0, 1] S_

variable [Facts]

def fn {F : FTy → Type} [FloatOps F] (main_arg0 : FVec F S4096x2048 .f32) (main_arg1 : FVec F S4096x2048 .f32) (main_arg2 : FVec F S4096x2048 .f32) (main_arg3 : FVec F S16x320 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S16x320 .f32 := Host.absf main_arg3
  let main_cst_2 : FVec F S_ .f32 := constant S_ .f32 0x7F800000#32
  let main_v10 : FVec F S16x320 .f32 := broadcastInDim S16x320 ![] bcast_S_S16x320 main_cst_2
  let main_v11 : IVec S16x320 1 := cmpf .olt main_v9 main_v10
  let main_c_3 : IVec S_ 1 := constantI S_ 1 1#1
  let main_v12 : IVec S_ 1 := (fun x v => Host.reduce IntOp.andi x v reducesTo_S16x320_S_d0_1 h_S_) main_v11 main_c_3
  let main_v13 : IVec S_ 1 := andi main_v8 main_v12
  main_v13
-- ==== Kernel.lean ====
abbrev S4096x2048 : Shape := ⟨2, ![4096, 2048]⟩
abbrev S16x320 : Shape := ⟨2, ![16, 320]⟩
abbrev S2048 : Shape := ⟨1, ![2048]⟩
abbrev S_ : Shape := ⟨0, ![]⟩
abbrev S2048x1 : Shape := ⟨2, ![2048, 1]⟩
abbrev S16x2048 : Shape := ⟨2, ![16, 2048]⟩
abbrev S16x1x2048 : Shape := ⟨3, ![16, 1, 2048]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S16x4096x4096 : Shape := ⟨3, ![16, 4096, 4096]⟩
abbrev S4096x16x128 : Shape := ⟨3, ![4096, 16, 128]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x512x1024 : Shape := ⟨3, ![16, 512, 1024]⟩
abbrev S512x128 : Shape := ⟨2, ![512, 128]⟩
abbrev S1x1x2048 : Shape := ⟨3, ![1, 1, 2048]⟩
abbrev S1x512x1024 : Shape := ⟨3, ![1, 512, 1024]⟩
abbrev S512x1024 : Shape := ⟨2, ![512, 1024]⟩
abbrev S1x2048 : Shape := ⟨2, ![1, 2048]⟩
abbrev S64x2048 : Shape := ⟨2, ![64, 2048]⟩
abbrev S64x1024 : Shape := ⟨2, ![64, 1024]⟩
abbrev S1024x128 : Shape := ⟨2, ![1024, 128]⟩
abbrev S512 : Shape := ⟨1, ![512]⟩
abbrev S512x1 : Shape := ⟨2, ![512, 1]⟩
abbrev S256x128 : Shape := ⟨2, ![256, 128]⟩
abbrev S768x128 : Shape := ⟨2, ![768, 128]⟩
abbrev S256x768 : Shape := ⟨2, ![256, 768]⟩
abbrev S256 : Shape := ⟨1, ![256]⟩
abbrev S256x1 : Shape := ⟨2, ![256, 1]⟩
abbrev S1x256x768 : Shape := ⟨3, ![1, 256, 768]⟩

abbrev nBuf : Space → Nat
  | .hbm => 133
  | .vmem => 27
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S16x320, .f32⟩
  | 4 => ⟨S4096x2048, .f32⟩
  | 5 => ⟨S2048, .i32⟩
  | 6 => ⟨S_, .i32⟩
  | 7 => ⟨S2048, .i32⟩
  | 8 => ⟨S2048, .i1⟩
  | 9 => ⟨S_, .i32⟩
  | 10 => ⟨S2048, .i32⟩
  | 11 => ⟨S2048, .i32⟩
  | 12 => ⟨S2048, .i32⟩
  | 13 => ⟨S2048x1, .i32⟩
  | 14 => ⟨S16x2048, .f32⟩
  | 15 => ⟨S16x1x2048, .f32⟩
  | 16 => ⟨S4096, .i32⟩
  | 17 => ⟨S4096x1, .i32⟩
  | 18 => ⟨S4096, .i32⟩
  | 19 => ⟨S1x4096, .i32⟩
  | 20 => ⟨S4096x4096, .i32⟩
  | 21 => ⟨S4096x4096, .i32⟩
  | 22 => ⟨S4096x4096, .i32⟩
  | 23 => ⟨S_, .i32⟩
  | 24 => ⟨S_, .i32⟩
  | 25 => ⟨S_, .i32⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S_, .i32⟩
  | 32 => ⟨S4096x4096, .i32⟩
  | 33 => ⟨S4096x4096, .i32⟩
  | 34 => ⟨S_, .i32⟩
  | 35 => ⟨S4096x4096, .i32⟩
  | 36 => ⟨S4096x4096, .i1⟩
  | 37 => ⟨S_, .i32⟩
  | 38 => ⟨S4096x4096, .i32⟩
  | 39 => ⟨S4096x4096, .i32⟩
  | 40 => ⟨S4096x4096, .i32⟩
  | 41 => ⟨S4096x4096x1, .i32⟩
  | 42 => ⟨S16x4096x4096, .f32⟩
  | 43 => ⟨S4096x16x128, .f32⟩
  | 44 => ⟨S4096x16x128, .f32⟩
  | 45 => ⟨S4096x16x128, .f32⟩
  | 46 => ⟨S16x4096x4096, .f32⟩
  | 47 => ⟨S_, .f32⟩
  | 48 => ⟨S16x4096x4096, .f32⟩
  | 49 => ⟨S16x4096x4096, .f32⟩
  | 50 => ⟨S16x4096x4096, .f32⟩
  | 51 => ⟨S4096, .i32⟩
  | 52 => ⟨S_, .i32⟩
  | 53 => ⟨S_, .i32⟩
  | 54 => ⟨S4096, .i32⟩
  | 55 => ⟨S4096, .i32⟩
  | 56 => ⟨S4096, .i32⟩
  | 57 => ⟨S_, .i32⟩
  | 58 => ⟨S4096, .i32⟩
  | 59 => ⟨S4096, .i1⟩
  | 60 => ⟨S4096, .i32⟩
  | 61 => ⟨S4096, .i32⟩
  | 62 => ⟨S_, .i32⟩
  | 63 => ⟨S4096, .i32⟩
  | 64 => ⟨S4096, .i1⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S4096, .i32⟩
  | 72 => ⟨S_, .i32⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i1⟩
  | 80 => ⟨S4096, .i32⟩
  | 81 => ⟨S4096, .i32⟩
  | 82 => ⟨S_, .i32⟩
  | 83 => ⟨S4096, .i32⟩
  | 84 => ⟨S4096, .i1⟩
  | 85 => ⟨S4096, .i1⟩
  | 86 => ⟨S_, .i32⟩
  | 87 => ⟨S4096, .i32⟩
  | 88 => ⟨S4096, .i32⟩
  | 89 => ⟨S4096, .i32⟩
  | 90 => ⟨S1x4096, .i32⟩
  | 91 => ⟨S4096x4096, .i32⟩
  | 92 => ⟨S4096x4096, .i32⟩
  | 93 => ⟨S4096x4096, .i32⟩
  | 94 => ⟨S_, .i32⟩
  | 95 => ⟨S4096x4096, .i32⟩
  | 96 => ⟨S4096x4096, .i1⟩
  | 97 => ⟨S_, .i32⟩
  | 98 => ⟨S4096x4096, .i32⟩
  | 99 => ⟨S4096x4096, .i1⟩
  | 100 => ⟨S4096x4096, .i1⟩
  | 101 => ⟨S1x4096x4096, .i1⟩
  | 102 => ⟨S_, .f32⟩
  | 103 => ⟨S_, .f32⟩
  | 104 => ⟨S16x4096x4096, .i1⟩
  | 105 => ⟨S16x4096x4096, .f32⟩
  | 106 => ⟨S16x4096x4096, .f32⟩
  | 107 => ⟨S_, .f32⟩
  | 108 => ⟨S16x4096, .f32⟩
  | 109 => ⟨S_, .f32⟩
  | 110 => ⟨S16x4096, .f32⟩
  | 111 => ⟨S16x4096, .f32⟩
  | 112 => ⟨S16x4096x1, .f32⟩
  | 113 => ⟨S16x4096x4096, .f32⟩
  | 114 => ⟨S16x4096x4096, .f32⟩
  | 115 => ⟨S16x4096x4096, .f32⟩
  | 116 => ⟨S_, .f32⟩
  | 117 => ⟨S16x4096, .f32⟩
  | 118 => ⟨S16x4096x1, .f32⟩
  | 119 => ⟨S16x4096x4096, .f32⟩
  | 120 => ⟨S16x4096x4096, .f32⟩
  | 121 => ⟨S16x128x4096, .f32⟩
  | 122 => ⟨S4096x16x128, .f32⟩
  | 123 => ⟨S4096x2048, .f32⟩
  | 124 => ⟨S4096x2048, .bf16⟩
  | 125 => ⟨S4096x2048, .bf16⟩
  | 126 => ⟨S4096x2048, .bf16⟩
  | 127 => ⟨S4096x2048, .bf16⟩
  | _ => ⟨S4096x2048, .f32⟩

abbrev hbmTy0_1 (i : Nat) : BufTy := match i % 128 with
  | 0 => ⟨S4096x2048, .bf16⟩
  | 1 => ⟨S4096x2048, .f32⟩
  | 2 => ⟨S4096x2048, .f32⟩
  | 3 => ⟨S4096x2048, .f32⟩
  | 4 => ⟨S16x512x1024, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S1x1x2048, .f32⟩
  | .local _ .vmem, ⟨11, _⟩ => ⟨S1x1x2048, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x512x1024, .f32⟩
  | .local _ .vmem, ⟨23, _⟩ => ⟨S1x512x1024, .f32⟩
  | .local _ .vmem, ⟨24, _⟩ => ⟨S512x1024, .f32⟩
  | .local _ .vmem, ⟨25, _⟩ => ⟨S512x128, .f32⟩
  | .local _ .vmem, ⟨26, _⟩ => ⟨S512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_8 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_c : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_0 : Ref sig .tc := ⟨.hbm, 86, rfl⟩
abbrev main_call2_v12 : Ref sig .tc := ⟨.hbm, 87, rfl⟩
abbrev main_call2_v13 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_c_9 : Ref sig .tc := ⟨.hbm, 94, rfl⟩
abbrev main_v41 : Ref sig .tc := ⟨.hbm, 95, rfl⟩
abbrev main_v42 : Ref sig .tc := ⟨.hbm, 96, rfl⟩
abbrev main_c_10 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_11 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v47 : Ref sig .tc := ⟨.hbm, 106, rfl⟩
abbrev main_cst_12 : Ref sig .tc := ⟨.hbm, 107, rfl⟩
abbrev main_v48 : Ref sig .tc := ⟨.hbm, 108, rfl⟩
abbrev main_cst_13 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_14 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67_0 : Ref sig .tc := ⟨.hbm, 129, rfl⟩
abbrev main_v67_1 : Ref sig .tc := ⟨.hbm, 130, rfl⟩
abbrev main_v67_2 : Ref sig .tc := ⟨.hbm, 131, rfl⟩
abbrev main_v67_3 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c6_i32 : BitVec 32 := 6#32
  let v1 : BitVec 32 := Scalar.maxsi c0_i32 v0
  let v2 : BitVec 32 := Scalar.minsi c6_i32 v1
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c6_i32 : BitVec 32 := 6#32
  let v1 : BitVec 32 := Scalar.maxsi c0_i32 v0
  let v2 : BitVec 32 := Scalar.minsi c6_i32 v1
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S16x320 : Shape := ⟨2, ![16, 320]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S16x4096x4096 : Shape := ⟨3, ![16, 4096, 4096]⟩
abbrev S4096x16x128 : Shape := ⟨3, ![4096, 16, 128]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S16x4096x4608 : Shape := ⟨3, ![16, 4096, 4608]⟩
abbrev S16x512x1024 : Shape := ⟨3, ![16, 512, 1024]⟩

abbrev nBuf : Space → Nat
  | .hbm => 192
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S16x320, .f32⟩
  | 4 => ⟨S4096x2048, .f32⟩
  | 5 => ⟨S4096, .i32⟩
  | 6 => ⟨S4096x1, .i32⟩
  | 7 => ⟨S4096, .i32⟩
  | 8 => ⟨S1x4096, .i32⟩
  | 9 => ⟨S4096x4096, .i32⟩
  | 10 => ⟨S4096x4096, .i32⟩
  | 11 => ⟨S4096x4096, .i32⟩
  | 12 => ⟨S_, .i32⟩
  | 13 => ⟨S_, .i32⟩
  | 14 => ⟨S_, .i32⟩
  | 15 => ⟨S4096x4096, .i32⟩
  | 16 => ⟨S4096x4096, .i32⟩
  | 17 => ⟨S_, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S_, .i32⟩
  | 24 => ⟨S4096x4096, .i32⟩
  | 25 => ⟨S4096x4096, .i1⟩
  | 26 => ⟨S_, .i32⟩
  | 27 => ⟨S4096x4096, .i32⟩
  | 28 => ⟨S4096x4096, .i32⟩
  | 29 => ⟨S4096x4096, .i32⟩
  | 30 => ⟨S4096x4096x1, .i32⟩
  | 31 => ⟨S16x4096x4096, .f32⟩
  | 32 => ⟨S4096x16x128, .f32⟩
  | 33 => ⟨S4096x16x128, .f32⟩
  | 34 => ⟨S4096x16x128, .f32⟩
  | 35 => ⟨S16x4096x4096, .f32⟩
  | 36 => ⟨S_, .f32⟩
  | 37 => ⟨S16x4096x4096, .f32⟩
  | 38 => ⟨S16x4096x4096, .f32⟩
  | 39 => ⟨S16x4096x4096, .f32⟩
  | 40 => ⟨S4096, .i32⟩
  | 41 => ⟨S_, .i32⟩
  | 42 => ⟨S_, .i32⟩
  | 43 => ⟨S4096, .i32⟩
  | 44 => ⟨S4096, .i32⟩
  | 45 => ⟨S4096, .i32⟩
  | 46 => ⟨S_, .i32⟩
  | 47 => ⟨S4096, .i32⟩
  | 48 => ⟨S4096, .i1⟩
  | 49 => ⟨S4096, .i32⟩
  | 50 => ⟨S4096, .i32⟩
  | 51 => ⟨S_, .i32⟩
  | 52 => ⟨S4096, .i32⟩
  | 53 => ⟨S4096, .i1⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S4096, .i32⟩
  | 61 => ⟨S_, .i32⟩
  | 62 => ⟨S_, .i32⟩
  | 63 => ⟨S4096, .i32⟩
  | 64 => ⟨S4096, .i32⟩
  | 65 => ⟨S4096, .i32⟩
  | 66 => ⟨S_, .i32⟩
  | 67 => ⟨S4096, .i32⟩
  | 68 => ⟨S4096, .i1⟩
  | 69 => ⟨S4096, .i32⟩
  | 70 => ⟨S4096, .i32⟩
  | 71 => ⟨S_, .i32⟩
  | 72 => ⟨S4096, .i32⟩
  | 73 => ⟨S4096, .i1⟩
  | 74 => ⟨S4096, .i1⟩
  | 75 => ⟨S_, .i32⟩
  | 76 => ⟨S4096, .i32⟩
  | 77 => ⟨S4096, .i32⟩
  | 78 => ⟨S4096, .i32⟩
  | 79 => ⟨S1x4096, .i32⟩
  | 80 => ⟨S4096x4096, .i32⟩
  | 81 => ⟨S4096x4096, .i32⟩
  | 82 => ⟨S4096x4096, .i32⟩
  | 83 => ⟨S_, .i32⟩
  | 84 => ⟨S4096x4096, .i32⟩
  | 85 => ⟨S4096x4096, .i1⟩
  | 86 => ⟨S_, .i32⟩
  | 87 => ⟨S4096x4096, .i32⟩
  | 88 => ⟨S4096x4096, .i1⟩
  | 89 => ⟨S4096x4096, .i1⟩
  | 90 => ⟨S1x4096x4096, .i1⟩
  | 91 => ⟨S_, .f32⟩
  | 92 => ⟨S_, .f32⟩
  | 93 => ⟨S16x4096x4096, .i1⟩
  | 94 => ⟨S16x4096x4096, .f32⟩
  | 95 => ⟨S16x4096x4096, .f32⟩
  | 96 => ⟨S_, .f32⟩
  | 97 => ⟨S16x4096x4096, .f32⟩
  | 98 => ⟨S_, .f32⟩
  | 99 => ⟨S16x4096, .f32⟩
  | 100 => ⟨S16x4096x1, .f32⟩
  | 101 => ⟨S16x4096x4096, .f32⟩
  | 102 => ⟨S16x4096x4096, .i1⟩
  | 103 => ⟨S16x4096x4096, .f32⟩
  | 104 => ⟨S_, .f32⟩
  | 105 => ⟨S16x4096, .f32⟩
  | 106 => ⟨S_, .f32⟩
  | 107 => ⟨S16x4096, .f32⟩
  | 108 => ⟨S16x4096, .f32⟩
  | 109 => ⟨S_, .f32⟩
  | 110 => ⟨S16x4096, .f32⟩
  | 111 => ⟨S16x4096, .i1⟩
  | 112 => ⟨S_, .f32⟩
  | 113 => ⟨S16x4096, .f32⟩
  | 114 => ⟨S16x4096, .i1⟩
  | 115 => ⟨S_, .f32⟩
  | 116 => ⟨S16x4096, .f32⟩
  | 117 => ⟨S_, .f32⟩
  | 118 => ⟨S16x4096, .f32⟩
  | 119 => ⟨S_, .f32⟩
  | 120 => ⟨S16x4096, .f32⟩
  | 121 => ⟨S16x4096, .f32⟩
  | 122 => ⟨S16x4096, .f32⟩
  | 123 => ⟨S16x4096x1, .f32⟩
  | 124 => ⟨S16x4096x4096, .f32⟩
  | 125 => ⟨S16x4096x4096, .f32⟩
  | 126 => ⟨S16x4096x4096, .f32⟩
  | 127 => ⟨S_, .f32⟩
  | _ => ⟨S4096x2048, .f32⟩

abbrev hbmTy0_1 (i : Nat) : BufTy := match i % 128 with
  | 0 => ⟨S16x4096, .f32⟩
  | 1 => ⟨S16x4096x1, .f32⟩
  | 2 => ⟨S16x4096x4096, .f32⟩
  | 3 => ⟨S16x4096x4096, .f32⟩
  | 4 => ⟨S16x4096x1, .f32⟩
  | 5 => ⟨S_, .f32⟩
  | 6 => ⟨S16x4096x1, .f32⟩
  | 7 => ⟨S16x4096x1, .f32⟩
  | 8 => ⟨S16x128x4096, .f32⟩
  | 9 => ⟨S4096x16x128, .f32⟩
  | 10 => ⟨S4096x2048, .f32⟩
  | 11 => ⟨S4096x16x128, .f32⟩
  | 12 => ⟨S16x128x4096, .f32⟩
  | 13 => ⟨S16x4096x4096, .f32⟩
  | 14 => ⟨S16x128x4096, .f32⟩
  | 15 => ⟨S4096x16x128, .f32⟩
  | 16 => ⟨S16x4096x4096, .f32⟩
  | 17 => ⟨S16x4096x4096, .f32⟩
  | 18 => ⟨S16x4096x4096, .f32⟩
  | 19 => ⟨S_, .f32⟩
  | 20 => ⟨S16x4096, .f32⟩
  | 21 => ⟨S16x4096x1, .f32⟩
  | 22 => ⟨S16x4096x1, .f32⟩
  | 23 => ⟨S16x4096x4096, .f32⟩
  | 24 => ⟨S16x4096x4096, .f32⟩
  | 25 => ⟨S_, .f32⟩
  | 26 => ⟨S16x4096, .f32⟩
  | 27 => ⟨S16x4096x4096, .f32⟩
  | 28 => ⟨S16x4096x4096, .f32⟩
  | 29 => ⟨S16x4096x4096, .f32⟩
  | 30 => ⟨S_, .f32⟩
  | 31 => ⟨S16x4096x4096, .f32⟩
  | 32 => ⟨S16x4096x4096, .f32⟩
  | 33 => ⟨S_, .f32⟩
  | 34 => ⟨S16x4096x4096, .f32⟩
  | 35 => ⟨S16x4096x4096, .f32⟩
  | 36 => ⟨S16x4096x128, .f32⟩
  | 37 => ⟨S4096x16x128, .f32⟩
  | 38 => ⟨S16x4096x128, .f32⟩
  | 39 => ⟨S4096x16x128, .f32⟩
  | 40 => ⟨S4096x2048, .f32⟩
  | 41 => ⟨S4096x2048, .f32⟩
  | 42 => ⟨S4096x2048, .f32⟩
  | 43 => ⟨S_, .i32⟩
  | 44 => ⟨S_, .f32⟩
  | 45 => ⟨S16x4096x4608, .f32⟩
  | 46 => ⟨S16x512x1024, .f32⟩
  | 47 => ⟨S_, .f32⟩
  | 48 => ⟨S16x512x1024, .f32⟩
  | 49 => ⟨S16x512x1024, .f32⟩
  | 50 => ⟨S16x512x1024, .f32⟩
  | 51 => ⟨S16x512x1024, .f32⟩
  | 52 => ⟨S16x512x1024, .f32⟩
  | 53 => ⟨S16x512x1024, .f32⟩
  | 54 => ⟨S16x512x1024, .f32⟩
  | 55 => ⟨S16x512x1024, .f32⟩
  | 56 => ⟨S16x512x1024, .f32⟩
  | 57 => ⟨S16x512x1024, .f32⟩
  | 58 => ⟨S16x512x1024, .f32⟩
  | 59 => ⟨S16x512x1024, .f32⟩
  | 60 => ⟨S16x512x1024, .f32⟩
  | 61 => ⟨S16x512x1024, .f32⟩
  | 62 => ⟨S16x512x1024, .f32⟩
  | 63 => ⟨S16x512x1024, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_c_6 : Ref sig .tc := ⟨.hbm, 83, rfl⟩
abbrev main_v33 : Ref sig .tc := ⟨.hbm, 84, rfl⟩
abbrev main_v34 : Ref sig .tc := ⟨.hbm, 85, rfl⟩
abbrev main_c_7 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_cst_8 : Ref sig .tc := ⟨.hbm, 91, rfl⟩
abbrev main_call3_v0 : Ref sig .tc := ⟨.hbm, 92, rfl⟩
abbrev main_v39_1 : Ref sig .tc := ⟨.hbm, 93, rfl⟩
abbrev main_call3_v2 : Ref sig .tc := ⟨.hbm, 94, rfl⟩
abbrev main_v39_0 : Ref sig .tc := ⟨.hbm, 95, rfl⟩
abbrev main_call3_cst : Ref sig .tc := ⟨.hbm, 96, rfl⟩
abbrev main_v39_2 : Ref sig .tc := ⟨.hbm, 97, rfl⟩
abbrev main_cst_9 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_10 : Ref sig .tc := ⟨.hbm, 104, rfl⟩
abbrev main_v45 : Ref sig .tc := ⟨.hbm, 105, rfl⟩
abbrev main_cst_11 : Ref sig .tc := ⟨.hbm, 106, rfl⟩
abbrev main_v46 : Ref sig .tc := ⟨.hbm, 107, rfl⟩
abbrev main_v47 : Ref sig .tc := ⟨.hbm, 108, rfl⟩
abbrev main_cst_12 : Ref sig .tc := ⟨.hbm, 109, rfl⟩
abbrev main_v48 : Ref sig .tc := ⟨.hbm, 110, rfl⟩
abbrev main_v49 : Ref sig .tc := ⟨.hbm, 111, rfl⟩
abbrev main_cst_13 : Ref sig .tc := ⟨.hbm, 112, rfl⟩
abbrev main_v50 : Ref sig .tc := ⟨.hbm, 113, rfl⟩
abbrev main_v51 : Ref sig .tc := ⟨.hbm, 114, rfl⟩
abbrev main_cst_14 : Ref sig .tc := ⟨.hbm, 115, rfl⟩
abbrev main_v52 : Ref sig .tc := ⟨.hbm, 116, rfl⟩
abbrev main_cst_15 : Ref sig .tc := ⟨.hbm, 117, rfl⟩
abbrev main_v53 : Ref sig .tc := ⟨.hbm, 118, rfl⟩
abbrev main_cst_16 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_cst_17 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_cst_18 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_cst_19 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_cst_20 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_call4_cst : Ref sig .tc := ⟨.hbm, 158, rfl⟩
abbrev main_call4_v0 : Ref sig .tc := ⟨.hbm, 159, rfl⟩
abbrev main_v88 : Ref sig .tc := ⟨.hbm, 160, rfl⟩
abbrev main_cst_21 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_c_22 : Ref sig .tc := ⟨.hbm, 171, rfl⟩
abbrev main_call5_v0 : Ref sig .tc := ⟨.hbm, 172, rfl⟩
abbrev main_v98 : Ref sig .tc := ⟨.hbm, 173, rfl⟩
abbrev main_v99 : Ref sig .tc := ⟨.hbm, 174, rfl⟩
abbrev main_cst_23 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩

abbrev nD : Nat := 1
abbrev τ : Topo := Topo.v7x

variable {F : FTy → Type} [FloatOps F]
-- ==== Up.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S8x2048x1024, .f32⟩
  | .hbm, ⟨2, _⟩ => ⟨S4096x2048, .bf16⟩
  | .hbm, ⟨3, _⟩ => ⟨S8x2048x1024, .bf16⟩
  | .hbm, ⟨4, _⟩ => ⟨S4096x8192, .bf16⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2048x1024, .f32⟩
  | .hbm, ⟨2, _⟩ => ⟨S2048x8x1024, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x8192, .f32⟩
  | .hbm, ⟨10, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S4096x2048 : Shape := ⟨2, ![4096, 2048]⟩
abbrev S8x2048x1024 : Shape := ⟨3, ![8, 2048, 1024]⟩
abbrev S8192x2048 : Shape := ⟨2, ![8192, 2048]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S8x2048x1024, .f32⟩
  | .hbm, ⟨3, _⟩ => ⟨S8192x2048, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x8192, .f32⟩
  | .hbm, ⟨12, _⟩ => ⟨S4096x8192, .bf16⟩
  | .hbm, ⟨13, _⟩ => ⟨S8192x2048, .bf16⟩
  | .hbm, ⟨14, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x2048 : Shape := ⟨2, ![4096, 2048]⟩
abbrev S8x2048x1024 : Shape := ⟨3, ![8, 2048, 1024]⟩
abbrev S8192x2048 : Shape := ⟨2, ![8192, 2048]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S8x2048x1024, .f32⟩
  | .hbm, ⟨3, _⟩ => ⟨S8192x2048, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x2048, .f32⟩
  | .hbm, ⟨12, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Dw2.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S8x2048x1024, .f32⟩
  | .hbm, ⟨2, _⟩ => ⟨S4096x2048, .f32⟩
  | .hbm, ⟨3, _⟩ => ⟨S2048x8x1024, .f32⟩
  | .hbm, ⟨4, _⟩ => ⟨S2048x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x8192, .f32⟩
  | .hbm, ⟨11, _⟩ => ⟨S4096x8192, .bf16⟩
  | .hbm, ⟨12, _⟩ => ⟨S4096x2048, .bf16⟩
  | .hbm, ⟨13, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2RefIdeal.lean ====
abbrev S4096x2048 : Shape := ⟨2, ![4096, 2048]⟩
abbrev S8x2048x1024 : Shape := ⟨3, ![8, 2048, 1024]⟩
abbrev S_ : Shape := ⟨0, ![]⟩
abbrev S8192x2048 : Shape := ⟨2, ![8192, 2048]⟩
abbrev S2048x8x1024 : Shape := ⟨3, ![2048, 8, 1024]⟩
abbrev S2048x8192 : Shape := ⟨2, ![2048, 8192]⟩
abbrev S4096x8192 : Shape := ⟨2, ![4096, 8192]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2048x1024, .f32⟩
  | .hbm, ⟨2, _⟩ => ⟨S4096x2048, .f32⟩
  | .hbm, ⟨3, _⟩ => ⟨S_, .f32⟩
  | .hbm, ⟨4, _⟩ => ⟨S8192x2048, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S2048x8192, .f32⟩
  | .hbm, ⟨14, _⟩ => ⟨S8192x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Dpre.lean ====
abbrev S4096x2048 : Shape := ⟨2, ![4096, 2048]⟩
abbrev S8x2048x1024 : Shape := ⟨3, ![8, 2048, 1024]⟩
abbrev S8192x2048 : Shape := ⟨2, ![8192, 2048]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 16
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S8x2048x1024, .f32⟩
  | .hbm, ⟨2, _⟩ => ⟨S8192x2048, .f32⟩
  | .hbm, ⟨3, _⟩ => ⟨S4096x2048, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x8192, .f32⟩
  | .hbm, ⟨12, _⟩ => ⟨S4096x8192, .bf16⟩
  | .hbm, ⟨13, _⟩ => ⟨S4096x2048, .bf16⟩
  | .hbm, ⟨14, _⟩ => ⟨S8192x2048, .bf16⟩
  | .hbm, ⟨15, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DpreRefIdeal.lean ====
abbrev S4096x2048 : Shape := ⟨2, ![4096, 2048]⟩
abbrev S8x2048x1024 : Shape := ⟨3, ![8, 2048, 1024]⟩
abbrev S8192x2048 : Shape := ⟨2, ![8192, 2048]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2048x1024, .f32⟩
  | .hbm, ⟨2, _⟩ => ⟨S8192x2048, .f32⟩
  | .hbm, ⟨3, _⟩ => ⟨S4096x2048, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Dw1.lean ====
abbrev S4096x2048 : Shape := ⟨2, ![4096, 2048]⟩
abbrev S8x2048x1024 : Shape := ⟨3, ![8, 2048, 1024]⟩
abbrev S8192x2048 : Shape := ⟨2, ![8192, 2048]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S8x2048x1024, .f32⟩
  | .hbm, ⟨2, _⟩ => ⟨S8192x2048, .f32⟩
  | .hbm, ⟨3, _⟩ => ⟨S4096x2048, .f32⟩
  | .hbm, ⟨4, _⟩ => ⟨S4096x2048, .bf16⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S2048x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S4096x8192, .bf16⟩
  | .hbm, ⟨18, _⟩ => ⟨S8x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw1RefIdeal.lean ====
abbrev S4096x2048 : Shape := ⟨2, ![4096, 2048]⟩
abbrev S8x2048x1024 : Shape := ⟨3, ![8, 2048, 1024]⟩
abbrev S8192x2048 : Shape := ⟨2, ![8192, 2048]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2048x1024, .f32⟩
  | .hbm, ⟨2, _⟩ => ⟨S8192x2048, .f32⟩
  | .hbm, ⟨3, _⟩ => ⟨S4096x2048, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S8192x2048, .f32⟩
  | .hbm, ⟨25, _⟩ => ⟨S2048x8192, .f32⟩
  | .hbm, ⟨26, _⟩ => ⟨S2048x8x1024, .f32⟩
  | .hbm, ⟨27, _⟩ => ⟨S8x2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Dn.lean ====
abbrev S4096x2048 : Shape := ⟨2, ![4096, 2048]⟩
abbrev S8x2048x1024 : Shape := ⟨3, ![8, 2048, 1024]⟩
abbrev S8192x2048 : Shape := ⟨2, ![8192, 2048]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S8x2048x1024, .f32⟩
  | .hbm, ⟨2, _⟩ => ⟨S8192x2048, .f32⟩
  | .hbm, ⟨3, _⟩ => ⟨S4096x2048, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S2048x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S4096x8192, .bf16⟩
  | .hbm, ⟨17, _⟩ => ⟨S8x2048x1024, .bf16⟩
  | .hbm, ⟨18, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnRefIdeal.lean ====
abbrev S4096x2048 : Shape := ⟨2, ![4096, 2048]⟩
abbrev S8x2048x1024 : Shape := ⟨3, ![8, 2048, 1024]⟩
abbrev S8192x2048 : Shape := ⟨2, ![8192, 2048]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2048x1024, .f32⟩
  | .hbm, ⟨2, _⟩ => ⟨S8192x2048, .f32⟩
  | .hbm, ⟨3, _⟩ => ⟨S4096x2048, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Qkv.lean ====
abbrev S4096x2048 : Shape := ⟨2, ![4096, 2048]⟩
abbrev S2048x6160 : Shape := ⟨2, ![2048, 6160]⟩
abbrev S6160x2048 : Shape := ⟨2, ![6160, 2048]⟩
abbrev S4096x6144 : Shape := ⟨2, ![4096, 6144]⟩
abbrev S1024x2048 : Shape := ⟨2, ![1024, 2048]⟩
abbrev S768x2048 : Shape := ⟨2, ![768, 2048]⟩
abbrev S1024x768 : Shape := ⟨2, ![1024, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x2048, .bf16⟩
  | .hbm, ⟨3, _⟩ => ⟨S6160x2048, .f32⟩
  | .hbm, ⟨4, _⟩ => ⟨S6160x2048, .bf16⟩
  | .hbm, ⟨5, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x2048 : Shape := ⟨2, ![4096, 2048]⟩
abbrev S2048x6160 : Shape := ⟨2, ![2048, 6160]⟩
abbrev S4096x6160 : Shape := ⟨2, ![4096, 6160]⟩
abbrev S4096x6144 : Shape := ⟨2, ![4096, 6144]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x6160, .f32⟩
  | .hbm, ⟨3, _⟩ => ⟨S4096x6144, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kv.lean ====
abbrev S4096x2048 : Shape := ⟨2, ![4096, 2048]⟩
abbrev S8x2048x512 : Shape := ⟨3, ![8, 2048, 512]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S8x2048x512, .f32⟩
  | .hbm, ⟨2, _⟩ => ⟨S4096x2048, .bf16⟩
  | .hbm, ⟨3, _⟩ => ⟨S8x2048x512, .bf16⟩
  | .hbm, ⟨4, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S4096x2048 : Shape := ⟨2, ![4096, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2048x512, .f32⟩
  | .hbm, ⟨2, _⟩ => ⟨S2048x8x512, .f32⟩
  | .hbm, ⟨3, _⟩ => ⟨S2048x4096, .f32⟩
  | .hbm, ⟨4, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Query.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRefIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDx.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QueryDx.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDxRefIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KvDw.lean ====
abbrev S4096x2048 : Shape := ⟨2, ![4096, 2048]⟩
abbrev S4096x4096 : Shape := ⟨2, ![4096, 4096]⟩
abbrev S8x2048x512 : Shape := ⟨3, ![8, 2048, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .bf16⟩
  | .hbm, ⟨3, _⟩ => ⟨S4096x4096, .bf16⟩
  | .hbm, ⟨4, _⟩ => ⟨S8x2048x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S4096x2048 : Shape := ⟨2, ![4096, 2048]⟩
abbrev S4096x4096 : Shape := ⟨2, ![4096, 4096]⟩
abbrev S_ : Shape := ⟨0, ![]⟩
abbrev S8x2048x512 : Shape := ⟨3, ![8, 2048, 512]⟩
abbrev S2048x8x512 : Shape := ⟨3, ![2048, 8, 512]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S_, .f32⟩
  | .hbm, ⟨3, _⟩ => ⟨S8x2048x512, .f32⟩
  | .hbm, ⟨4, _⟩ => ⟨S2048x8x512, .f32⟩
  | .hbm, ⟨5, _⟩ => ⟨S2048x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x8x512, .f32⟩
  | .hbm, ⟨10, _⟩ => ⟨S8x2048x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvDx.lean ====
abbrev S8x2048x512 : Shape := ⟨3, ![8, 2048, 512]⟩
abbrev S4096x4096 : Shape := ⟨2, ![4096, 4096]⟩
abbrev S4096x2048 : Shape := ⟨2, ![4096, 2048]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048x512, .f32⟩
  | .hbm, ⟨1, _⟩ => ⟨S4096x4096, .f32⟩
  | .hbm, ⟨2, _⟩ => ⟨S4096x4096, .bf16⟩
  | .hbm, ⟨3, _⟩ => ⟨S8x2048x512, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxRefIdeal.lean ====
abbrev S8x2048x512 : Shape := ⟨3, ![8, 2048, 512]⟩
abbrev S4096x4096 : Shape := ⟨2, ![4096, 4096]⟩
abbrev S_ : Shape := ⟨0, ![]⟩
abbrev S4096x2048 : Shape := ⟨2, ![4096, 2048]⟩
abbrev S2048x8x512 : Shape := ⟨3, ![2048, 8, 512]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S4096x4096, .f32⟩
  | .hbm, ⟨2, _⟩ => ⟨S_, .f32⟩
  | .hbm, ⟨3, _⟩ => ⟨S4096x2048, .f32⟩
  | .hbm, ⟨4, _⟩ => ⟨S2048x8x512, .f32⟩
  | .hbm, ⟨5, _⟩ => ⟨S2048x4096, .f32⟩
  | .hbm, ⟨6, _⟩ => ⟨S4096x4096, .f32⟩
  | .hbm, ⟨7, _⟩ => ⟨S4096x2048, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QkvDw.lean ====
abbrev S4096x2048 : Shape := ⟨2, ![4096, 2048]⟩
abbrev S4096x6144 : Shape := ⟨2, ![4096, 6144]⟩
abbrev S6144x2048 : Shape := ⟨2, ![6144, 2048]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4096x6144, .bf16⟩
  | .hbm, ⟨3, _⟩ => ⟨S4096x2048, .bf16⟩
  | .hbm, ⟨4, _⟩ => ⟨S6144x2048, .f32⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S4096x2048 : Shape := ⟨2, ![4096, 2048]⟩
abbrev S4096x6144 : Shape := ⟨2, ![4096, 6144]⟩
abbrev S_ : Shape := ⟨0, ![]⟩
abbrev S2048x6160 : Shape := ⟨2, ![2048, 6160]⟩
abbrev S4096x6160 : Shape := ⟨2, ![4096, 6160]⟩
abbrev S6160x2048 : Shape := ⟨2, ![6160, 2048]⟩
abbrev S2048x6144 : Shape := ⟨2, ![2048, 6144]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S_, .f32⟩
  | .hbm, ⟨3, _⟩ => ⟨S2048x6160, .f32⟩
  | .hbm, ⟨4, _⟩ => ⟨S4096x6160, .f32⟩
  | .hbm, ⟨5, _⟩ => ⟨S4096x6144, .f32⟩
  | .hbm, ⟨6, _⟩ => ⟨S_, .f32⟩
  | .hbm, ⟨7, _⟩ => ⟨S4096x6160, .f32⟩
  | .hbm, ⟨8, _⟩ => ⟨S6160x2048, .f32⟩
  | .hbm, ⟨9, _⟩ => ⟨S2048x6160, .f32⟩
  | .hbm, ⟨10, _⟩ => ⟨S2048x6144, .f32⟩
  | .hbm, ⟨11, _⟩ => ⟨S6144x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== QkvDx.lean ====
abbrev S2048x6160 : Shape := ⟨2, ![2048, 6160]⟩
abbrev S4096x6144 : Shape := ⟨2, ![4096, 6144]⟩
abbrev S6160x2048 : Shape := ⟨2, ![6160, 2048]⟩
abbrev S4096x2048 : Shape := ⟨2, ![4096, 2048]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x6160, .f32⟩
  | .hbm, ⟨1, _⟩ => ⟨S4096x6144, .f32⟩
  | .hbm, ⟨2, _⟩ => ⟨S4096x6144, .bf16⟩
  | .hbm, ⟨3, _⟩ => ⟨S6160x2048, .f32⟩
  | .hbm, ⟨4, _⟩ => ⟨S6160x2048, .bf16⟩
  | .hbm, ⟨5, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxRefIdeal.lean ====
abbrev S2048x6160 : Shape := ⟨2, ![2048, 6160]⟩
abbrev S4096x6144 : Shape := ⟨2, ![4096, 6144]⟩
abbrev S_ : Shape := ⟨0, ![]⟩
abbrev S4096x2048 : Shape := ⟨2, ![4096, 2048]⟩
abbrev S4096x6160 : Shape := ⟨2, ![4096, 6160]⟩

abbrev nBuf : Space → Nat
  | .hbm => 9
  | .vmem => 0
  | .smem => 0
  | _ => 0

abbrev bufTy : (tb : Table) → Fin (tcTables nBuf tb) → BufTy
  | .hbm, ⟨0, _⟩ => ⟨S2048x6160, .f32⟩
  | .hbm, ⟨1, _⟩ => ⟨S4096x6144, .f32⟩
  | .hbm, ⟨2, _⟩ => ⟨S_, .f32⟩
  | .hbm, ⟨3, _⟩ => ⟨S4096x2048, .f32⟩
  | .hbm, ⟨4, _⟩ => ⟨S4096x6160, .f32⟩
  | .hbm, ⟨5, _⟩ => ⟨S4096x6144, .f32⟩
  | .hbm, ⟨6, _⟩ => ⟨S_, .f32⟩
  | .hbm, ⟨7, _⟩ => ⟨S4096x6160, .f32⟩
  | .hbm, ⟨8, _⟩ => ⟨S4096x2048, .f32⟩
  | _, _ => ⟨S2048x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Fz.lean ====
abbrev S4096x2048 : Shape := ⟨2, ![4096, 2048]⟩
abbrev S2048x6160 : Shape := ⟨2, ![2048, 6160]⟩
abbrev S6160x2048 : Shape := ⟨2, ![6160, 2048]⟩
abbrev S16x2048 : Shape := ⟨2, ![16, 2048]⟩
abbrev S_ : Shape := ⟨0, ![]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 10
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x2048, .bf16⟩
  | .hbm, ⟨3, _⟩ => ⟨S6160x2048, .f32⟩
  | .hbm, ⟨4, _⟩ => ⟨S6160x2048, .bf16⟩
  | .hbm, ⟨5, _⟩ => ⟨S16x2048, .bf16⟩
  | .hbm, ⟨6, _⟩ => ⟨S_, .i32⟩
  | .hbm, ⟨7, _⟩ => ⟨S_, .bf16⟩
  | .hbm, ⟨8, _⟩ => ⟨S128x2048, .bf16⟩
  | .hbm, ⟨9, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FzRefIdeal.lean ====
abbrev S4096x2048 : Shape := ⟨2, ![4096, 2048]⟩
abbrev S2048x6160 : Shape := ⟨2, ![2048, 6160]⟩
abbrev S4096x6160 : Shape := ⟨2, ![4096, 6160]⟩
abbrev S4096x16 : Shape := ⟨2, ![4096, 16]⟩
abbrev S_ : Shape := ⟨0, ![]⟩
abbrev S4096x128 : Shape := ⟨2, ![4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x6160, .f32⟩
  | .hbm, ⟨3, _⟩ => ⟨S4096x16, .f32⟩
  | .hbm, ⟨4, _⟩ => ⟨S_, .i32⟩
  | .hbm, ⟨5, _⟩ => ⟨S_, .f32⟩
  | .hbm, ⟨6, _⟩ => ⟨S4096x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== FzDw.lean ====
abbrev S4096x2048 : Shape := ⟨2, ![4096, 2048]⟩
abbrev S4096x16 : Shape := ⟨2, ![4096, 16]⟩
abbrev S_ : Shape := ⟨0, ![]⟩
abbrev S4096x128 : Shape := ⟨2, ![4096, 128]⟩
abbrev S128x2048 : Shape := ⟨2, ![128, 2048]⟩
abbrev S2048x128 : Shape := ⟨2, ![2048, 128]⟩
abbrev S2048x1024 : Shape := ⟨2, ![2048, 1024]⟩
abbrev S128x1024 : Shape := ⟨2, ![128, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x16, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S4096x128, .bf16⟩
  | .hbm, ⟨6, _⟩ => ⟨S4096x2048, .bf16⟩
  | .hbm, ⟨7, _⟩ => ⟨S128x2048, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FzDwRefIdeal.lean ====
abbrev S4096x2048 : Shape := ⟨2, ![4096, 2048]⟩
abbrev S4096x16 : Shape := ⟨2, ![4096, 16]⟩
abbrev S_ : Shape := ⟨0, ![]⟩
abbrev S2048x6160 : Shape := ⟨2, ![2048, 6160]⟩
abbrev S4096x6160 : Shape := ⟨2, ![4096, 6160]⟩
abbrev S6160x2048 : Shape := ⟨2, ![6160, 2048]⟩
abbrev S2048x16 : Shape := ⟨2, ![2048, 16]⟩
abbrev S16x2048 : Shape := ⟨2, ![16, 2048]⟩
abbrev S128x2048 : Shape := ⟨2, ![128, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x16, .f32⟩
  | .hbm, ⟨2, _⟩ => ⟨S_, .f32⟩
  | .hbm, ⟨3, _⟩ => ⟨S2048x6160, .f32⟩
  | .hbm, ⟨4, _⟩ => ⟨S4096x6160, .f32⟩
  | .hbm, ⟨5, _⟩ => ⟨S4096x16, .f32⟩
  | .hbm, ⟨6, _⟩ => ⟨S_, .f32⟩
  | .hbm, ⟨7, _⟩ => ⟨S4096x6160, .f32⟩
  | .hbm, ⟨8, _⟩ => ⟨S6160x2048, .f32⟩
  | .hbm, ⟨9, _⟩ => ⟨S2048x6160, .f32⟩
  | .hbm, ⟨10, _⟩ => ⟨S2048x16, .f32⟩
  | .hbm, ⟨11, _⟩ => ⟨S16x2048, .f32⟩
  | .hbm, ⟨12, _⟩ => ⟨S_, .i32⟩
  | .hbm, ⟨13, _⟩ => ⟨S_, .f32⟩
  | .hbm, ⟨14, _⟩ => ⟨S128x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== FzDx.lean ====
abbrev S4096x2048 : Shape := ⟨2, ![4096, 2048]⟩
abbrev S2048x6160 : Shape := ⟨2, ![2048, 6160]⟩
abbrev S4096x16 : Shape := ⟨2, ![4096, 16]⟩
abbrev S_ : Shape := ⟨0, ![]⟩
abbrev S4096x128 : Shape := ⟨2, ![4096, 128]⟩
abbrev S6160x2048 : Shape := ⟨2, ![6160, 2048]⟩
abbrev S16x2048 : Shape := ⟨2, ![16, 2048]⟩
abbrev S128x2048 : Shape := ⟨2, ![128, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x16, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S6160x2048, .f32⟩
  | .hbm, ⟨8, _⟩ => ⟨S6160x2048, .bf16⟩
  | .hbm, ⟨9, _⟩ => ⟨S16x2048, .bf16⟩
  | .hbm, ⟨10, _⟩ => ⟨S_, .i32⟩
  | .hbm, ⟨11, _⟩ => ⟨S_, .bf16⟩
  | .hbm, ⟨12, _⟩ => ⟨S128x2048, .bf16⟩
  | .hbm, ⟨13, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FzDxRefIdeal.lean ====
abbrev S4096x2048 : Shape := ⟨2, ![4096, 2048]⟩
abbrev S2048x6160 : Shape := ⟨2, ![2048, 6160]⟩
abbrev S4096x16 : Shape := ⟨2, ![4096, 16]⟩
abbrev S_ : Shape := ⟨0, ![]⟩
abbrev S4096x6160 : Shape := ⟨2, ![4096, 6160]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x16, .f32⟩
  | .hbm, ⟨3, _⟩ => ⟨S_, .f32⟩
  | .hbm, ⟨4, _⟩ => ⟨S4096x2048, .f32⟩
  | .hbm, ⟨5, _⟩ => ⟨S4096x6160, .f32⟩
  | .hbm, ⟨6, _⟩ => ⟨S4096x16, .f32⟩
  | .hbm, ⟨7, _⟩ => ⟨S_, .f32⟩
  | .hbm, ⟨8, _⟩ => ⟨S4096x6160, .f32⟩
  | .hbm, ⟨9, _⟩ => ⟨S4096x2048, .f32⟩
  | .hbm, ⟨10, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Att.lean ====
abbrev S4096x2048 : Shape := ⟨2, ![4096, 2048]⟩
abbrev S16x320 : Shape := ⟨2, ![16, 320]⟩
abbrev S2048 : Shape := ⟨1, ![2048]⟩
abbrev S_ : Shape := ⟨0, ![]⟩
abbrev S2048x1 : Shape := ⟨2, ![2048, 1]⟩
abbrev S16x2048 : Shape := ⟨2, ![16, 2048]⟩
abbrev S16x1x2048 : Shape := ⟨3, ![16, 1, 2048]⟩
abbrev S512x128 : Shape := ⟨2, ![512, 128]⟩
abbrev S1x1x2048 : Shape := ⟨3, ![1, 1, 2048]⟩
abbrev S512x1024 : Shape := ⟨2, ![512, 1024]⟩
abbrev S1x2048 : Shape := ⟨2, ![1, 2048]⟩
abbrev S64x2048 : Shape := ⟨2, ![64, 2048]⟩
abbrev S64x1024 : Shape := ⟨2, ![64, 1024]⟩
abbrev S1024x128 : Shape := ⟨2, ![1024, 128]⟩
abbrev S256x128 : Shape := ⟨2, ![256, 128]⟩
abbrev S768x128 : Shape := ⟨2, ![768, 128]⟩
abbrev S256x768 : Shape := ⟨2, ![256, 768]⟩
abbrev S256 : Shape := ⟨1, ![256]⟩
abbrev S256x1 : Shape := ⟨2, ![256, 1]⟩

abbrev nBuf : Space → Nat
  | .hbm => 19
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S16x320, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S16x2048, .f32⟩
  | .hbm, ⟨14, _⟩ => ⟨S16x1x2048, .f32⟩
  | .hbm, ⟨15, _⟩ => ⟨S4096x2048, .bf16⟩
  | .hbm, ⟨16, _⟩ => ⟨S4096x2048, .bf16⟩
  | .hbm, ⟨17, _⟩ => ⟨S4096x2048, .bf16⟩
  | .hbm, ⟨18, _⟩ => ⟨S4096x2048, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S1x1x2048, .f32⟩
  | .local _ .vmem, ⟨11, _⟩ => ⟨S1x1x2048, .f32⟩
  | .local _ .vmem, ⟨12, _⟩ => ⟨S512x128, .bf16⟩
  | .local _ .vmem, ⟨13, _⟩ => ⟨S512x128, .bf16⟩
  | .local _ .vmem, ⟨14, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttIdeal.lean ====
variable {F : FTy → Type} [FloatOps F] [Named F]
def κ : String → Option EReal := fun
  | "mask" => some ⊥
  | _ => none
-- ==== AttRefIdeal.lean ====
abbrev S4096x2048 : Shape := ⟨2, ![4096, 2048]⟩
abbrev S16x320 : Shape := ⟨2, ![16, 320]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S16x4096x4096 : Shape := ⟨3, ![16, 4096, 4096]⟩
abbrev S4096x16x128 : Shape := ⟨3, ![4096, 16, 128]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩

abbrev nBuf : Space → Nat
  | .hbm => 113
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S16x320, .f32⟩
  | .hbm, ⟨4, _⟩ => ⟨S4096, .i32⟩
  | .hbm, ⟨5, _⟩ => ⟨S4096x1, .i32⟩
  | .hbm, ⟨6, _⟩ => ⟨S4096, .i32⟩
  | .hbm, ⟨7, _⟩ => ⟨S1x4096, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S4096x4096x1, .i32⟩
  | .hbm, ⟨30, _⟩ => ⟨S16x4096x4096, .f32⟩
  | .hbm, ⟨31, _⟩ => ⟨S4096x16x128, .f32⟩
  | .hbm, ⟨32, _⟩ => ⟨S4096x16x128, .f32⟩
  | .hbm, ⟨33, _⟩ => ⟨S4096x16x128, .f32⟩
  | .hbm, ⟨34, _⟩ => ⟨S16x4096x4096, .f32⟩
  | .hbm, ⟨35, _⟩ => ⟨S_, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S4096, .i32⟩
  | .hbm, ⟨40, _⟩ => ⟨S_, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096, .i32⟩
  | .hbm, ⟨60, _⟩ => ⟨S_, .i32⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S4096, .i32⟩
  | .hbm, ⟨69, _⟩ => ⟨S4096, .i32⟩
  | .hbm, ⟨70, _⟩ => ⟨S_, .i32⟩
  | .hbm, ⟨71, _⟩ => ⟨S4096, .i32⟩
  | .hbm, ⟨72, _⟩ => ⟨S4096, .i1⟩
  | .hbm, ⟨73, _⟩ => ⟨S4096, .i1⟩
  | .hbm, ⟨74, _⟩ => ⟨S_, .i32⟩
  | .hbm, ⟨75, _⟩ => ⟨S4096, .i32⟩
  | .hbm, ⟨76, _⟩ => ⟨S4096, .i32⟩
  | .hbm, ⟨77, _⟩ => ⟨S4096, .i32⟩
  | .hbm, ⟨78, _⟩ => ⟨S1x4096, .i32⟩
  | .hbm, ⟨79, _⟩ => ⟨S4096x4096, .i32⟩
  | .hbm, ⟨80, _⟩ => ⟨S4096x4096, .i32⟩
  | .hbm, ⟨81, _⟩ => ⟨S4096x4096, .i32⟩
  | .hbm, ⟨82, _⟩ => ⟨S_, .i32⟩
  | .hbm, ⟨83, _⟩ => ⟨S4096x4096, .i32⟩
  | .hbm, ⟨84, _⟩ => ⟨S4096x4096, .i1⟩
  | .hbm, ⟨85, _⟩ => ⟨S_, .i32⟩
  | .hbm, ⟨86, _⟩ => ⟨S4096x4096, .i32⟩
  | .hbm, ⟨87, _⟩ => ⟨S4096x4096, .i1⟩
  | .hbm, ⟨88, _⟩ => ⟨S4096x4096, .i1⟩
  | .hbm, ⟨89, _⟩ => ⟨S1x4096x4096, .i1⟩
  | .hbm, ⟨90, _⟩ => ⟨S_, .f32⟩
  | .hbm, ⟨91, _⟩ => ⟨S_, .f32⟩
  | .hbm, ⟨92, _⟩ => ⟨S16x4096x4096, .i1⟩
  | .hbm, ⟨93, _⟩ => ⟨S16x4096x4096, .f32⟩
  | .hbm, ⟨94, _⟩ => ⟨S16x4096x4096, .f32⟩
  | .hbm, ⟨95, _⟩ => ⟨S_, .f32⟩
  | .hbm, ⟨96, _⟩ => ⟨S16x4096, .f32⟩
  | .hbm, ⟨97, _⟩ => ⟨S_, .f32⟩
  | .hbm, ⟨98, _⟩ => ⟨S16x4096, .f32⟩
  | .hbm, ⟨99, _⟩ => ⟨S16x4096, .f32⟩
  | .hbm, ⟨100, _⟩ => ⟨S16x4096x1, .f32⟩
  | .hbm, ⟨101, _⟩ => ⟨S16x4096x4096, .f32⟩
  | .hbm, ⟨102, _⟩ => ⟨S16x4096x4096, .f32⟩
  | .hbm, ⟨103, _⟩ => ⟨S16x4096x4096, .f32⟩
  | .hbm, ⟨104, _⟩ => ⟨S_, .f32⟩
  | .hbm, ⟨105, _⟩ => ⟨S16x4096, .f32⟩
  | .hbm, ⟨106, _⟩ => ⟨S16x4096x1, .f32⟩
  | .hbm, ⟨107, _⟩ => ⟨S16x4096x4096, .f32⟩
  | .hbm, ⟨108, _⟩ => ⟨S16x4096x4096, .f32⟩
  | .hbm, ⟨109, _⟩ => ⟨S16x128x4096, .f32⟩
  | .hbm, ⟨110, _⟩ => ⟨S4096x16x128, .f32⟩
  | .hbm, ⟨111, _⟩ => ⟨S4096x2048, .f32⟩
  | .hbm, ⟨112, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_5 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_c_6 : Ref sig .tc := ⟨.hbm, 82, rfl⟩
abbrev main_v33 : Ref sig .tc := ⟨.hbm, 83, rfl⟩
abbrev main_v34 : Ref sig .tc := ⟨.hbm, 84, rfl⟩
abbrev main_c_7 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_cst_8 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v39 : Ref sig .tc := ⟨.hbm, 94, rfl⟩
abbrev main_cst_9 : Ref sig .tc := ⟨.hbm, 95, rfl⟩
abbrev main_v40 : Ref sig .tc := ⟨.hbm, 96, rfl⟩
abbrev main_cst_10 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_cst_11 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩

abbrev nD : Nat := 1
abbrev τ : Topo := Topo.v7x

variable {F : FTy → Type} [FloatOps F]
-- ==== Proof.Run.Base.lean ====
/- What the three runs of the chunked gradient's body share: the closed forms of its branch conditions over the
   grid's points, the memrefs that it is called with, and what it stores as functions of what it reads. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## Which branch a point takes -/

/-- The first branch: a head's first window. -/
abbrev first (i : grid0.Coords) : Prop := k0_cond1 i = 1#1
theorem first_iff : ∀ t : Fin cfg0.N, first (grid0.coords t) ↔ t.val % 9 = 0 :=
  (by decide +kernel : ∀ t : Fin grid0.N, first (grid0.coords t) ↔ t.val % 9 = 0)
/-- The second branch: a window of queries. -/
abbrev query (i : grid0.Coords) : Prop := k0_cond2 i = 1#1
theorem query_iff : ∀ t : Fin cfg0.N, query (grid0.coords t) ↔ t.val % 9 ≤ 7 :=
  (by decide +kernel : ∀ t : Fin grid0.N, query (grid0.coords t) ↔ t.val % 9 ≤ 7)
/-- The third branch: the point after the last window, which writes out what is left in the carries. -/
abbrev rest (i : grid0.Coords) : Prop := k0_cond3 i = 1#1
theorem rest_iff : ∀ t : Fin cfg0.N, rest (grid0.coords t) ↔ t.val % 9 = 8 :=
  (by decide +kernel : ∀ t : Fin grid0.N, rest (grid0.coords t) ↔ t.val % 9 = 8)

/-! ## The memrefs the body is called with -/

abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x512x1024 .f32 := win0_11.stage (cfg0.slots t 11)
abbrev hs11 (t : Fin cfg0.N) : (ms11 t).IsWhole := hstage0_11 ((cfg0.slots t 11).cast nbuf0_11)
/-- The band's bias, and the parts of dk and dv that the next window finishes: the kernel's own buffers. -/
abbrev scB : Memref sig .tc .vmem S512x1024 .f32 := Memref.whole cc0_scratch0
abbrev scK : Memref sig .tc .vmem S512x128 .f32 := Memref.whole cc0_scratch1
abbrev scV : Memref sig .tc .vmem S512x128 .f32 := Memref.whole cc0_scratch2

/-- The region's invariant over the kernel's own buffers, as memrefs owned at some contents. -/
theorem inv_eq (c : Dev nD) :
    (Pipeline.ΦA spec0 c : sProp 𝕄)
      = iprop(iprop((∃ d, owns (c : Thread nD τ) scB fullShare d) ∗ (∃ d, owns (c : Thread nD τ) scK fullShare d) ∗ (∃ d, owns (c : Thread nD τ) scV fullShare d)) ∗ (∃ r, prngReg c r)) := by
  unfold Pipeline.ΦA; rw [scopedRest0_eq]; simp only [scB, scK, scV, owns_whole]; try rfl

open VecWindow

/-! ## One window of queries, as functions of what the body reads

`q`, `kp`, `kc`, `vp`, `vc`, `dy`, `o` are the blocks of the queries, of the keys and values of the window before and of the own
window, of the output's gradient and of the output; `b` is the band's bias, `a` the window's number, `ck` and `cv` are the carried
parts of dk and dv, `d` is the sum of the score gradients so far. Everything is done for two halves of 256 queries: the keys of the
first half are the first 768 of the 1024, those of the second half the last 768. -/

/-- The probabilities of the first half, -/
def prob0 (a : BitVec 32) (q kp kc : Vec F S512x128 .bf16) (b : Vec F S512x1024 .f32) : FVec F S256x768 .f32 :=
  k0_pay29 (k0_pay26 q kp kc (window b ![0, 0] S256x768.size inb_S512x1024_S256x768_0_0)) (k0_pay27 a) k0_pay28
/-- and of the second. -/
def prob1 (a : BitVec 32) (q kp kc : Vec F S512x128 .bf16) (b : Vec F S512x1024 .f32) : FVec F S256x768 .f32 :=
  k0_pay30 a (k0_pay21 q) (k0_pay23 kp kc) (window b ![256, 256] S256x768.size inb_S512x1024_S256x768_256_256)
/-- The products of the output's gradient with the values, first half. -/
def dp0 (vp vc dy : Vec F S512x128 .bf16) : FVec F S256x768 .f32 := k0_pay31 (k0_pay22 dy) (k0_pay24 vp vc)
/-- Each row's sum of gradient times output, first half. -/
def dl0 (dy o : Vec F S512x128 .bf16) : FVec F S256x768 .f32 := k0_pay32 (k0_pay25 dy o)
/-- The score gradients of the second half. -/
def dsc1 (a : BitVec 32) (q kp kc vp vc dy o : Vec F S512x128 .bf16) (b : Vec F S512x1024 .f32) : FVec F S256x768 .f32 :=
  k0_pay34 (k0_pay22 dy) (k0_pay24 vp vc) (k0_pay25 dy o) (prob1 a q kp kc b)
/-- The same, rounded for the products. -/
def dsr1 (a : BitVec 32) (q kp kc vp vc dy o : Vec F S512x128 .bf16) (b : Vec F S512x1024 .f32) : FVec F S256x768 .bf16 :=
  k0_pay40 (k0_pay22 dy) (k0_pay24 vp vc) (k0_pay25 dy o) (prob1 a q kp kc b)
/-- The first half's part of dk, -/
def dkh (a : BitVec 32) (q kp kc vp vc dy o : Vec F S512x128 .bf16) (b : Vec F S512x1024 .f32) : FVec F S768x128 .f32 :=
  k0_pay38 (k0_pay21 q) (prob0 a q kp kc b) (dp0 vp vc dy) (dl0 dy o)
/-- and of dv. -/
def dvh (a : BitVec 32) (q kp kc dy : Vec F S512x128 .bf16) (b : Vec F S512x1024 .f32) : FVec F S768x128 .f32 :=
  k0_pay39 (k0_pay22 dy) (prob0 a q kp kc b)

/-- The two stores of the window's dq. -/
def dqPieces (a : BitVec 32) (q kp kc vp vc dy o : Vec F S512x128 .bf16) (b : Vec F S512x1024 .f32) : List (View.Piece (Elt F) S512x128 .f32) :=
  [⟨Rect.unit ![256, 0] S256x128.size inb_S512x128_S256x128_256_0,
      k0_pay41 (k0_pay22 dy) (k0_pay23 kp kc) (k0_pay24 vp vc) (k0_pay25 dy o) (prob1 a q kp kc b)⟩,
    ⟨Rect.unit ![0, 0] S256x128.size inb_S512x128_S256x128_0_0,
      k0_pay36 (k0_pay23 kp kc) (prob0 a q kp kc b) (dp0 vp vc dy) (dl0 dy o)⟩]
/-- They cover the block. -/
theorem dq_cover (a : BitVec 32) (q kp kc vp vc dy o : Vec F S512x128 .bf16) (b : Vec F S512x1024 .f32) (y : S512x128.Idx) :
    ∃ p ∈ dqPieces a q kp kc vp vc dy o b, y ∈ p.1.set :=
  View.cover_of_tiledL (dqPieces a q kp kc vp vc dy o b) S256x128.size (by sl_kernel_rfl) y
/-- The window's dq: what they leave, whatever was there. -/
def dqOf (a : BitVec 32) (q kp kc vp vc dy o : Vec F S512x128 .bf16) (b : Vec F S512x1024 .f32) : Vec F S512x128 .f32 :=
  scK.view.read (Elt F) (scK.view.writes (Elt F) scK.view.junk (dqPieces a q kp kc vp vc dy o b))
/-- The sum of the score gradients with this window's added. -/
def dsOf (a : BitVec 32) (q kp kc vp vc dy o : Vec F S512x128 .bf16) (b : Vec F S512x1024 .f32) (d : Vec F S1x512x1024 .f32) : Vec F S1x512x1024 .f32 :=
  put (put d ![0, 0, 0] S1x256x768.size
      (k0_pay37 (prob0 a q kp kc b) (dp0 vp vc dy) (dl0 dy o) (window d ![0, 0, 0] S1x256x768.size inb_S1x512x1024_S1x256x768_0_0_0)))
    ![0, 256, 256] S1x256x768.size
    (k0_pay43 (dsc1 a q kp kc vp vc dy o b) (k0_pay42 (window d ![0, 256, 256] S1x256x768.size inb_S1x512x1024_S1x256x768_0_256_256)))
/-- dk of the keys of the window before: what was carried and this window's part. -/
def dkOf (a : BitVec 32) (q kp kc vp vc dy o : Vec F S512x128 .bf16) (b : Vec F S512x1024 .f32) (ck : Vec F S512x128 .f32) : Vec F S512x128 .f32 :=
  k0_pay47 (k0_pay21 q) (dkh a q kp kc vp vc dy o b) (dsr1 a q kp kc vp vc dy o b) ck
/-- dv of the keys of the window before. -/
def dvOf (a : BitVec 32) (q kp kc dy : Vec F S512x128 .bf16) (b : Vec F S512x1024 .f32) (cv : Vec F S512x128 .f32) : Vec F S512x128 .f32 :=
  k0_pay48 (k0_pay22 dy) (prob1 a q kp kc b) (dvh a q kp kc dy b) cv
/-- The part of dk carried to the next window: that of the own keys. -/
def ckOf (a : BitVec 32) (q kp kc vp vc dy o : Vec F S512x128 .bf16) (b : Vec F S512x1024 .f32) : Vec F S512x128 .f32 :=
  k0_pay49 (k0_pay21 q) (dkh a q kp kc vp vc dy o b) (dsr1 a q kp kc vp vc dy o b)
/-- The part of dv carried to the next window. -/
def cvOf (a : BitVec 32) (q kp kc dy : Vec F S512x128 .bf16) (b : Vec F S512x1024 .f32) : Vec F S512x128 .f32 :=
  k0_pay6 (k0_pay46 (k0_pay22 dy) (prob1 a q kp kc b) (dvh a q kp kc dy b))

/-! ## The band's bias of a head -/

/-- The bias row rolled by each of 64 query rows. -/
def rolled (g : Vec F S1x1x2048 .f32) : FVec F S64x2048 .f32 :=
  k0_pay9 (iota .tc S64x2048 32 [0] iota_S64x2048_d0_w32) (k0_pay7 g) k0_pay8 1#32

/-- The eight stores of the bias, one per chunk of 64 query rows. -/
def biasPieces (g : Vec F S1x1x2048 .f32) : List (View.Piece (Elt F) S512x1024 .f32) :=
  [⟨Rect.unit ![448, 0] S64x1024.size inb_S512x1024_S64x1024_448_0, k0_pay2 (rolled g) k0_pay10⟩,
    ⟨Rect.unit ![384, 0] S64x1024.size inb_S512x1024_S64x1024_384_0, k0_pay1 (k0_pay20 (rolled g) k0_pay10)⟩,
    ⟨Rect.unit ![320, 0] S64x1024.size inb_S512x1024_S64x1024_320_0, k0_pay19 (rolled g) k0_pay10⟩,
    ⟨Rect.unit ![256, 0] S64x1024.size inb_S512x1024_S64x1024_256_0, k0_pay18 (rolled g) k0_pay10⟩,
    ⟨Rect.unit ![192, 0] S64x1024.size inb_S512x1024_S64x1024_192_0, k0_pay17 (k0_pay16 (rolled g) k0_pay10)⟩,
    ⟨Rect.unit ![128, 0] S64x1024.size inb_S512x1024_S64x1024_128_0, k0_pay15 (rolled g) k0_pay10⟩,
    ⟨Rect.unit ![64, 0] S64x1024.size inb_S512x1024_S64x1024_64_0, k0_pay14 (rolled g) k0_pay10⟩,
    ⟨Rect.unit ![0, 0] S64x1024.size inb_S512x1024_S64x1024_0_0,
      k0_pay13 k0_pay11 (k0_pay12 (iota .tc S64x2048 32 [0] iota_S64x2048_d0_w32) (k0_pay7 g) k0_pay8 1#32)⟩]
/-- They cover the bias. -/
theorem bias_cover (g : Vec F S1x1x2048 .f32) (y : S512x1024.Idx) : ∃ p ∈ biasPieces g, y ∈ p.1.set :=
  View.cover_of_tiledL (biasPieces g) S64x1024.size (by sl_kernel_rfl) y
/-- The bias they leave, whatever was there. -/
def biasOf (g : Vec F S1x1x2048 .f32) : Vec F S512x1024 .f32 :=
  scB.view.read (Elt F) (scB.view.writes (Elt F) scB.view.junk (biasPieces g))

end Cert.KernelIdeal.Run

end
-- ==== Proof.Run.First.lean ====
/- The run of the chunked gradient's body at a head's first window. -/
module

public import proofs.«01_k».proof.Proof.Run.Base

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ
open VecWindow

set_option maxHeartbeats 2000000 in
/-- A head's first window. -/
theorem body_first (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x1x2048 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x512x1024 .f32) (harg13 : arg13.IsWhole) (arg14 : Memref sig .tc .vmem S512x1024 .f32) (harg14 : arg14.IsWhole) (arg15 : Memref sig .tc .vmem S512x128 .f32) (harg15 : arg15.IsWhole) (arg16 : Memref sig .tc .vmem S512x128 .f32) (harg16 : arg16.IsWhole) (hc0 : first i) (hc1 : query i) (hc2 : ¬rest i)
    (x0 : Vec F S512x128 .bf16) (x1 : Vec F S512x128 .bf16) (x2 : Vec F S512x128 .bf16) (x3 : Vec F S512x128 .bf16) (x4 : Vec F S512x128 .bf16) (x5 : Vec F S1x1x2048 .f32) (x6 : Vec F S512x128 .bf16) (x7 : Vec F S512x128 .bf16) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (dqOf (BitVec.ofNat 32 (i 1).val) x0 x1 x2 x3 x4 x6 x7 (biasOf x5)) ∗ owns (c : Thread nD τ) arg11 fullShare (dkOf (BitVec.ofNat 32 (i 1).val) x0 x1 x2 x3 x4 x6 x7 (biasOf x5) k0_pay4) ∗ owns (c : Thread nD τ) arg12 fullShare (dvOf (BitVec.ofNat 32 (i 1).val) x0 x1 x2 x6 (biasOf x5) k0_pay5) ∗ owns (c : Thread nD τ) arg13 fullShare (dsOf (BitVec.ofNat 32 (i 1).val) x0 x1 x2 x3 x4 x6 x7 (biasOf x5) k0_pay3) ∗ owns (c : Thread nD τ) arg14 fullShare ((biasOf x5)) ∗ owns (c : Thread nD τ) arg15 fullShare (ckOf (BitVec.ofNat 32 (i 1).val) x0 x1 x2 x3 x4 x6 x7 (biasOf x5)) ∗ owns (c : Thread nD τ) arg16 fullShare (cvOf (BitVec.ofNat 32 (i 1).val) x0 x1 x2 x6 (biasOf x5))) -∗ K ⟨⟩))
      ⊢ wp frame (wpE (defs₀ (F := F)) Variants.none c none) E (cc0_chunk_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_chunk_bwd_eq_skeleton]; unfold cc0_chunk_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H8⟩, ⟨%d11, %f11, -, H9⟩, ⟨%d12, %f12, -, H10⟩, ⟨%d13, %f13, -, H11⟩, ⟨%d14, %f14, -, HS0⟩, ⟨%d15, %f15, -, HS1⟩, ⟨%d16, %f16, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1 | sl_exact hc2)
  sl_step
  have e0 : body_first.sl.r c arg7 harg7 x5 = k0_pay7 x5 := by
    delta body_first.sl.r; rw [View.readAt_full, harg7.read_unread]
  have e1 : body_first.sl.r_1 c arg7 harg7 x5 = rolled x5 := by
    delta body_first.sl.r_1 body_first.sl.v13; rw [e0]; rfl
  have e2 : body_first.sl.r_2 c arg7 harg7 x5 = k0_pay12 (iota .tc S64x2048 32 [0] iota_S64x2048_d0_w32) (k0_pay7 x5) k0_pay8 1#32 := by
    delta body_first.sl.r_2 body_first.sl.v13; rw [e0]
  have e3 : body_first.sl.r_3 c arg7 harg7 x5 = k0_pay16 (rolled x5) k0_pay10 := by
    delta body_first.sl.r_3; rw [e1]
  have e4 : body_first.sl.r_4 c arg7 harg7 x5 = k0_pay20 (rolled x5) k0_pay10 := by
    delta body_first.sl.r_4; rw [e1]
  have hL : body_first.sl.HS0_8 c arg7 harg7 x5 = biasPieces x5 := by
    delta body_first.sl.HS0_8; rw [e1, e2, e3, e4]; rfl
  have hB : ∀ f, arg14.view.read (Elt F) (arg14.view.writes (Elt F) f (biasPieces x5)) = biasOf x5 := fun f =>
    View.read_writes_of_cover _ f _ _ _ (bias_cover x5)
  have h35 : body_first.sl.v35 c arg7 harg7 arg14 x5 = window (biasOf x5) ![0, 0] S256x768.size inb_S512x1024_S256x768_0_0 := by
    delta body_first.sl.v35 View.readCov; rw [hL, View.readAt_unit _ _ _ rfl inb_S512x1024_S256x768_0_0, hB]
  have h63 : body_first.sl.v63 c arg7 harg7 arg14 x5 = window (biasOf x5) ![256, 256] S256x768.size inb_S512x1024_S256x768_256_256 := by
    delta body_first.sl.v63 View.readCov; rw [hL, View.readAt_unit _ _ _ rfl inb_S512x1024_S256x768_256_256, hB]
  have h158 : body_first.sl.v158 c arg15 = k0_pay4 (F := F) := by
    delta body_first.sl.v158 body_first.sl.HS1_1; exact View.readCov_full (Val := Elt F) _ _ _ _ _
  have h161 : body_first.sl.v161 c arg16 = k0_pay5 (F := F) := by
    delta body_first.sl.v161 body_first.sl.HS2_1; exact View.readCov_full (Val := Elt F) _ _ _ _ _
  have hD : ∀ f, arg13.view.read (Elt F) (arg13.view.writes (Elt F) f body_first.sl.H11_1) = k0_pay3 (F := F) := fun f => by
    delta body_first.sl.H11_1; exact View.read_writes_full (Val := Elt F) _ _ _ _ _
  have h106 : body_first.sl.v106 c arg13 = window (k0_pay3 (F := F)) ![0, 0, 0] S1x256x768.size inb_S1x512x1024_S1x256x768_0_0_0 := by
    delta body_first.sl.v106 View.readCov; rw [View.readAt_unit _ _ _ rfl inb_S1x512x1024_S1x256x768_0_0_0, hD]
  have e5 : body_first.sl.r_5 c arg2 harg2 x0 = k0_pay21 x0 := by
    delta body_first.sl.r_5; rw [View.readAt_full, harg2.read_unread]
  have e6 : body_first.sl.r_6 c arg8 harg8 x6 = k0_pay22 x6 := by
    delta body_first.sl.r_6; rw [View.readAt_full, harg8.read_unread]
  have e7 : body_first.sl.r_7 c arg3 harg3 arg4 harg4 x1 x2 = k0_pay23 x1 x2 := by
    delta body_first.sl.r_7; rw [View.readAt_full, harg3.read_unread, View.readAt_full, harg4.read_unread]
  have e8 : body_first.sl.r_8 c arg5 harg5 arg6 harg6 x3 x4 = k0_pay24 x3 x4 := by
    delta body_first.sl.r_8; rw [View.readAt_full, harg5.read_unread, View.readAt_full, harg6.read_unread]
  have e9 : body_first.sl.r_9 c arg8 harg8 arg9 harg9 x6 x7 = k0_pay25 x6 x7 := by
    delta body_first.sl.r_9; rw [View.readAt_full, harg8.read_unread, View.readAt_full, harg9.read_unread]
  have e10 : body_first.sl.r_10 c arg2 harg2 arg3 harg3 arg4 harg4 arg7 harg7 arg14 x0 x1 x2 x5 = k0_pay26 x0 x1 x2 (window (biasOf x5) ![0, 0] S256x768.size inb_S512x1024_S256x768_0_0) := by
    delta body_first.sl.r_10; rw [h35]; rw [View.readAt_full, harg2.read_unread, View.readAt_full, harg3.read_unread, View.readAt_full, harg4.read_unread]
  have e12 : body_first.sl.r_12 c i arg2 harg2 arg3 harg3 arg4 harg4 arg7 harg7 arg14 x0 x1 x2 x5 = prob0 (BitVec.ofNat 32 (i 1).val) x0 x1 x2 (biasOf x5) := by
    delta body_first.sl.r_12; rw [e10]; rfl
  have e13 : body_first.sl.r_13 c i arg2 harg2 arg3 harg3 arg4 harg4 arg7 harg7 arg14 x0 x1 x2 x5 = prob1 (BitVec.ofNat 32 (i 1).val) x0 x1 x2 (biasOf x5) := by
    delta body_first.sl.r_13; rw [e5, e7, h63]; rfl
  have e14 : body_first.sl.r_14 c arg5 harg5 arg6 harg6 arg8 harg8 x3 x4 x6 = dp0 x3 x4 x6 := by
    delta body_first.sl.r_14; rw [e6, e8]; rfl
  have e15 : body_first.sl.r_15 c arg8 harg8 arg9 harg9 x6 x7 = dl0 x6 x7 := by
    delta body_first.sl.r_15; rw [e9]; rfl
  have e16 : body_first.sl.r_16 c i arg2 harg2 arg3 harg3 arg4 harg4 arg5 harg5 arg6 harg6 arg7 harg7 arg8 harg8 arg9 harg9 arg14 x0 x1 x2 x3 x4 x5 x6 x7 = dsc1 (BitVec.ofNat 32 (i 1).val) x0 x1 x2 x3 x4 x6 x7 (biasOf x5) := by
    delta body_first.sl.r_16; rw [e6, e8, e9, e13]; rfl
  have e17 : body_first.sl.r_17 c i arg2 harg2 arg3 harg3 arg4 harg4 arg5 harg5 arg6 harg6 arg7 harg7 arg8 harg8 arg9 harg9 arg14 x0 x1 x2 x3 x4 x5 x6 x7 = dkh (BitVec.ofNat 32 (i 1).val) x0 x1 x2 x3 x4 x6 x7 (biasOf x5) := by
    delta body_first.sl.r_17; rw [e5, e12, e14, e15]; rfl
  have e18 : body_first.sl.r_18 c i arg2 harg2 arg3 harg3 arg4 harg4 arg7 harg7 arg8 harg8 arg14 x0 x1 x2 x5 x6 = dvh (BitVec.ofNat 32 (i 1).val) x0 x1 x2 x6 (biasOf x5) := by
    delta body_first.sl.r_18; rw [e6, e12]; rfl
  have e19 : body_first.sl.r_19 c i arg2 harg2 arg3 harg3 arg4 harg4 arg5 harg5 arg6 harg6 arg7 harg7 arg8 harg8 arg9 harg9 arg14 x0 x1 x2 x3 x4 x5 x6 x7 = dsr1 (BitVec.ofNat 32 (i 1).val) x0 x1 x2 x3 x4 x6 x7 (biasOf x5) := by
    delta body_first.sl.r_19; rw [e6, e8, e9, e13]; rfl
  have e21 : body_first.sl.r_21 c i arg2 harg2 arg3 harg3 arg4 harg4 arg7 harg7 arg8 harg8 arg14 x0 x1 x2 x5 x6 = k0_pay46 (k0_pay22 x6) (prob1 (BitVec.ofNat 32 (i 1).val) x0 x1 x2 (biasOf x5)) (dvh (BitVec.ofNat 32 (i 1).val) x0 x1 x2 x6 (biasOf x5)) := by
    delta body_first.sl.r_21; rw [e6, e13, e18]
  have h125 : body_first.sl.v125 c i arg2 harg2 arg3 harg3 arg4 harg4 arg5 harg5 arg6 harg6 arg7 harg7 arg8 harg8 arg9 harg9 arg13 arg14 x0 x1 x2 x3 x4 x5 x6 x7 = window (k0_pay3 (F := F)) ![0, 256, 256] S1x256x768.size inb_S1x512x1024_S1x256x768_0_256_256 := by
    delta body_first.sl.v125 body_first.sl.H11_2 View.readCov
    rw [View.readAt_unit _ _ _ rfl inb_S1x512x1024_S1x256x768_0_256_256, View.read_writes_cons_put _ _ _ _ _ rfl, hD]
    exact window_put_of_disjoint _ _ _ _ _ _ _ 1 (Or.inr (by decide))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    rw [e6, e7, e8, e9, e12, e13, e14, e15]
    exact View.read_writes_of_cover _ _ scK.view scK.view.junk (dqPieces (BitVec.ofNat 32 (i 1).val) x0 x1 x2 x3 x4 x6 x7 (biasOf x5)) (dq_cover (BitVec.ofNat 32 (i 1).val) x0 x1 x2 x3 x4 x6 x7 (biasOf x5))
  isplitl [H9]
  · iexists _; isplitr
    swap; · iexact H9
    ipureintro
    rw [View.read_writes_full, h158, e5, e17, e19]; rfl
  isplitl [H10]
  · iexists _; isplitr
    swap; · iexact H10
    ipureintro
    rw [View.read_writes_full, h161, e6, e13, e18]; rfl
  isplitl [H11]
  · iexists _; isplitr
    swap; · iexact H11
    ipureintro
    delta body_first.sl.H11_2 body_first.sl.r_20
    rw [View.read_writes_cons_put _ _ _ _ _ rfl, View.read_writes_cons_put _ _ _ _ _ rfl, hD, h125, h106, e12, e14, e15, e16]; rfl
  isplitl [HS0]
  · iexists _; isplitr
    swap; · iexact HS0
    ipureintro
    rw [hL]; exact hB _
  isplitl [HS1]
  · iexists _; isplitr
    swap; · iexact HS1
    ipureintro
    rw [View.read_writes_full, e5, e17, e19]; rfl
  iexists _; isplitr
  swap; · iexact HS2
  ipureintro
  refine (View.read_writes_full _ _ _ _ _).trans ?_; rw [e21]; rfl

end Cert.KernelIdeal.Run

end
-- ==== Proof.Run.Mid.lean ====
/- The run of the chunked gradient's body at another window of queries. -/
module

public import proofs.«01_k».proof.Proof.Run.Base

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ
open VecWindow

set_option maxHeartbeats 2000000 in
/-- Another window of queries. -/
theorem body_mid (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x1x2048 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x512x1024 .f32) (harg13 : arg13.IsWhole) (arg14 : Memref sig .tc .vmem S512x1024 .f32) (harg14 : arg14.IsWhole) (arg15 : Memref sig .tc .vmem S512x128 .f32) (harg15 : arg15.IsWhole) (arg16 : Memref sig .tc .vmem S512x128 .f32) (harg16 : arg16.IsWhole) (hc0 : ¬first i) (hc1 : query i) (hc2 : ¬rest i)
    (x0 : Vec F S512x128 .bf16) (x1 : Vec F S512x128 .bf16) (x2 : Vec F S512x128 .bf16) (x3 : Vec F S512x128 .bf16) (x4 : Vec F S512x128 .bf16) (x5 : Vec F S1x1x2048 .f32) (x6 : Vec F S512x128 .bf16) (x7 : Vec F S512x128 .bf16)
    (xb : Vec F S512x1024 .f32) (xk xv : Vec F S512x128 .f32) (xd : Vec F S1x512x1024 .f32) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (xd) ∗ owns (c : Thread nD τ) arg14 fullShare (xb) ∗ owns (c : Thread nD τ) arg15 fullShare (xk) ∗ owns (c : Thread nD τ) arg16 fullShare (xv) ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (dqOf (BitVec.ofNat 32 (i 1).val) x0 x1 x2 x3 x4 x6 x7 xb) ∗ owns (c : Thread nD τ) arg11 fullShare (dkOf (BitVec.ofNat 32 (i 1).val) x0 x1 x2 x3 x4 x6 x7 xb xk) ∗ owns (c : Thread nD τ) arg12 fullShare (dvOf (BitVec.ofNat 32 (i 1).val) x0 x1 x2 x6 xb xv) ∗ owns (c : Thread nD τ) arg13 fullShare (dsOf (BitVec.ofNat 32 (i 1).val) x0 x1 x2 x3 x4 x6 x7 xb xd) ∗ owns (c : Thread nD τ) arg14 fullShare (xb) ∗ owns (c : Thread nD τ) arg15 fullShare (ckOf (BitVec.ofNat 32 (i 1).val) x0 x1 x2 x3 x4 x6 x7 xb) ∗ owns (c : Thread nD τ) arg16 fullShare (cvOf (BitVec.ofNat 32 (i 1).val) x0 x1 x2 x6 xb)) -∗ K ⟨⟩))
      ⊢ wp frame (wpE (defs₀ (F := F)) Variants.none c none) E (cc0_chunk_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_chunk_bwd_eq_skeleton]; unfold cc0_chunk_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H8⟩, ⟨%d11, %f11, -, H9⟩, ⟨%d12, %f12, -, H10⟩, ⟨%f13, %hf13, H11⟩, ⟨%f14, %hf14, HS0⟩, ⟨%f15, %hf15, HS1⟩, ⟨%f16, %hf16, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg13.eq_unread hf13; obtain rfl := harg14.eq_unread hf14; obtain rfl := harg15.eq_unread hf15; obtain rfl := harg16.eq_unread hf16
  sl_exec (disch := first | sl_exact hc0 | sl_exact hc1 | sl_exact hc2)
  sl_step
  have e0 : body_mid.sl.r c arg2 harg2 x0 = k0_pay21 x0 := by
    delta body_mid.sl.r; rw [View.readAt_full, harg2.read_unread]
  have e1 : body_mid.sl.r_1 c arg8 harg8 x6 = k0_pay22 x6 := by
    delta body_mid.sl.r_1; rw [View.readAt_full, harg8.read_unread]
  have e2 : body_mid.sl.r_2 c arg3 harg3 arg4 harg4 x1 x2 = k0_pay23 x1 x2 := by
    delta body_mid.sl.r_2; rw [View.readAt_full, harg3.read_unread, View.readAt_full, harg4.read_unread]
  have e3 : body_mid.sl.r_3 c arg5 harg5 arg6 harg6 x3 x4 = k0_pay24 x3 x4 := by
    delta body_mid.sl.r_3; rw [View.readAt_full, harg5.read_unread, View.readAt_full, harg6.read_unread]
  have e4 : body_mid.sl.r_4 c arg8 harg8 arg9 harg9 x6 x7 = k0_pay25 x6 x7 := by
    delta body_mid.sl.r_4; rw [View.readAt_full, harg8.read_unread, View.readAt_full, harg9.read_unread]
  have e5 : body_mid.sl.r_5 c arg2 harg2 arg3 harg3 arg4 harg4 arg14 harg14 x0 x1 x2 xb = k0_pay26 x0 x1 x2 (window xb ![0, 0] S256x768.size inb_S512x1024_S256x768_0_0) := by
    delta body_mid.sl.r_5; rw [View.readAt_full, harg2.read_unread, View.readAt_full, harg3.read_unread, View.readAt_full, harg4.read_unread, View.readAt_unit _ _ _ rfl inb_S512x1024_S256x768_0_0, harg14.read_unread]
  have e7 : body_mid.sl.r_7 c i arg2 harg2 arg3 harg3 arg4 harg4 arg14 harg14 x0 x1 x2 xb = prob0 (BitVec.ofNat 32 (i 1).val) x0 x1 x2 xb := by
    delta body_mid.sl.r_7; rw [e5]; rfl
  have e8 : body_mid.sl.r_8 c i arg2 harg2 arg3 harg3 arg4 harg4 arg14 harg14 x0 x1 x2 xb = prob1 (BitVec.ofNat 32 (i 1).val) x0 x1 x2 xb := by
    delta body_mid.sl.r_8; rw [e0, e2, View.readAt_unit _ _ _ rfl inb_S512x1024_S256x768_256_256, harg14.read_unread]; rfl
  have e9 : body_mid.sl.r_9 c arg5 harg5 arg6 harg6 arg8 harg8 x3 x4 x6 = dp0 x3 x4 x6 := by
    delta body_mid.sl.r_9; rw [e1, e3]; rfl
  have e10 : body_mid.sl.r_10 c arg8 harg8 arg9 harg9 x6 x7 = dl0 x6 x7 := by
    delta body_mid.sl.r_10; rw [e4]; rfl
  have e11 : body_mid.sl.r_11 c i arg2 harg2 arg3 harg3 arg4 harg4 arg5 harg5 arg6 harg6 arg8 harg8 arg9 harg9 arg14 harg14 x0 x1 x2 x3 x4 x6 x7 xb = dsc1 (BitVec.ofNat 32 (i 1).val) x0 x1 x2 x3 x4 x6 x7 xb := by
    delta body_mid.sl.r_11; rw [e1, e3, e4, e8]; rfl
  have e12 : body_mid.sl.r_12 c i arg2 harg2 arg3 harg3 arg4 harg4 arg5 harg5 arg6 harg6 arg8 harg8 arg9 harg9 arg14 harg14 x0 x1 x2 x3 x4 x6 x7 xb = dkh (BitVec.ofNat 32 (i 1).val) x0 x1 x2 x3 x4 x6 x7 xb := by
    delta body_mid.sl.r_12; rw [e0, e7, e9, e10]; rfl
  have e13 : body_mid.sl.r_13 c i arg2 harg2 arg3 harg3 arg4 harg4 arg8 harg8 arg14 harg14 x0 x1 x2 x6 xb = dvh (BitVec.ofNat 32 (i 1).val) x0 x1 x2 x6 xb := by
    delta body_mid.sl.r_13; rw [e1, e7]; rfl
  have e14 : body_mid.sl.r_14 c i arg2 harg2 arg3 harg3 arg4 harg4 arg5 harg5 arg6 harg6 arg8 harg8 arg9 harg9 arg14 harg14 x0 x1 x2 x3 x4 x6 x7 xb = dsr1 (BitVec.ofNat 32 (i 1).val) x0 x1 x2 x3 x4 x6 x7 xb := by
    delta body_mid.sl.r_14; rw [e1, e3, e4, e8]; rfl
  have e15 : body_mid.sl.r_15 c arg13 harg13 xd = k0_pay42 (window xd ![0, 256, 256] S1x256x768.size inb_S1x512x1024_S1x256x768_0_256_256) := by
    delta body_mid.sl.r_15; delta body_mid.sl.v125; rw [View.readAt_unit _ _ _ rfl inb_S1x512x1024_S1x256x768_0_256_256, harg13.read_unread]
  have e16 : body_mid.sl.r_16 c i arg2 harg2 arg3 harg3 arg4 harg4 arg8 harg8 arg14 harg14 x0 x1 x2 x6 xb = k0_pay46 (k0_pay22 x6) (prob1 (BitVec.ofNat 32 (i 1).val) x0 x1 x2 xb) (dvh (BitVec.ofNat 32 (i 1).val) x0 x1 x2 x6 xb) := by
    delta body_mid.sl.r_16; rw [e1, e8, e13]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    rw [e1, e2, e3, e4, e7, e8, e9, e10]
    exact View.read_writes_of_cover _ _ scK.view scK.view.junk (dqPieces (BitVec.ofNat 32 (i 1).val) x0 x1 x2 x3 x4 x6 x7 xb) (dq_cover (BitVec.ofNat 32 (i 1).val) x0 x1 x2 x3 x4 x6 x7 xb)
  isplitl [H9]
  · iexists _; isplitr
    swap; · iexact H9
    ipureintro
    rw [View.read_writes_full, View.readAt_full, harg15.read_unread, e0, e12, e14]; rfl
  isplitl [H10]
  · iexists _; isplitr
    swap; · iexact H10
    ipureintro
    rw [View.read_writes_full, View.readAt_full, harg16.read_unread, e1, e8, e13]; rfl
  isplitl [H11]
  · iexists _; isplitr
    swap; · iexact H11
    ipureintro
    rw [View.read_writes_cons_put _ _ _ _ _ rfl, View.read_writes_cons_put _ _ _ _ _ rfl, View.readAt_unit _ _ _ rfl inb_S1x512x1024_S1x256x768_0_0_0]
    change VecWindow.put (VecWindow.put (View.read (Elt F) arg13.view (harg13.unread xd)) _ _ _) _ _ _ = _
    rw [harg13.read_unread, e7, e9, e10, e11, e15]; rfl
  isplitl [HS0]
  · iexists _; isplitr
    swap; · iexact HS0
    ipureintro
    exact harg14.read_unread _
  isplitl [HS1]
  · iexists _; isplitr
    swap; · iexact HS1
    ipureintro
    rw [View.read_writes_full, e0, e12, e14]; rfl
  iexists _; isplitr
  swap; · iexact HS2
  ipureintro
  refine (View.read_writes_full _ _ _ _ _).trans ?_; rw [e16]; rfl

end Cert.KernelIdeal.Run

end
-- ==== Proof.Run.Rest.lean ====
/- The run of the chunked gradient's body at the point after a head's last window. -/
module

public import proofs.«01_k».proof.Proof.Run.Base

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- The point after a head's last window. -/
theorem body_rest (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x1x2048 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x512x1024 .f32) (harg13 : arg13.IsWhole) (arg14 : Memref sig .tc .vmem S512x1024 .f32) (harg14 : arg14.IsWhole) (arg15 : Memref sig .tc .vmem S512x128 .f32) (harg15 : arg15.IsWhole) (arg16 : Memref sig .tc .vmem S512x128 .f32) (harg16 : arg16.IsWhole) (hc0 : ¬first i) (hc1 : ¬query i) (hc2 : rest i)
    (x0 : Vec F S512x128 .bf16) (x1 : Vec F S512x128 .bf16) (x2 : Vec F S512x128 .bf16) (x3 : Vec F S512x128 .bf16) (x4 : Vec F S512x128 .bf16) (x5 : Vec F S1x1x2048 .f32) (x6 : Vec F S512x128 .bf16) (x7 : Vec F S512x128 .bf16)
    (xb : Vec F S512x1024 .f32) (xk xv : Vec F S512x128 .f32) (xd : Vec F S1x512x1024 .f32) (x8 : Vec F S512x128 .f32) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ (∃ d, owns (c : Thread nD τ) arg11 fullShare d) ∗ (∃ d, owns (c : Thread nD τ) arg12 fullShare d) ∗ owns (c : Thread nD τ) arg13 fullShare (xd) ∗ owns (c : Thread nD τ) arg14 fullShare (xb) ∗ owns (c : Thread nD τ) arg15 fullShare (xk) ∗ owns (c : Thread nD τ) arg16 fullShare (xv) ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ owns (c : Thread nD τ) arg11 fullShare (xk) ∗ owns (c : Thread nD τ) arg12 fullShare (xv) ∗ owns (c : Thread nD τ) arg13 fullShare (xd) ∗ owns (c : Thread nD τ) arg14 fullShare (xb) ∗ owns (c : Thread nD τ) arg15 fullShare (xk) ∗ owns (c : Thread nD τ) arg16 fullShare (xv)) -∗ K ⟨⟩))
      ⊢ wp frame (wpE (defs₀ (F := F)) Variants.none c none) E (cc0_chunk_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_chunk_bwd_eq_skeleton]; unfold cc0_chunk_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H8⟩, ⟨%d11, %f11, -, H9⟩, ⟨%d12, %f12, -, H10⟩, ⟨%f13, %hf13, H11⟩, ⟨%f14, %hf14, HS0⟩, ⟨%f15, %hf15, HS1⟩, ⟨%f16, %hf16, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg10.eq_unread hf10; obtain rfl := harg13.eq_unread hf13; obtain rfl := harg14.eq_unread hf14; obtain rfl := harg15.eq_unread hf15; obtain rfl := harg16.eq_unread hf16
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    exact harg10.read_unread _
  isplitl [H9]
  · iexists _; isplitr
    swap; · iexact H9
    ipureintro
    rw [View.read_writes_full, View.readAt_full, harg15.read_unread]
  isplitl [H10]
  · iexists _; isplitr
    swap; · iexact H10
    ipureintro
    rw [View.read_writes_full, View.readAt_full, harg16.read_unread]
  isplitl [H11]
  · iexists _; isplitr
    swap; · iexact H11
    ipureintro
    exact harg13.read_unread _
  isplitl [HS0]
  · iexists _; isplitr
    swap; · iexact HS0
    ipureintro
    exact harg14.read_unread _
  isplitl [HS1]
  · iexists _; isplitr
    swap; · iexact HS1
    ipureintro
    exact harg15.read_unread _
  iexists _; isplitr
  swap; · iexact HS2
  ipureintro
  exact harg16.read_unread _

end Cert.KernelIdeal.Run

end
-- ==== Proof.Run.Region.lean ====
/- The region of the chunked gradient: what each point leaves, the body obligation, the run and the frame. -/
module

public import proofs.«01_k».proof.Proof.Run.First
public import proofs.«01_k».proof.Proof.Run.Mid
public import proofs.«01_k».proof.Proof.Run.Rest
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points leave -/

/-- What a point leaves: the blocks of dq, dk, dv, the sum of the score gradients, the band's bias and the two carries. -/
structure St (F : FTy → Type) [FloatOps F] [Named F] where
  dq : Vec F S512x128 .f32
  dk : Vec F S512x128 .f32
  dv : Vec F S512x128 .f32
  ds : Vec F S1x512x1024 .f32
  b : Vec F S512x1024 .f32
  ck : Vec F S512x128 .f32
  cv : Vec F S512x128 .f32

/-- A window of queries over the bias `b`, the carries `ck`, `cv` and the sum `d`. -/
def windowAt (c : Dev nD) (t : Fin cfg0.N) (b : Vec F S512x1024 .f32) (ck cv : Vec F S512x128 .f32) (d : Vec F S1x512x1024 .f32) : St F where
  dq := dqOf (BitVec.ofNat 32 (grid0.coords t 1).val) (iblk m c 0 t) (iblk m c 1 t) (iblk m c 2 t) (iblk m c 3 t) (iblk m c 4 t) (iblk m c 6 t) (iblk m c 7 t) b
  dk := dkOf (BitVec.ofNat 32 (grid0.coords t 1).val) (iblk m c 0 t) (iblk m c 1 t) (iblk m c 2 t) (iblk m c 3 t) (iblk m c 4 t) (iblk m c 6 t) (iblk m c 7 t) b ck
  dv := dvOf (BitVec.ofNat 32 (grid0.coords t 1).val) (iblk m c 0 t) (iblk m c 1 t) (iblk m c 2 t) (iblk m c 6 t) b cv
  ds := dsOf (BitVec.ofNat 32 (grid0.coords t 1).val) (iblk m c 0 t) (iblk m c 1 t) (iblk m c 2 t) (iblk m c 3 t) (iblk m c 4 t) (iblk m c 6 t) (iblk m c 7 t) b d
  b := b
  ck := ckOf (BitVec.ofNat 32 (grid0.coords t 1).val) (iblk m c 0 t) (iblk m c 1 t) (iblk m c 2 t) (iblk m c 3 t) (iblk m c 4 t) (iblk m c 6 t) (iblk m c 7 t) b
  cv := cvOf (BitVec.ofNat 32 (grid0.coords t 1).val) (iblk m c 0 t) (iblk m c 1 t) (iblk m c 2 t) (iblk m c 6 t) b

/-- One point, from what the point before left. -/
def stepAt (c : Dev nD) (t : Fin cfg0.N) (s : St F) : St F :=
  if t.val % 9 = 0 then windowAt m c t (biasOf (iblk m c 5 t)) k0_pay4 k0_pay5 k0_pay3
  else if t.val % 9 = 8 then { s with dk := s.ck, dv := s.cv }
  else windowAt m c t s.b s.ck s.cv s.ds

/-- The points one after the other. -/
def stAt (c : Dev nD) : (n : ℕ) → n < cfg0.N → St F
  | 0, h => stepAt m c ⟨0, h⟩ ⟨k0_pay4, k0_pay4, k0_pay4, k0_pay3, biasOf (iblk m c 5 ⟨0, h⟩), k0_pay4, k0_pay4⟩
  | n + 1, h => stepAt m c ⟨n + 1, h⟩ (stAt c n (Nat.lt_of_succ_lt h))

theorem st_first (c : Dev nD) (t : Fin cfg0.N) (h : t.val % 9 = 0) :
    stAt m c t.val t.isLt = windowAt m c t (biasOf (iblk m c 5 t)) k0_pay4 k0_pay5 k0_pay3 := by
  obtain ⟨n, hn⟩ := t
  cases n with
  | zero => show stepAt m c ⟨0, hn⟩ _ = _; unfold stepAt; rw [if_pos h]
  | succ n => show stepAt m c ⟨n + 1, hn⟩ _ = _; unfold stepAt; rw [if_pos h]

theorem st_mid (c : Dev nD) (t : Fin cfg0.N) (h0 : ¬ t.val % 9 = 0) (h1 : ¬ t.val % 9 = 8) (s : St F)
    (hs : stAt m c (t.val - 1) (Nat.lt_of_le_of_lt (Nat.sub_le _ _) t.isLt) = s) :
    stAt m c t.val t.isLt = windowAt m c t s.b s.ck s.cv s.ds := by
  subst hs; obtain ⟨n, hn⟩ := t
  cases n with
  | zero => exact absurd rfl h0
  | succ n => exact (if_neg h0).trans (if_neg h1)

theorem st_rest (c : Dev nD) (t : Fin cfg0.N) (h1 : t.val % 9 = 8) (s : St F)
    (hs : stAt m c (t.val - 1) (Nat.lt_of_le_of_lt (Nat.sub_le _ _) t.isLt) = s) :
    stAt m c t.val t.isLt = { s with dk := s.ck, dv := s.cv } := by
  subst hs; obtain ⟨n, hn⟩ := t
  have h0 : ¬ n % 9 = 0 := fun h => by have h1 : n % 9 = 8 := h1; omega
  cases n with
  | zero => exact absurd rfl h0
  | succ n => exact (if_neg h0).trans (if_pos h1)

/-! ## The region's proof data -/

/-- The kernel's own buffers before point `n`. -/
def PhiS (c : Dev nD) : (n : ℕ) → n ≤ cfg0.N → sProp 𝕄
  | 0, _ => Pipeline.ΦA spec0 c
  | n + 1, hn => iprop(iprop(owns (c : Thread nD τ) scB fullShare (stAt m c n hn).b ∗ owns (c : Thread nD τ) scK fullShare (stAt m c n hn).ck ∗ owns (c : Thread nD τ) scV fullShare (stAt m c n hn).cv) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scB fullShare (stAt m c n hn).b ∗ owns (c : Thread nD τ) scK fullShare (stAt m c n hn).ck ∗ owns (c : Thread nD τ) scV fullShare (stAt m c n hn).cv) ∗ (∃ r, prngReg c r)) := rfl

theorem PhiS_pos (c : Dev nD) (n : ℕ) (h : n ≤ cfg0.N) (hz : n ≠ 0) :
    PhiS m c n h = iprop(iprop(owns (c : Thread nD τ) scB fullShare (stAt m c (n - 1) (by omega)).b ∗ owns (c : Thread nD τ) scK fullShare (stAt m c (n - 1) (by omega)).ck ∗ owns (c : Thread nD τ) scV fullShare (stAt m c (n - 1) (by omega)).cv) ∗ (∃ r, prngReg c r)) := by
  cases n with
  | zero => exact absurd rfl hz
  | succ n => rfl

/-- What the windows hold after the body at each point: an input its block, an output what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).dq
    | ⟨9, _⟩ => (stAt m c t.val t.isLt).dk
    | ⟨10, _⟩ => (stAt m c t.val t.isLt).dv
    | ⟨11, _⟩ => (stAt m c t.val t.isLt).ds
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (stAt m c t.val t.isLt).dq := by dsimp only [dats]
theorem after0_9 (c : Dev nD) (t : Fin cfg0.N) : (dats m 0 c).after 9 t = (stAt m c t.val t.isLt).dk := by dsimp only [dats]
theorem after0_10 (c : Dev nD) (t : Fin cfg0.N) : (dats m 0 c).after 10 t = (stAt m c t.val t.isLt).dv := by dsimp only [dats]
theorem after0_11 (c : Dev nD) (t : Fin cfg0.N) : (dats m 0 c).after 11 t = (stAt m c t.val t.isLt).ds := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- dq's block is written back at every point but a head's last window's: the point after it has the same block. -/
theorem flush8 : ∀ t : Fin cfg0.N, (cfg0.win 8).flush t = true ↔ t.val % 9 ≠ 7 :=
  (by decide +kernel : ∀ t : Fin grid0.N, win0_8.flush t = true ↔ t.val % 9 ≠ 7)

/-- dq's block is stored at every point but a head's last, the sum of the score gradients likewise. -/
theorem live8 : ∀ t : Fin cfg0.N, t.val % 9 ≠ 8 → cfg0.idle 8 (grid0.coords t) = false :=
  (by decide +kernel : ∀ t : Fin grid0.N, t.val % 9 ≠ 8 → idle0 8 (grid0.coords t) = false)
theorem live9 : ∀ t : Fin cfg0.N, cfg0.idle 9 (grid0.coords t) = false :=
  (by decide +kernel : ∀ t : Fin grid0.N, idle0 9 (grid0.coords t) = false)
theorem live10 : ∀ t : Fin cfg0.N, cfg0.idle 10 (grid0.coords t) = false :=
  (by decide +kernel : ∀ t : Fin grid0.N, idle0 10 (grid0.coords t) = false)
theorem live11 : ∀ t : Fin cfg0.N, t.val % 9 ≠ 8 → cfg0.idle 11 (grid0.coords t) = false :=
  (by decide +kernel : ∀ t : Fin grid0.N, t.val % 9 ≠ 8 → idle0 11 (grid0.coords t) = false)

/-- A buffer stored at a point and not written back there holds, at the next point, what that point stored. -/
theorem before_kept (c : Dev nD) (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hlive : cfg0.idle w (grid0.coords ⟨t.val - 1, Nat.lt_of_le_of_lt (Nat.sub_le _ _) t.isLt⟩) = false)
    (hclip : ∀ (i : grid0.Coords) a, (cfg0.win w).clip i a = none) (d) :
    (dats m 0 c).before w t d = (dats m 0 c).after w ⟨t.val - 1, Nat.lt_of_le_of_lt (Nat.sub_le _ _) t.isLt⟩ := by
  rw [(dats m 0 c).before_of_pos w t ht (by unfold Window.fetch; rw [hw]; rfl) d, hfl, if_neg Bool.false_ne_true]
  unfold Dat.left
  rw [show cfg0.idle w (cfg0.grid.coords ⟨t.val - 1, Nat.lt_of_le_of_lt (Nat.sub_le _ _) t.isLt⟩) = false from hlive]
  show (dats m 0 c).kept w _ d = _
  unfold Dat.kept
  rw [Pipeline.fill_of_clip_none w _ (hclip _) d ((dats m 0 c).after w _), Window.fill_cut]

/-- So that point finds there what the window before it left. -/
theorem before0_8 (c : Dev nD) (t : Fin cfg0.N) (h : t.val % 9 = 8) (d) :
    (dats m 0 c).before 8 t d = (stAt m c (t.val - 1) (Nat.lt_of_le_of_lt (Nat.sub_le _ _) t.isLt)).dq :=
  (before_kept m c 8 rfl t (by omega) (Bool.eq_false_iff.mpr fun hf => (flush8 _).mp hf (by show (t.val - 1) % 9 = 7; omega))
    (live8 _ (by show (t.val - 1) % 9 ≠ 8; omega)) (fun _ _ => rfl) d).trans
    (after0_8 m c _)

/-- The sum of the score gradients is written back at a head's last point only: at every point but the first it holds what
    the point before left. -/
theorem before0_11 (c : Dev nD) (t : Fin cfg0.N) (h : ¬ t.val % 9 = 0) (d) :
    (dats m 0 c).before 11 t d = (stAt m c (t.val - 1) (Nat.lt_of_le_of_lt (Nat.sub_le _ _) t.isLt)).ds :=
  (before_kept m c 11 rfl t (by omega) (Bool.eq_false_iff.mpr fun hf => by have h8 : (t.val - 1) % 9 = 8 := (flush0_11 _).mp hf; omega)
    (live11 _ (by show (t.val - 1) % 9 ≠ 8; omega)) (fun _ _ => rfl) d).trans
    (after0_11 m c _)

/-- A buffer stored at a point, or written back there, is left at what the point leaves in it. -/
theorem leaves_eq (c : Dev nD) (w : Fin cfg0.W) (t : Fin cfg0.N)
    (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

theorem leaves0_0 (c : Dev nD) (t : Fin cfg0.N) :
    (dats m 0 c).leavesExact 0 t = owns (c : Thread nD τ) (ms0 t) fullShare ((dats m 0 c).after 0 t) :=
  leaves_eq m c 0 t (Or.inl rfl)
theorem leaves0_1 (c : Dev nD) (t : Fin cfg0.N) :
    (dats m 0 c).leavesExact 1 t = owns (c : Thread nD τ) (ms1 t) fullShare ((dats m 0 c).after 1 t) :=
  leaves_eq m c 1 t (Or.inl rfl)
theorem leaves0_2 (c : Dev nD) (t : Fin cfg0.N) :
    (dats m 0 c).leavesExact 2 t = owns (c : Thread nD τ) (ms2 t) fullShare ((dats m 0 c).after 2 t) :=
  leaves_eq m c 2 t (Or.inl rfl)
theorem leaves0_3 (c : Dev nD) (t : Fin cfg0.N) :
    (dats m 0 c).leavesExact 3 t = owns (c : Thread nD τ) (ms3 t) fullShare ((dats m 0 c).after 3 t) :=
  leaves_eq m c 3 t (Or.inl rfl)
theorem leaves0_4 (c : Dev nD) (t : Fin cfg0.N) :
    (dats m 0 c).leavesExact 4 t = owns (c : Thread nD τ) (ms4 t) fullShare ((dats m 0 c).after 4 t) :=
  leaves_eq m c 4 t (Or.inl rfl)
theorem leaves0_5 (c : Dev nD) (t : Fin cfg0.N) :
    (dats m 0 c).leavesExact 5 t = owns (c : Thread nD τ) (ms5 t) fullShare ((dats m 0 c).after 5 t) :=
  leaves_eq m c 5 t (Or.inl rfl)
theorem leaves0_6 (c : Dev nD) (t : Fin cfg0.N) :
    (dats m 0 c).leavesExact 6 t = owns (c : Thread nD τ) (ms6 t) fullShare ((dats m 0 c).after 6 t) :=
  leaves_eq m c 6 t (Or.inl rfl)
theorem leaves0_7 (c : Dev nD) (t : Fin cfg0.N) :
    (dats m 0 c).leavesExact 7 t = owns (c : Thread nD τ) (ms7 t) fullShare ((dats m 0 c).after 7 t) :=
  leaves_eq m c 7 t (Or.inl rfl)
theorem leaves0_8 (c : Dev nD) (t : Fin cfg0.N) :
    (dats m 0 c).leavesExact 8 t = owns (c : Thread nD τ) (ms8 t) fullShare ((dats m 0 c).after 8 t) :=
  leaves_eq m c 8 t (if h : t.val % 9 = 8 then Or.inr ((flush8 t).mpr (by omega)) else Or.inl (live8 t h))
theorem leaves0_9 (c : Dev nD) (t : Fin cfg0.N) :
    (dats m 0 c).leavesExact 9 t = owns (c : Thread nD τ) (ms9 t) fullShare ((dats m 0 c).after 9 t) :=
  leaves_eq m c 9 t (Or.inl (live9 t))
theorem leaves0_10 (c : Dev nD) (t : Fin cfg0.N) :
    (dats m 0 c).leavesExact 10 t = owns (c : Thread nD τ) (ms10 t) fullShare ((dats m 0 c).after 10 t) :=
  leaves_eq m c 10 t (Or.inl (live10 t))
theorem leaves0_11 (c : Dev nD) (t : Fin cfg0.N) :
    (dats m 0 c).leavesExact 11 t = owns (c : Thread nD τ) (ms11 t) fullShare ((dats m 0 c).after 11 t) :=
  leaves_eq m c 11 t (if h : t.val % 9 = 8 then Or.inr ((flush0_11 t).mpr h) else Or.inl (live11 t h))

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves0_0, leaves0_1, leaves0_2, leaves0_3, leaves0_4, leaves0_5, leaves0_6, leaves0_7, leaves0_8, leaves0_9, leaves0_10, leaves0_11]
  simp only [before0_0, before0_1, before0_2, before0_3, before0_4, before0_5, before0_6, before0_7, after0_0, after0_1, after0_2, after0_3, after0_4, after0_5, after0_6, after0_7, after0_8, after0_9, after0_10, after0_11]
  rw [show (dats m 0 c).owesAt () t.succ = (dats m 0 c).owesAt () t.castSucc from rfl]
  rw [show (dats m 0 c).Φ t.succ = PhiS m c (t.val + 1) t.isLt from rfl, PhiS_succ]
  by_cases h0 : t.val % 9 = 0
  · have c0 : first (grid0.coords t) := (first_iff t).mpr h0
    have c1 : query (grid0.coords t) := (query_iff t).mpr (by omega)
    have c2 : ¬rest (grid0.coords t) := fun h => by have := (rest_iff t).mp h; omega
    by_cases hz : t.val = 0
    · rw [PhiS_castSucc m c t, PhiS_zero m c _ _ hz, inv_eq]
      rw [st_first m c t h0]; unfold windowAt; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (body_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scB (Memref.isWhole_whole _) scK (Memref.isWhole_whole _) scV (Memref.isWhole_whole _) c0 c1 c2 (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, H8, H9, H10, H11, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_castSucc m c t, PhiS_pos m c _ _ hz]
      rw [st_first m c t h0]; unfold windowAt; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (body_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scB (Memref.isWhole_whole _) scK (Memref.isWhole_whole _) scV (Memref.isWhole_whole _) c0 c1 c2 (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexists _; iexact HS0
      isplitl [HS1]; · iexists _; iexact HS1
      isplitl [HS2]; · iexists _; iexact HS2
      iintro ⟨H0, H1, H2, H3, H4, H5, H6, H7, H8, H9, H10, H11, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  have hz : t.val ≠ 0 := fun h => h0 (by rw [h])
  obtain ⟨s, hs⟩ : ∃ s, stAt m c (t.val - 1) (Nat.lt_of_le_of_lt (Nat.sub_le _ _) t.isLt) = s := ⟨_, rfl⟩
  have c0 : ¬first (grid0.coords t) := fun h => h0 ((first_iff t).mp h)
  by_cases h1 : t.val % 9 = 8
  · have c1 : ¬query (grid0.coords t) := fun h => by have := (query_iff t).mp h; omega
    have c2 : rest (grid0.coords t) := (rest_iff t).mpr h1
    rw [PhiS_castSucc m c t, PhiS_pos m c _ _ hz]
    simp only [before0_8 m c t h1, before0_11 m c t h0, st_rest m c t h1 s hs, hs]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_rest c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scB (Memref.isWhole_whole _) scK (Memref.isWhole_whole _) scV (Memref.isWhole_whole _) c0 c1 c2 (iblk m c 0 t) (iblk m c 1 t) (iblk m c 2 t) (iblk m c 3 t) (iblk m c 4 t) (iblk m c 5 t) (iblk m c 6 t) (iblk m c 7 t) s.b s.ck s.cv s.ds s.dq Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have c1 : query (grid0.coords t) := (query_iff t).mpr (by omega)
    have c2 : ¬rest (grid0.coords t) := fun h => h1 ((rest_iff t).mp h)
    rw [PhiS_castSucc m c t, PhiS_pos m c _ _ hz]
    simp only [before0_11 m c t h0, st_mid m c t h0 h1 s hs, hs]; unfold windowAt; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scB (Memref.isWhole_whole _) scK (Memref.isWhole_whole _) scV (Memref.isWhole_whole _) c0 c1 c2 (iblk m c 0 t) (iblk m c 1 t) (iblk m c 2 t) (iblk m c 3 t) (iblk m c 4 t) (iblk m c 5 t) (iblk m c 6 t) (iblk m c 7 t) s.b s.ck s.cv s.ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have ht : (Fin.last cfg0.N).val ≠ 0 := by rw [Fin.val_last]; have : cfg0.N = 144 := N_0; omega
  rw [show (dats m 0 c).Φ (Fin.last cfg0.N) = PhiS m c (Fin.last cfg0.N).val (Nat.le_of_lt_succ (Fin.last cfg0.N).isLt) from rfl, PhiS_pos m c _ _ ht, inv_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every execution ends, with the arrays at what the points left in them and the semaphores at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The frame: the arguments end as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Idealize.ShloMosaic.θ_run_and (frame_of m ρ (dats m) (A_eq m) (run m ρ)) ((θ_run defs _ _).mono (fun _ h => h.2) (run_quiescent m ρ))

end Cert.KernelIdeal.Run

end
-- ==== Proof.Mlp.Cols.lean ====
/- The MLP's hidden columns: eight groups of 1024. -/
module

public import Idealize.ShloMosaic.Lib.Pointwise

@[expose] public section

namespace Cert.Mlp

open Idealize.ShloMosaic

/-- The group of a hidden column, -/
abbrev grp (l : Fin 8192) : Fin 8 := ⟨l.val / 1024, by omega⟩

/-- its place in the group, -/
abbrev lane (l : Fin 8192) : Fin 1024 := ⟨l.val % 1024, by omega⟩

/-- The word of the number two. -/
theorem word_two : Ideal.ofBits .f32 1073741824#32 = 2 := by
  simp [Ideal.ofBits, Ideal.ieee]
  rw [← EReal.coe_mul]
  norm_num
  rfl

/-- and the column at a place of a group. -/
abbrev col (g : Fin 8) (q : Fin 1024) : Fin 8192 := ⟨g.val * 1024 + q.val, by omega⟩

end Cert.Mlp
-- ==== Proof.Mlp.Up.lean ====
/- The MLP's first product: the call's results, the rectified product and its square. -/
module

public import proofs.«01_k».proof.Proof.Gen.UpIdeal.Value
public import proofs.«01_k».proof.Proof.Mlp.Cols
public import Idealize.ShloMosaic.Lib.Pipeline.ValueKit
public import Idealize.ShloMosaic.Lib.Pointwise

@[expose] public section

set_option maxRecDepth 16384

noncomputable section

namespace Cert.UpIdeal.Val

open Cert.UpIdeal Cert.UpIdeal.Gen Cert.Mlp
open Idealize.ShloMosaic Idealize.ShloMosaic.TcCoe Idealize.SL.Sem
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x2048 .bf16) (y : FVec Ideal S1x2048x1024 .bf16) (j) :
    k0_pay2 acc x y j = acc j + ∑ k : Fin 2048, x (ix2 (j 0) k) * y (ix3 0 k (j 1)) := by
  pointwise [k0_pay2]

/-- The blocks that a grid point works on. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] := (by decide +kernel : ∀ t : Fin grid0.N, _)

/-- The two results are read off the accumulator. -/
theorem hrelu (x : FVec Ideal S1024x1024 .f32) (j) : (k0_pay4 (F := Ideal) x j : EReal) = max (x j : EReal) 0 := by pointwise [k0_pay4, k0_pay3]
theorem hsq (x : FVec Ideal S1024x1024 .f32) (j) : (k0_pay5 (F := Ideal) x j : EReal) = max (x j : EReal) 0 * max (x j : EReal) 0 := by pointwise [k0_pay5, k0_pay3]

theorem out_relu (t : Fin cfg0.N) : (outsAt0 m c t).1 = k0_pay4 (k0_pay2 k0_pay1 (iblk m c 0 t) (iblk m c 1 t)) := by
  unfold outsAt0
  frame_out

theorem out_sq (t : Fin cfg0.N) : (outsAt0 m c t).2 = k0_pay5 (k0_pay2 k0_pay1 (iblk m c 0 t) (iblk m c 1 t)) := by
  unfold outsAt0
  frame_out

/-- The arrays as the call finds them, -/
abbrev X : FVec Ideal S4096x2048 .bf16 := V m c main_v0
abbrev Y : FVec Ideal S8x2048x1024 .bf16 := V m c main_v1

/-- and an entry of their product. -/
abbrev pre (i : S4096x8192.Idx) : EReal := ∑ k : Fin 2048, X m c (ix2 (i 0) k) * Y m c (ix3 (grp (i 1)) k (lane (i 1)))

theorem final_relu : (dats m 0 c).arrAt 2 (cfgs 0).N = fun i : S4096x8192.Idx => max (pre m c i) 0 := by
  refine (dats m 0 c).arrAt_eq_of_covers 2 _ (by decide +kernel) fun t hf y => ?_
  blk_simp
  rw [after0_2, out_relu m c t, hrelu, hpay, hzero, zero_add]
  refine congrArg (fun s : EReal => max s 0) ?_
  unfold pre
  blk_point [iblk, idx t, grp, lane]

theorem final_square : (dats m 0 c).arrAt 3 (cfgs 0).N = fun i : S4096x8192.Idx => max (pre m c i) 0 * max (pre m c i) 0 := by
  refine (dats m 0 c).arrAt_eq_of_covers 3 _ (by decide +kernel) fun t hf y => ?_
  blk_simp
  rw [after0_3, out_sq m c t, hsq, hpay, hzero, zero_add]
  refine congrArg (fun s : EReal => max s 0 * max s 0) ?_
  unfold pre
  blk_point [iblk, idx t, grp, lane]

end Cert.UpIdeal.Val

end
-- ==== Proof.Mlp.Rect.lean ====
/- The rectified hidden layer and the gradient through it. -/
module

public import proofs.«01_k».proof.Proof.Mlp.Cols

@[expose] public section

noncomputable section

namespace Cert.Mlp

open Idealize.ShloMosaic

/-- The first product, its columns in eight groups, -/
abbrev pre (n : Fin 4096 → Fin 2048 → EReal) (w : Fin 8 → Fin 2048 → Fin 1024 → EReal) (t : Fin 4096) (l : Fin 8192) : EReal :=
  ∑ k : Fin 2048, n t k * w (grp l) k (lane l)

/-- its positive part, -/
abbrev act (n : Fin 4096 → Fin 2048 → EReal) (w : Fin 8 → Fin 2048 → Fin 1024 → EReal) (t : Fin 4096) (l : Fin 8192) : EReal :=
  max (pre n w t l) 0

/-- the gradient that comes back to the hidden layer, -/
abbrev back (dy : Fin 4096 → Fin 2048 → EReal) (w : Fin 8192 → Fin 2048 → EReal) (t : Fin 4096) (l : Fin 8192) : EReal :=
  ∑ k : Fin 2048, dy t k * w l k

/-- and that gradient times twice the positive part. -/
abbrev grad (n : Fin 4096 → Fin 2048 → EReal) (w1 : Fin 8 → Fin 2048 → Fin 1024 → EReal) (w2 : Fin 8192 → Fin 2048 → EReal)
    (dy : Fin 4096 → Fin 2048 → EReal) (t : Fin 4096) (l : Fin 8192) : EReal :=
  back dy w2 t l * (2 * act n w1 t l)

/-- A nonnegative number's products on both sides add up to the product with its double, whatever the factor. -/
theorem both_sides (g a : EReal) (h : 0 ≤ a) : a * g + g * a = g * (2 * a) := by
  have e : (2 : EReal) * a = a + a := by
    rw [← one_add_one_eq_two, EReal.right_distrib_of_nonneg zero_le_one zero_le_one, one_mul]
  rw [e, EReal.left_distrib_of_nonneg h h, mul_comm a g]

/-- The derivative of the squared positive part: the sign's case makes no difference, since the positive part is zero there. -/
theorem rect_grad (p g : EReal) : Scalar.select (FloatOps.cmpf (F := Ideal) (φ := .f32) .ogt p (0 : EReal)) (max p 0 * g + g * max p 0) (0 : EReal)
    = g * (2 * max p 0) := by
  rw [both_sides g _ (le_max_right _ _)]
  by_cases h : 0 < p
  · have e : FloatOps.cmpf (F := Ideal) (φ := .f32) .ogt p (0 : EReal) = 1#1 := by
      simp [Ideal.cmpf_def, Ideal.cmp, h]
    rw [e]; rfl
  · have e : FloatOps.cmpf (F := Ideal) (φ := .f32) .ogt p (0 : EReal) = 0#1 := by
      simp [Ideal.cmpf_def, Ideal.cmp, h]
    rw [e, max_eq_right (not_lt.mp h), mul_zero, mul_zero]; rfl

end Cert.Mlp

end
-- ==== Proof.Mlp.Layer.lean ====
/- The host's lines about the hidden layer, entry by entry: the layer itself and the gradient that comes back to it, in
   the two forms in which it is computed. -/
module

public import proofs.«01_k».proof.Proof.Mlp.Rect
public import proofs.«01_k».proof.Proof.Gen.DnIdeal
public import proofs.«01_k».proof.Proof.Gen.DnRefIdeal

@[expose] public section

set_option maxRecDepth 16384

noncomputable section

namespace Cert.Mlp

open Idealize.ShloMosaic

section Differentiated

open Cert.DnRefIdeal Cert.DnRefIdeal.Gen

variable (n : FVec Ideal S4096x2048 .f32) (w1 : FVec Ideal S8x2048x1024 .f32) (w2 : FVec Ideal S8192x2048 .f32) (dy : FVec Ideal S4096x2048 .f32)

/-- The first weight as one matrix, -/
abbrev flat : FVec Ideal S2048x8192 .f32 :=
  shapeCast _ (transpose S2048x8x1024 [1, 0, 2] w1 transposes_S8x2048x1024_S2048x8x1024_1_0_2) shapeCasts_S2048x8x1024_S2048x8192

theorem flat_at (k : Fin 2048) (l : Fin 8192) : flat w1 (ix2 k l) = w1 (ix3 (grp l) k (lane l)) := by
  pointwise [flat]

/-- the zeros, -/
abbrev zeros : FVec Ideal S4096x8192 .f32 := broadcastInDim S4096x8192 ![] bcast_S_S4096x8192 (constant S_ .f32 0x00000000#32)

/-- the first product, -/
abbrev first : FVec Ideal S4096x8192 .f32 := Host.dotGeneral dot_S4096x2048_S2048x8192_S4096x8192_1_0_0_1_n_n none n (flat w1)

/-- and the hidden layer. -/
abbrev hidden : FVec Ideal S4096x8192 .f32 := maximumf (first n w1) zeros

theorem hidden_at (t : Fin 4096) (l : Fin 8192) : hidden n w1 (ix2 t l) = act (fun t k => n (ix2 t k)) (fun g k q => w1 (ix3 g k q)) t l := by
  pointwise [hidden, first, flat, zeros]

/-- The product that comes back, -/
abbrev backward : FVec Ideal S4096x8192 .f32 := Host.dotGeneral dot_S4096x2048_S8192x2048_S4096x8192_1_1_0_0_n_n none dy w2

/-- and the gradient as differentiation writes it: where the first product is positive, both sides of the square. -/
abbrev gradient : FVec Ideal S4096x8192 .f32 :=
  select (cmpf .ogt (first n w1) zeros)
    (addf (mulf (hidden n w1) (backward w2 dy)) (mulf (backward w2 dy) (hidden n w1))) zeros

theorem gradient_at (t : Fin 4096) (l : Fin 8192) : gradient n w1 w2 dy (ix2 t l) = grad (fun t k => n (ix2 t k)) (fun g k q => w1 (ix3 g k q)) (fun t k => w2 (ix2 t k)) (fun t k => dy (ix2 t k)) t l := by
  refine Eq.trans ?_ (rect_grad (pre (fun t k => n (ix2 t k)) (fun g k q => w1 (ix3 g k q)) t l) (back (fun t k => dy (ix2 t k)) (fun t k => w2 (ix2 t k)) t l))
  pointwise [gradient, hidden, first, flat, zeros, backward]

end Differentiated

section Written

open Cert.DnIdeal Cert.DnIdeal.Gen

variable (n : FVec Ideal S4096x2048 .f32) (w1 : FVec Ideal S8x2048x1024 .f32) (w2 : FVec Ideal S8192x2048 .f32) (dy : FVec Ideal S4096x2048 .f32)

/-- The gradient as the step writes it: the product that comes back times twice the hidden layer. -/
abbrev doubled : FVec Ideal S4096x8192 .f32 :=
  mulf (Host.dotGeneral dot_S4096x2048_S2048x8192_S4096x8192_1_0_0_1_n_n none dy (transpose S2048x8192 [1, 0] w2 transposes_S8192x2048_S2048x8192_1_0))
    (mulf (broadcastInDim S4096x8192 ![] bcast_S_S4096x8192 (constant S_ .f32 0x40000000#32)) (hidden n w1))

theorem doubled_at (t : Fin 4096) (l : Fin 8192) : doubled n w1 w2 dy (ix2 t l) = grad (fun t k => n (ix2 t k)) (fun g k q => w1 (ix3 g k q)) (fun t k => w2 (ix2 t k)) (fun t k => dy (ix2 t k)) t l := by
  have e : ∀ x : FVec Ideal S4096x8192 .f32,
      mulf (Host.dotGeneral dot_S4096x2048_S2048x8192_S4096x8192_1_0_0_1_n_n none dy (transpose S2048x8192 [1, 0] w2 transposes_S8192x2048_S2048x8192_1_0))
        (mulf (broadcastInDim S4096x8192 ![] bcast_S_S4096x8192 (constant S_ .f32 0x40000000#32)) x) (ix2 t l)
      = back (fun t k => dy (ix2 t k)) (fun t k => w2 (ix2 t k)) t l * (2 * (x (ix2 t l) : EReal)) := by
    intro x
    rw [← word_two]
    pointwise
  refine (e _).trans ?_
  rw [hidden_at]

/-- The two forms agree. -/
theorem doubled_eq_gradient : doubled n w1 w2 dy = gradient n w1 w2 dy := by
  funext i
  rw [eq_ix2 i]
  exact (doubled_at n w1 w2 dy _ _).trans (gradient_at n w1 w2 dy _ _).symm

end Written

end Cert.Mlp

end
-- ==== Proof.Mlp.AlgUp.lean ====
/- The two programs of the MLP's first product end with the same results. -/
module

public import proofs.«01_k».proof.Proof.Mlp.Up
public import proofs.«01_k».proof.Proof.Mlp.Layer
public import proofs.«01_k».proof.Proof.Gen.UpRefIdeal.Run
public import proofs.«01_k».proof.Proof.Gen.UpRefIdeal
public import proofs.«01_k».proof.Defs
public import Idealize.ShloMosaic.Lib.Claim
public import Idealize.ShloMosaic.Lib.StableHlo.RunRead

@[expose] public section

set_option maxRecDepth 16384

noncomputable section

namespace Cert.UpRefIdeal.Val

open Cert.UpRefIdeal Cert.UpRefIdeal.Gen Cert.Mlp
open Idealize.ShloMosaic Idealize.ShloMosaic.TcCoe Idealize.SL.Sem Idealize.ShloMosaic.StableHlo

variable (n : FVec Ideal S4096x2048 .f32) (w1 : FVec Ideal S8x2048x1024 .f32)

end Cert.UpRefIdeal.Val

namespace Cert.UpIdeal.Val

open Cert.UpIdeal Cert.UpIdeal.Gen Cert.Mlp
open Idealize.ShloMosaic Idealize.ShloMosaic.TcCoe Idealize.SL.Sem Idealize.ShloMosaic.StableHlo

variable (V0 : Valuation τ sig (Elt Ideal))

/-- The arguments as arrays of the ideal numbers, -/
abbrev A0 : FVec Ideal S4096x2048 .f32 := V0 (Proc.devRef .tc main_arg0)
abbrev A1 : FVec Ideal S8x2048x1024 .f32 := V0 (Proc.devRef .tc main_arg1)

/-- and the host's operations before the call. -/
abbrev ops : List (HloOp τ sig (Elt Ideal)) := List.flatten [hostOps0]

/-- The call's first input is the normalised activation, -/
theorem host_x : (after ops V0 (Proc.devRef .tc main_v0) : FVec Ideal S4096x2048 .bf16) = truncf .bf16 (A0 V0) bitsLt_bf16_f32 := by
  unfold_abbrev_sides
  after_reads_simp
  try rfl

/-- and its second the weight. -/
theorem host_y : (after ops V0 (Proc.devRef .tc main_v1) : FVec Ideal S8x2048x1024 .bf16) = truncf .bf16 (A1 V0) bitsLt_bf16_f32 := by
  unfold_abbrev_sides
  after_reads_simp
  try rfl

/-- The product of the two, entry by entry. -/
theorem pre_at (m : (ℓ : Loc nD τ sig) → Buf (Elt Ideal) ℓ) (c : Dev nD) (t : Fin 4096) (l : Fin 8192) :
    max (pre m c (ix2 t l)) 0 = hidden (A0 (fun b => m (c, b))) (A1 (fun b => m (c, b))) (ix2 t l) := by
  have hx : X m c = truncf .bf16 (A0 (fun b => m (c, b))) bitsLt_bf16_f32 := host_x _
  have hy : Y m c = truncf .bf16 (A1 (fun b => m (c, b))) bitsLt_bf16_f32 := host_y _
  unfold pre
  rw [hidden_at, hx, hy]
  rfl

theorem algebraic : Cert.algebraic_UpIdeal_UpRefIdeal (hUpIdeal := Cert.UpIdeal.Gen.facts)
    (hUpRefIdeal := Cert.UpRefIdeal.Gen.facts) := by
  pair_intro
  · run_from Cert.UpIdeal.Value.run_blocks m g
  · run_from Cert.UpRefIdeal.Value.run m' g'
    · refine Eq.trans ?_ (final_relu m c).symm
      funext i
      rw [eq_ix2 i]
      exact (pre_at m c _ _).symm
    · refine Eq.trans ?_ (final_square m c).symm
      funext i
      rw [eq_ix2 i]
      exact congrArg (fun s : EReal => s * s) (pre_at m c _ _).symm

end Cert.UpIdeal.Val

end
-- ==== Proof.Mlp.Down.lean ====
/- The MLP's second product with the residual added: the call's result as one product. -/
module

public import proofs.«01_k».proof.Proof.Gen.DownIdeal.Value
public import proofs.«01_k».proof.Proof.Mlp.Cols
public import Idealize.ShloMosaic.Lib.Pipeline.ValueKit
public import Idealize.ShloMosaic.Lib.Pointwise

@[expose] public section

set_option maxRecDepth 16384

noncomputable section

namespace Cert.DownIdeal.Val

open Cert.DownIdeal Cert.DownIdeal.Gen Cert.Mlp
open Idealize.ShloMosaic Idealize.ShloMosaic.TcCoe Idealize.SL.Sem
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x2048 .bf16) (y : FVec Ideal S2048x1024 .bf16) (j) :
    k0_pay2 acc x y j = acc j + ∑ k : Fin 2048, x (ix2 (j 0) k) * y (ix2 k (j 1)) := by
  pointwise [k0_pay2]

/-- The blocks that a grid point works on. -/
theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] := (by decide +kernel : ∀ t : Fin grid0.N, _)

/-- The last step adds the residual's block. -/
theorem hend (x y : FVec Ideal S1024x1024 .f32) (j) : k0_pay3 x y j = x j + y j := by pointwise [k0_pay3]

/-- At a run's end the staging buffer holds what the accumulator holds and the residual. -/
theorem out_eq (t : Fin cfg0.N) (h : t.val % 4 = 3) : (outsAt0 m c t.val t.isLt).1 = k0_pay3 (outsAt0 m c t.val t.isLt).2 (iblk m c 2 t) := by
  rw [outsAt0_C m c t (by omega) (by omega)]
  frame_out

/-- The arrays as the call finds them. -/
abbrev X : FVec Ideal S4096x8192 .bf16 := V m c main_v6
abbrev Y : FVec Ideal S8192x2048 .bf16 := V m c main_v7
abbrev H : FVec Ideal S4096x2048 .f32 := V m c main_arg0

/-- The result is the product over the whole contraction at once. -/
theorem final : (dats m 0 c).arrAt 3 (cfgs 0).N
    = fun i : S4096x2048.Idx => (∑ l : Fin 8192, X m c (ix2 (i 0) l) * Y m c (ix2 l (i 1))) + H m c i := by
  refine (dats m 0 c).arrAt_eq_of_covers 3 _ (by decide +kernel) fun t hf y => ?_
  blk_simp
  have ht := (flush0_3 t).mp hf
  rw [after0_3, out_eq m c t ht, hend, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay, (Memref.isWhole_whole _).read_unread]
      · rw [outsAt0_B m c t h h1]; frame_out; rw [hpay, (Memref.isWhole_whole _).read_unread])
    t ht _, zero_add]
  refine congrArg₂ (fun a b : EReal => a + b) ?_ ?_
  · refine Fin.sum_mul_add_congr fun s k hl => ?_
    blk_point [iblk, idx t, idx ⟨_, Pipeline.run_point_lt_of_flush t ht s⟩]
  · blk_point [iblk, idx t]

end Cert.DownIdeal.Val

end
-- ==== Proof.Mlp.AlgDown.lean ====
/- The two programs of the MLP's second product end with the same result. -/
module

public import proofs.«01_k».proof.Proof.Mlp.Down
public import proofs.«01_k».proof.Proof.Mlp.Layer
public import proofs.«01_k».proof.Proof.Gen.DownRefIdeal.Run
public import proofs.«01_k».proof.Proof.Gen.DownRefIdeal
public import proofs.«01_k».proof.Defs
public import Idealize.ShloMosaic.Lib.Claim
public import Idealize.ShloMosaic.Lib.StableHlo.RunRead

@[expose] public section

set_option maxRecDepth 16384

noncomputable section

namespace Cert.DownRefIdeal.Val

open Cert.DownRefIdeal Cert.DownRefIdeal.Gen Cert.Mlp
open Idealize.ShloMosaic Idealize.ShloMosaic.TcCoe Idealize.SL.Sem Idealize.ShloMosaic.StableHlo

variable (h : FVec Ideal S4096x2048 .f32) (n : FVec Ideal S4096x2048 .f32) (w1 : FVec Ideal S8x2048x1024 .f32) (w2 : FVec Ideal S8192x2048 .f32)

/-- The reference's result, entry by entry. -/
theorem res_at (x : FVec Ideal S4096x8192 .f32) (t : Fin 4096) (d : Fin 2048) :
    addf h (Host.dotGeneral dot_S4096x8192_S8192x2048_S4096x2048_1_0_0_1_n_n none x w2) (ix2 t d)
      = h (ix2 t d) + ∑ l : Fin 8192, x (ix2 t l) * w2 (ix2 l d) := by
  pointwise

end Cert.DownRefIdeal.Val

namespace Cert.DownIdeal.Val

open Cert.DownIdeal Cert.DownIdeal.Gen Cert.Mlp
open Idealize.ShloMosaic Idealize.ShloMosaic.TcCoe Idealize.SL.Sem Idealize.ShloMosaic.StableHlo

variable (V0 : Valuation τ sig (Elt Ideal))

/-- The arguments as arrays of the ideal numbers, -/
abbrev A0 : FVec Ideal S4096x2048 .f32 := V0 (Proc.devRef .tc main_arg0)
abbrev A1 : FVec Ideal S4096x2048 .f32 := V0 (Proc.devRef .tc main_arg1)
abbrev A2 : FVec Ideal S8x2048x1024 .f32 := V0 (Proc.devRef .tc main_arg2)
abbrev A3 : FVec Ideal S8192x2048 .f32 := V0 (Proc.devRef .tc main_arg3)

/-- and the host's operations before the call. -/
abbrev ops : List (HloOp τ sig (Elt Ideal)) := List.flatten [hostOps0, hostOps0_1, hostOps0_2]

/-- The call's first input is the square of the hidden layer, -/
theorem host_x : (after ops V0 (Proc.devRef .tc main_v6) : FVec Ideal S4096x8192 .bf16) = truncf .bf16 (mulf (hidden (A1 V0) (A2 V0)) (hidden (A1 V0) (A2 V0))) bitsLt_bf16_f32 := by
  unfold_abbrev_sides
  after_reads_simp
  try rfl

/-- its second the weight, -/
theorem host_y : (after ops V0 (Proc.devRef .tc main_v7) : FVec Ideal S8192x2048 .bf16) = truncf .bf16 (A3 V0) bitsLt_bf16_f32 := by
  unfold_abbrev_sides
  after_reads_simp
  try rfl

/-- and its third the residual. -/
theorem host_h : (after ops V0 (Proc.devRef .tc main_arg0) : FVec Ideal S4096x2048 .f32) = A0 V0 := by
  unfold_abbrev_sides
  after_reads_simp
  try rfl

theorem algebraic : Cert.algebraic_DownIdeal_DownRefIdeal (hDownIdeal := Cert.DownIdeal.Gen.facts)
    (hDownRefIdeal := Cert.DownRefIdeal.Gen.facts) := by
  pair_intro
  · run_from Cert.DownIdeal.Value.run_blocks m g
  · run_from Cert.DownRefIdeal.Value.run m' g'
    refine Eq.trans ?_ (final m c).symm
    have hx : X m c = truncf .bf16 (mulf (hidden (A1 (fun b => m (c, b))) (A2 (fun b => m (c, b)))) (hidden (A1 (fun b => m (c, b))) (A2 (fun b => m (c, b))))) bitsLt_bf16_f32 := host_x _
    have hy : Y m c = truncf .bf16 (A3 (fun b => m (c, b))) bitsLt_bf16_f32 := host_y _
    have hh : H m c = A0 (fun b => m (c, b)) := host_h _
    rw [hx, hy, hh]
    funext i
    rw [eq_ix2 i]
    exact (Cert.DownRefIdeal.Val.res_at _ _ _ _ _).trans (add_comm _ _)

end Cert.DownIdeal.Val

end
-- ==== Proof.Mlp.Dw2.lean ====
/- The gradient of the MLP's second weight: the call's result as one product. -/
module

public import proofs.«01_k».proof.Proof.Gen.Dw2Ideal.Value
public import proofs.«01_k».proof.Proof.Mlp.Cols
public import Idealize.ShloMosaic.Lib.Pipeline.ValueKit
public import Idealize.ShloMosaic.Lib.Pointwise

@[expose] public section

set_option maxRecDepth 16384

noncomputable section

namespace Cert.Dw2Ideal.Val

open Cert.Dw2Ideal Cert.Dw2Ideal.Gen Cert.Mlp
open Idealize.ShloMosaic Idealize.ShloMosaic.TcCoe Idealize.SL.Sem
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S2048x1024 .bf16) (y : FVec Ideal S2048x1024 .bf16) (j) :
    k0_pay2 acc x y j = acc j + ∑ k : Fin 2048, x (ix2 k (j 0)) * y (ix2 k (j 1)) := by
  pointwise [k0_pay2]

/-- The blocks that a grid point works on. -/
theorem idx : ∀ t : Fin cfg0.N, win0_0.index t = ![t.val % 2, t.val / 4] ∧ win0_1.index t = ![t.val % 2, t.val / 2 % 2]
    ∧ win0_2.index t = ![t.val / 4, t.val / 2 % 2] := (by decide +kernel : ∀ t : Fin grid0.N, _)

/-- At a run's end the staging buffer holds what the accumulator holds. -/
theorem out_eq (t : Fin cfg0.N) (h : t.val % 2 = 1) : (outsAt0 m c t.val t.isLt).1 = (outsAt0 m c t.val t.isLt).2 := by
  rw [outsAt0_B m c t (by omega) (by omega)]
  frame_out

/-- The arrays as the call finds them. -/
abbrev X : FVec Ideal S4096x8192 .bf16 := V m c main_v6
abbrev Y : FVec Ideal S4096x2048 .bf16 := V m c main_v7

/-- The result is the product over the whole contraction at once. -/
theorem final : (dats m 0 c).arrAt 2 (cfgs 0).N
    = fun i : S8192x2048.Idx => ∑ l : Fin 4096, X m c (ix2 l (i 0)) * Y m c (ix2 l (i 1)) := by
  refine (dats m 0 c).arrAt_eq_of_covers 2 _ (by decide +kernel) fun t hf y => ?_
  blk_simp
  have ht := (flush0_2 t).mp hf
  rw [after0_2, out_eq m c t ht, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole _).read_unread])
    t ht _, zero_add]
  refine Fin.sum_mul_add_congr fun s k hl => ?_
  blk_point [iblk, idx t, idx ⟨_, Pipeline.run_point_lt_of_flush t ht s⟩]

end Cert.Dw2Ideal.Val

end
-- ==== Proof.Mlp.AlgDw2.lean ====
/- The two programs of the second weight's gradient end with the same result. -/
module

public import proofs.«01_k».proof.Proof.Mlp.Dw2
public import proofs.«01_k».proof.Proof.Mlp.Layer
public import proofs.«01_k».proof.Proof.Gen.Dw2RefIdeal.Run
public import proofs.«01_k».proof.Proof.Gen.Dw2RefIdeal
public import proofs.«01_k».proof.Defs
public import Idealize.ShloMosaic.Lib.Claim
public import Idealize.ShloMosaic.Lib.StableHlo.RunRead

@[expose] public section

set_option maxRecDepth 16384

noncomputable section

namespace Cert.Dw2RefIdeal.Val

open Cert.Dw2RefIdeal Cert.Dw2RefIdeal.Gen Cert.Mlp
open Idealize.ShloMosaic Idealize.ShloMosaic.TcCoe Idealize.SL.Sem Idealize.ShloMosaic.StableHlo

variable (n : FVec Ideal S4096x2048 .f32) (w1 : FVec Ideal S8x2048x1024 .f32) (dy : FVec Ideal S4096x2048 .f32)

/-- The reference's result, entry by entry. -/
theorem res_at (x : FVec Ideal S4096x8192 .f32) (l : Fin 8192) (d : Fin 2048) :
    transpose S8192x2048 [1, 0] (Host.dotGeneral dot_S4096x2048_S4096x8192_S2048x8192_0_0_1_1_n_n none dy x) transposes_S2048x8192_S8192x2048_1_0 (ix2 l d)
      = ∑ t : Fin 4096, dy (ix2 t d) * x (ix2 t l) := by
  pointwise

end Cert.Dw2RefIdeal.Val

namespace Cert.Dw2Ideal.Val

open Cert.Dw2Ideal Cert.Dw2Ideal.Gen Cert.Mlp
open Idealize.ShloMosaic Idealize.ShloMosaic.TcCoe Idealize.SL.Sem Idealize.ShloMosaic.StableHlo

variable (V0 : Valuation τ sig (Elt Ideal))

/-- The arguments as arrays of the ideal numbers, -/
abbrev A0 : FVec Ideal S4096x2048 .f32 := V0 (Proc.devRef .tc main_arg0)
abbrev A1 : FVec Ideal S8x2048x1024 .f32 := V0 (Proc.devRef .tc main_arg1)
abbrev A2 : FVec Ideal S4096x2048 .f32 := V0 (Proc.devRef .tc main_arg2)

/-- and the host's operations before the call. -/
abbrev ops : List (HloOp τ sig (Elt Ideal)) := List.flatten [hostOps0, hostOps0_1, hostOps0_2]

/-- The call's first input is the square of the hidden layer, -/
theorem host_x : (after ops V0 (Proc.devRef .tc main_v6) : FVec Ideal S4096x8192 .bf16) = truncf .bf16 (mulf (hidden (A0 V0) (A1 V0)) (hidden (A0 V0) (A1 V0))) bitsLt_bf16_f32 := by
  unfold_abbrev_sides
  after_reads_simp
  try rfl

/-- and its second the gradient that comes in. -/
theorem host_y : (after ops V0 (Proc.devRef .tc main_v7) : FVec Ideal S4096x2048 .bf16) = truncf .bf16 (A2 V0) bitsLt_bf16_f32 := by
  unfold_abbrev_sides
  after_reads_simp
  try rfl

theorem algebraic : Cert.algebraic_Dw2Ideal_Dw2RefIdeal (hDw2Ideal := Cert.Dw2Ideal.Gen.facts)
    (hDw2RefIdeal := Cert.Dw2RefIdeal.Gen.facts) := by
  pair_intro
  · run_from Cert.Dw2Ideal.Value.run_blocks m g
  · run_from Cert.Dw2RefIdeal.Value.run m' g'
    refine Eq.trans ?_ (final m c).symm
    have hx : X m c = truncf .bf16 (mulf (hidden (A0 (fun b => m (c, b))) (A1 (fun b => m (c, b)))) (hidden (A0 (fun b => m (c, b))) (A1 (fun b => m (c, b))))) bitsLt_bf16_f32 := host_x _
    have hy : Y m c = truncf .bf16 (A2 (fun b => m (c, b))) bitsLt_bf16_f32 := host_y _
    rw [hx, hy]
    funext i
    rw [eq_ix2 i]
    exact (Cert.Dw2RefIdeal.Val.res_at _ _ _ _).trans (Finset.sum_congr rfl fun t _ => mul_comm _ _)

end Cert.Dw2Ideal.Val

end
-- ==== Proof.Mlp.Dpre.lean ====
/- The gradient before the MLP's rectifier: the call's result as one product times twice the activation. -/
module

public import proofs.«01_k».proof.Proof.Gen.DpreIdeal.Value
public import proofs.«01_k».proof.Proof.Mlp.Cols
public import Idealize.ShloMosaic.Lib.Pipeline.ValueKit
public import Idealize.ShloMosaic.Lib.Pointwise

@[expose] public section

set_option maxRecDepth 16384

noncomputable section

namespace Cert.DpreIdeal.Val

open Cert.DpreIdeal Cert.DpreIdeal.Gen Cert.Mlp
open Idealize.ShloMosaic Idealize.ShloMosaic.TcCoe Idealize.SL.Sem
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x2048 .bf16) (y : FVec Ideal S1024x2048 .bf16) (j) :
    k0_pay2 acc x y j = acc j + ∑ k : Fin 2048, x (ix2 (j 0) k) * y (ix2 (j 1) k) := by
  pointwise [k0_pay2]

/-- The blocks that a grid point works on. -/
theorem idx : ∀ t : Fin cfg0.N, win0_0.index t = ![t.val / 8, 0] ∧ win0_1.index t = ![t.val % 8, 0]
    ∧ win0_2.index t = ![t.val / 8, t.val % 8] ∧ win0_3.index t = ![t.val / 8, t.val % 8] := (by decide +kernel : ∀ t : Fin grid0.N, _)

/-- The accumulator is multiplied by twice the activation. -/
theorem hend (x : FVec Ideal S1024x1024 .f32) (y : FVec Ideal S1024x1024 .bf16) (j) : (k0_pay3 (F := Ideal) x y j : EReal) = (x j : EReal) * (2 * (y j : EReal)) := by
  rw [← word_two]
  pointwise [k0_pay3]

theorem out_eq (t : Fin cfg0.N) : outsAt0 m c t = k0_pay3 (k0_pay2 k0_pay1 (iblk m c 0 t) (iblk m c 1 t)) (iblk m c 2 t) := by
  unfold outsAt0
  frame_out

/-- The arrays as the call finds them. -/
abbrev X : FVec Ideal S4096x2048 .bf16 := V m c main_v7
abbrev Y : FVec Ideal S8192x2048 .bf16 := V m c main_v8
abbrev A : FVec Ideal S4096x8192 .bf16 := V m c main_v4

/-- The result is the whole product times twice the activation. -/
theorem final : (dats m 0 c).arrAt 3 (cfgs 0).N
    = fun i : S4096x8192.Idx => (∑ k : Fin 2048, X m c (ix2 (i 0) k) * Y m c (ix2 (i 1) k)) * (2 * (A m c i : EReal)) := by
  refine (dats m 0 c).arrAt_eq_of_covers 3 _ (by decide +kernel) fun t hf y => ?_
  blk_simp
  rw [after0_3, out_eq m c t, hend, hpay, hzero, zero_add]
  blk_point [iblk, idx t]

end Cert.DpreIdeal.Val

end
-- ==== Proof.Mlp.AlgDpre.lean ====
/- The two programs of the gradient before the rectifier end with the same result. -/
module

public import proofs.«01_k».proof.Proof.Mlp.Dpre
public import proofs.«01_k».proof.Proof.Mlp.Layer
public import proofs.«01_k».proof.Proof.Gen.DpreRefIdeal.Run
public import proofs.«01_k».proof.Proof.Gen.DpreRefIdeal
public import proofs.«01_k».proof.Defs
public import Idealize.ShloMosaic.Lib.Claim
public import Idealize.ShloMosaic.Lib.StableHlo.RunRead

@[expose] public section

set_option maxRecDepth 16384

noncomputable section

namespace Cert.DpreRefIdeal.Val

open Cert.DpreRefIdeal Cert.DpreRefIdeal.Gen Cert.Mlp
open Idealize.ShloMosaic Idealize.ShloMosaic.TcCoe Idealize.SL.Sem Idealize.ShloMosaic.StableHlo

variable (n : FVec Ideal S4096x2048 .f32) (w1 : FVec Ideal S8x2048x1024 .f32) (w2 : FVec Ideal S8192x2048 .f32) (dy : FVec Ideal S4096x2048 .f32)

end Cert.DpreRefIdeal.Val

namespace Cert.DpreIdeal.Val

open Cert.DpreIdeal Cert.DpreIdeal.Gen Cert.Mlp
open Idealize.ShloMosaic Idealize.ShloMosaic.TcCoe Idealize.SL.Sem Idealize.ShloMosaic.StableHlo

variable (V0 : Valuation τ sig (Elt Ideal))

/-- The arguments as arrays of the ideal numbers, -/
abbrev A0 : FVec Ideal S4096x2048 .f32 := V0 (Proc.devRef .tc main_arg0)
abbrev A1 : FVec Ideal S8x2048x1024 .f32 := V0 (Proc.devRef .tc main_arg1)
abbrev A2 : FVec Ideal S8192x2048 .f32 := V0 (Proc.devRef .tc main_arg2)
abbrev A3 : FVec Ideal S4096x2048 .f32 := V0 (Proc.devRef .tc main_arg3)

/-- and the host's operations before the call. -/
abbrev ops : List (HloOp τ sig (Elt Ideal)) := List.flatten [hostOps0, hostOps0_1, hostOps0_2]

/-- The call's first input is the gradient that comes in, -/
theorem host_x : (after ops V0 (Proc.devRef .tc main_v7) : FVec Ideal S4096x2048 .bf16) = truncf .bf16 (A3 V0) bitsLt_bf16_f32 := by
  unfold_abbrev_sides
  after_reads_simp
  try rfl

/-- its second the weight, -/
theorem host_y : (after ops V0 (Proc.devRef .tc main_v8) : FVec Ideal S8192x2048 .bf16) = truncf .bf16 (A2 V0) bitsLt_bf16_f32 := by
  unfold_abbrev_sides
  after_reads_simp
  try rfl

/-- and its third the hidden layer. -/
theorem host_a : (after ops V0 (Proc.devRef .tc main_v4) : FVec Ideal S4096x8192 .bf16) = truncf .bf16 (hidden (A0 V0) (A1 V0)) bitsLt_bf16_f32 := by
  unfold_abbrev_sides
  after_reads_simp
  try rfl

theorem algebraic : Cert.algebraic_DpreIdeal_DpreRefIdeal (hDpreIdeal := Cert.DpreIdeal.Gen.facts)
    (hDpreRefIdeal := Cert.DpreRefIdeal.Gen.facts) := by
  pair_intro
  · run_from Cert.DpreIdeal.Value.run_blocks m g
  · run_from Cert.DpreRefIdeal.Value.run m' g'
    refine Eq.trans ?_ (final m c).symm
    have hx : X m c = truncf .bf16 (A3 (fun b => m (c, b))) bitsLt_bf16_f32 := host_x _
    have hy : Y m c = truncf .bf16 (A2 (fun b => m (c, b))) bitsLt_bf16_f32 := host_y _
    have ha : A m c = truncf .bf16 (hidden (A0 (fun b => m (c, b))) (A1 (fun b => m (c, b)))) bitsLt_bf16_f32 := host_a _
    rw [hx, hy, ha]
    funext i
    rw [eq_ix2 i]
    refine (gradient_at (A0 (fun b => m (c, b))) (A1 (fun b => m (c, b))) (A2 (fun b => m (c, b))) (A3 (fun b => m (c, b))) _ _).trans ?_
    exact congrArg (fun z : EReal => (∑ k : Fin 2048, A3 (fun b => m (c, b)) (ix2 (i 0) k) * A2 (fun b => m (c, b)) (ix2 (i 1) k)) * (2 * z))
      (hidden_at (A0 (fun b => m (c, b))) (A1 (fun b => m (c, b))) _ _).symm

end Cert.DpreIdeal.Val

end
-- ==== Proof.Mlp.Dw1.lean ====
/- The gradient of the MLP's first weight: the call's result as one product per group of columns. -/
module

public import proofs.«01_k».proof.Proof.Gen.Dw1Ideal.Value
public import proofs.«01_k».proof.Proof.Mlp.Cols
public import Idealize.ShloMosaic.Lib.Pipeline.ValueKit
public import Idealize.ShloMosaic.Lib.Pointwise

@[expose] public section

set_option maxRecDepth 16384

noncomputable section

namespace Cert.Dw1Ideal.Val

open Cert.Dw1Ideal Cert.Dw1Ideal.Gen Cert.Mlp
open Idealize.ShloMosaic Idealize.ShloMosaic.TcCoe Idealize.SL.Sem
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S2048x1024 .bf16) (y : FVec Ideal S2048x1024 .bf16) (j) :
    k0_pay2 acc x y j = acc j + ∑ k : Fin 2048, x (ix2 k (j 0)) * y (ix2 k (j 1)) := by
  pointwise [k0_pay2]

/-- The blocks that a grid point works on. -/
theorem idx : ∀ t : Fin cfg0.N, win0_0.index t = ![t.val % 2, t.val / 16] ∧ win0_1.index t = ![t.val % 2, t.val / 2 % 8]
    ∧ win0_2.index t = ![t.val / 2 % 8, t.val / 16, 0] := (by decide +kernel : ∀ t : Fin grid0.N, _)

/-- The result's block has the group's axis in front. -/
theorem hend (x : FVec Ideal S1024x1024 .f32) (j) : k0_pay3 x j = x (ix2 (j 1) (j 2)) := by pointwise [k0_pay3]

/-- At a run's end the staging buffer holds what the accumulator holds. -/
theorem out_eq (t : Fin cfg0.N) (h : t.val % 2 = 1) : (outsAt0 m c t.val t.isLt).1 = k0_pay3 (outsAt0 m c t.val t.isLt).2 := by
  rw [outsAt0_B m c t (by omega) (by omega)]
  frame_out

/-- The arrays as the call finds them. -/
abbrev X : FVec Ideal S4096x2048 .bf16 := V m c main_v0
abbrev Y : FVec Ideal S4096x8192 .bf16 := V m c main_v10

/-- The result is the product over the whole contraction at once. -/
theorem final : (dats m 0 c).arrAt 2 (cfgs 0).N
    = fun i : S8x2048x1024.Idx => ∑ l : Fin 4096, X m c (ix2 l (i 1)) * Y m c (ix2 l (col (i 0) (i 2))) := by
  refine (dats m 0 c).arrAt_eq_of_covers 2 _ (by decide +kernel) fun t hf y => ?_
  blk_simp
  have ht := (flush0_2 t).mp hf
  rw [after0_2, out_eq m c t ht, hend, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole _).read_unread])
    t ht _, zero_add]
  refine Fin.sum_mul_add_congr fun s k hl => ?_
  blk_point [iblk, idx t, col, idx ⟨_, Pipeline.run_point_lt_of_flush t ht s⟩]

end Cert.Dw1Ideal.Val

end
-- ==== Proof.Mlp.AlgDw1.lean ====
/- The two programs of the first weight's gradient end with the same result. -/
module

public import proofs.«01_k».proof.Proof.Mlp.Dw1
public import proofs.«01_k».proof.Proof.Mlp.Layer
public import proofs.«01_k».proof.Proof.Gen.Dw1RefIdeal.Run
public import proofs.«01_k».proof.Proof.Gen.Dw1RefIdeal
public import proofs.«01_k».proof.Defs
public import Idealize.ShloMosaic.Lib.Claim
public import Idealize.ShloMosaic.Lib.StableHlo.RunRead

@[expose] public section

set_option maxRecDepth 16384

noncomputable section

namespace Cert.Dw1RefIdeal.Val

open Cert.Dw1RefIdeal Cert.Dw1RefIdeal.Gen Cert.Mlp
open Idealize.ShloMosaic Idealize.ShloMosaic.TcCoe Idealize.SL.Sem Idealize.ShloMosaic.StableHlo

variable (n : FVec Ideal S4096x2048 .f32) (w1 : FVec Ideal S8x2048x1024 .f32) (w2 : FVec Ideal S8192x2048 .f32) (dy : FVec Ideal S4096x2048 .f32)

/-- The reference's result, entry by entry. -/
theorem res_at (x : FVec Ideal S4096x8192 .f32) (g : Fin 8) (k : Fin 2048) (q : Fin 1024) :
    transpose S8x2048x1024 [1, 0, 2] (shapeCast _ (transpose S2048x8192 [1, 0] (Host.dotGeneral dot_S4096x8192_S4096x2048_S8192x2048_0_0_1_1_n_n none x n)
        transposes_S8192x2048_S2048x8192_1_0) shapeCasts_S2048x8192_S2048x8x1024) transposes_S2048x8x1024_S8x2048x1024_1_0_2 (ix3 g k q)
      = ∑ t : Fin 4096, x (ix2 t (col g q)) * n (ix2 t k) := by
  pointwise

end Cert.Dw1RefIdeal.Val

namespace Cert.Dw1Ideal.Val

open Cert.Dw1Ideal Cert.Dw1Ideal.Gen Cert.Mlp
open Idealize.ShloMosaic Idealize.ShloMosaic.TcCoe Idealize.SL.Sem Idealize.ShloMosaic.StableHlo

variable (V0 : Valuation τ sig (Elt Ideal))

/-- The arguments as arrays of the ideal numbers, -/
abbrev A0 : FVec Ideal S4096x2048 .f32 := V0 (Proc.devRef .tc main_arg0)
abbrev A1 : FVec Ideal S8x2048x1024 .f32 := V0 (Proc.devRef .tc main_arg1)
abbrev A2 : FVec Ideal S8192x2048 .f32 := V0 (Proc.devRef .tc main_arg2)
abbrev A3 : FVec Ideal S4096x2048 .f32 := V0 (Proc.devRef .tc main_arg3)

/-- and the host's operations before the call. -/
abbrev ops : List (HloOp τ sig (Elt Ideal)) := List.flatten [hostOps0, hostOps0_1, hostOps0_2]

/-- The call's first input is the normalised activation, -/
theorem host_x : (after ops V0 (Proc.devRef .tc main_v0) : FVec Ideal S4096x2048 .bf16) = truncf .bf16 (A0 V0) bitsLt_bf16_f32 := by
  unfold_abbrev_sides
  after_reads_simp
  try rfl

/-- and its second the gradient before the rectifier. -/
theorem host_y : (after ops V0 (Proc.devRef .tc main_v10) : FVec Ideal S4096x8192 .bf16) = truncf .bf16 (doubled (A0 V0) (A1 V0) (A2 V0) (A3 V0)) bitsLt_bf16_f32 := by
  unfold_abbrev_sides
  after_reads_simp
  try rfl

theorem algebraic : Cert.algebraic_Dw1Ideal_Dw1RefIdeal (hDw1Ideal := Cert.Dw1Ideal.Gen.facts)
    (hDw1RefIdeal := Cert.Dw1RefIdeal.Gen.facts) := by
  pair_intro
  · run_from Cert.Dw1Ideal.Value.run_blocks m g
  · run_from Cert.Dw1RefIdeal.Value.run m' g'
    refine Eq.trans ?_ (final m c).symm
    have hx : X m c = truncf .bf16 (A0 (fun b => m (c, b))) bitsLt_bf16_f32 := host_x _
    have hy : Y m c = truncf .bf16 (doubled (A0 (fun b => m (c, b))) (A1 (fun b => m (c, b))) (A2 (fun b => m (c, b))) (A3 (fun b => m (c, b)))) bitsLt_bf16_f32 := host_y _
    rw [hx, hy, doubled_eq_gradient]
    funext i
    rw [eq_ix3 i]
    exact (Cert.Dw1RefIdeal.Val.res_at _ _ _ _ _).trans (Finset.sum_congr rfl fun t _ => mul_comm _ _)

end Cert.Dw1Ideal.Val

end
-- ==== Proof.Mlp.Dn.lean ====
/- The gradient of the MLP's input: the call's result as one product. -/
module

public import proofs.«01_k».proof.Proof.Gen.DnIdeal.Value
public import proofs.«01_k».proof.Proof.Mlp.Cols
public import Idealize.ShloMosaic.Lib.Pipeline.ValueKit
public import Idealize.ShloMosaic.Lib.Pointwise

@[expose] public section

set_option maxRecDepth 16384

noncomputable section

namespace Cert.DnIdeal.Val

open Cert.DnIdeal Cert.DnIdeal.Gen Cert.Mlp
open Idealize.ShloMosaic Idealize.ShloMosaic.TcCoe Idealize.SL.Sem
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x1024 .bf16) (y : FVec Ideal S1x1024x1024 .bf16) (j) :
    k0_pay2 acc x y j = acc j + ∑ k : Fin 1024, x (ix2 (j 0) k) * y (ix3 0 (j 1) k) := by
  pointwise [k0_pay2]

/-- The blocks that a grid point works on. -/
theorem idx : ∀ t : Fin cfg0.N, win0_0.index t = ![t.val / 16, t.val % 8] ∧ win0_1.index t = ![t.val % 8, t.val / 8 % 2, 0]
    ∧ win0_2.index t = ![t.val / 16, t.val / 8 % 2] := (by decide +kernel : ∀ t : Fin grid0.N, _)

/-- At a run's end the staging buffer holds what the accumulator holds. -/
theorem out_eq (t : Fin cfg0.N) (h : t.val % 8 = 7) : (outsAt0 m c t.val t.isLt).1 = (outsAt0 m c t.val t.isLt).2 := by
  rw [outsAt0_C m c t (by omega) (by omega)]
  frame_out

/-- The arrays as the call finds them. -/
abbrev X : FVec Ideal S4096x8192 .bf16 := V m c main_v9
abbrev Y : FVec Ideal S8x2048x1024 .bf16 := V m c main_v10

/-- The result is the product over the whole contraction at once. -/
theorem final : (dats m 0 c).arrAt 2 (cfgs 0).N
    = fun i : S4096x2048.Idx => ∑ l : Fin 8192, X m c (ix2 (i 0) l) * Y m c (ix3 (grp l) (i 1) (lane l)) := by
  refine (dats m 0 c).arrAt_eq_of_covers 2 _ (by decide +kernel) fun t hf y => ?_
  blk_simp
  have ht := (flush0_2 t).mp hf
  rw [after0_2, out_eq m c t ht, Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, (Memref.isWhole_whole _).read_unread]
      · rw [outsAt0_B m c t h h1]; frame_out; rw [hpay, (Memref.isWhole_whole _).read_unread])
    t ht _, zero_add]
  refine Fin.sum_mul_add_congr fun s k hl => ?_
  blk_point [iblk, idx t, grp, lane, idx ⟨_, Pipeline.run_point_lt_of_flush t ht s⟩]

end Cert.DnIdeal.Val

end
-- ==== Proof.Mlp.AlgDn.lean ====
/- The two programs of the MLP's input gradient end with the same result. -/
module

public import proofs.«01_k».proof.Proof.Mlp.Dn
public import proofs.«01_k».proof.Proof.Mlp.Layer
public import proofs.«01_k».proof.Proof.Gen.DnRefIdeal.Run
public import proofs.«01_k».proof.Proof.Gen.DnRefIdeal
public import proofs.«01_k».proof.Defs
public import Idealize.ShloMosaic.Lib.Claim
public import Idealize.ShloMosaic.Lib.StableHlo.RunRead

@[expose] public section

set_option maxRecDepth 16384

noncomputable section

namespace Cert.DnRefIdeal.Val

open Cert.DnRefIdeal Cert.DnRefIdeal.Gen Cert.Mlp
open Idealize.ShloMosaic Idealize.ShloMosaic.TcCoe Idealize.SL.Sem Idealize.ShloMosaic.StableHlo

variable (n : FVec Ideal S4096x2048 .f32) (w1 : FVec Ideal S8x2048x1024 .f32) (w2 : FVec Ideal S8192x2048 .f32) (dy : FVec Ideal S4096x2048 .f32)

/-- The reference's result, entry by entry. -/
theorem res_at (x : FVec Ideal S4096x8192 .f32) (t : Fin 4096) (k : Fin 2048) :
    Host.dotGeneral dot_S4096x8192_S2048x8192_S4096x2048_1_1_0_0_n_n none x (flat w1) (ix2 t k)
      = ∑ l : Fin 8192, x (ix2 t l) * w1 (ix3 (grp l) k (lane l)) := by
  pointwise [flat]

end Cert.DnRefIdeal.Val

namespace Cert.DnIdeal.Val

open Cert.DnIdeal Cert.DnIdeal.Gen Cert.Mlp
open Idealize.ShloMosaic Idealize.ShloMosaic.TcCoe Idealize.SL.Sem Idealize.ShloMosaic.StableHlo

variable (V0 : Valuation τ sig (Elt Ideal))

/-- The arguments as arrays of the ideal numbers, -/
abbrev A0 : FVec Ideal S4096x2048 .f32 := V0 (Proc.devRef .tc main_arg0)
abbrev A1 : FVec Ideal S8x2048x1024 .f32 := V0 (Proc.devRef .tc main_arg1)
abbrev A2 : FVec Ideal S8192x2048 .f32 := V0 (Proc.devRef .tc main_arg2)
abbrev A3 : FVec Ideal S4096x2048 .f32 := V0 (Proc.devRef .tc main_arg3)

/-- and the host's operations before the call. -/
abbrev ops : List (HloOp τ sig (Elt Ideal)) := List.flatten [hostOps0, hostOps0_1, hostOps0_2]

/-- The call's first input is the gradient before the rectifier, -/
theorem host_x : (after ops V0 (Proc.devRef .tc main_v9) : FVec Ideal S4096x8192 .bf16) = truncf .bf16 (doubled (A0 V0) (A1 V0) (A2 V0) (A3 V0)) bitsLt_bf16_f32 := by
  unfold_abbrev_sides
  after_reads_simp
  try rfl

/-- and its second the weight. -/
theorem host_y : (after ops V0 (Proc.devRef .tc main_v10) : FVec Ideal S8x2048x1024 .bf16) = truncf .bf16 (A1 V0) bitsLt_bf16_f32 := by
  unfold_abbrev_sides
  after_reads_simp
  try rfl

theorem algebraic : Cert.algebraic_DnIdeal_DnRefIdeal (hDnIdeal := Cert.DnIdeal.Gen.facts)
    (hDnRefIdeal := Cert.DnRefIdeal.Gen.facts) := by
  pair_intro
  · run_from Cert.DnIdeal.Value.run_blocks m g
  · run_from Cert.DnRefIdeal.Value.run m' g'
    refine Eq.trans ?_ (final m c).symm
    have hx : X m c = truncf .bf16 (doubled (A0 (fun b => m (c, b))) (A1 (fun b => m (c, b))) (A2 (fun b => m (c, b))) (A3 (fun b => m (c, b)))) bitsLt_bf16_f32 := host_x _
    have hy : Y m c = truncf .bf16 (A1 (fun b => m (c, b))) bitsLt_bf16_f32 := host_y _
    rw [hx, hy, doubled_eq_gradient]
    funext i
    rw [eq_ix2 i]
    exact Cert.DnRefIdeal.Val.res_at _ _ _ _

end Cert.DnIdeal.Val

end
-- ==== Proof.Val.Math.lean ====
/- The chunked attention's gradient in real numbers, over rows and keys numbered by naturals, and the sums over extended
   reals that it is read off from. -/
module

public import Idealize.ShloMosaic.Lib.Pointwise
public import Mathlib.Analysis.SpecialFunctions.Exp

@[expose] public section

noncomputable section

namespace Cert.Val

open Idealize.ShloMosaic
open scoped BigOperators

/-! ## Sums and quotients of coerced reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_eq_coe {ι : Type*} (s : Finset ι) (x : ι → EReal) (f : ι → ℝ) (h : ∀ i ∈ s, x i = (f i : EReal)) :
    ∑ i ∈ s, x i = ((∑ i ∈ s, f i : ℝ) : EReal) := by rw [coe_sum]; exact Finset.sum_congr rfl h

theorem div_coe_coe (a b : ℝ) (hb : b ≠ 0) : Ideal.div (a : EReal) (b : EReal) = ((a / b : ℝ) : EReal) := by
  rw [Ideal.div_coe hb, ← EReal.coe_mul, mul_one_div]

/-- A maximum from −∞ of values below +∞, one of them above −∞, is a real number. -/
theorem fold_max_real {ι : Type*} [Fintype ι] (x : ι → EReal) (h1 : ∀ i, x i ≠ ⊤) (h2 : ∃ i, x i ≠ ⊥) :
    ∃ M : ℝ, Finset.fold max (⊥ : EReal) x Finset.univ = (M : EReal) := by
  have e : Finset.fold max (⊥ : EReal) x Finset.univ = Finset.univ.sup x := rfl
  rw [e]
  have ht : Finset.univ.sup x ≠ ⊤ := by
    refine ne_of_lt ((Finset.sup_lt_iff bot_lt_top).2 fun i _ => lt_top_iff_ne_top.2 (h1 i))
  have hb : Finset.univ.sup x ≠ ⊥ := by
    obtain ⟨i, hi⟩ := h2
    intro h; apply hi; rw [← le_bot_iff, ← h]; exact Finset.le_sup (Finset.mem_univ i)
  exact ⟨_, (EReal.coe_toReal ht hb).symm⟩

/-! ## A masked row of scores -/

section Row
variable {ι : Type*} [Fintype ι] (b : ι → Prop) [DecidablePred b] (r : ι → ℝ) (x : ι → EReal)

/-- The weight of an entry: its exponential inside the mask, zero outside. -/
def wt (i : ι) : ℝ := if b i then Real.exp (r i) else 0

theorem row_max (hx : ∀ i, x i = if b i then (r i : EReal) else ⊥) (hb : ∃ i, b i) :
    ∃ M : ℝ, Finset.fold max (⊥ : EReal) x Finset.univ = (M : EReal) := by
  refine fold_max_real x (fun i => ?_) ?_
  · rw [hx]; split_ifs
    · exact EReal.coe_ne_top _
    · exact bot_ne_top
  · obtain ⟨i, hi⟩ := hb; exact ⟨i, by rw [hx, if_pos hi]; exact EReal.coe_ne_bot _⟩

theorem row_exp (hx : ∀ i, x i = if b i then (r i : EReal) else ⊥) (M : ℝ) (i : ι) :
    Ideal.exp (x i - (M : EReal)) = ((wt b r i * Real.exp (-M) : ℝ) : EReal) := by
  rw [hx]; unfold wt; split_ifs
  · rw [← EReal.coe_sub, Ideal.exp_coe, ← Real.exp_add, sub_eq_add_neg]
  · rw [EReal.bot_sub, Ideal.exp_bot, zero_mul, EReal.coe_zero]

theorem wt_nonneg (i : ι) : 0 ≤ wt b r i := by unfold wt; split_ifs; exacts [(Real.exp_pos _).le, le_rfl]

theorem wt_sum_pos (hb : ∃ i, b i) : 0 < ∑ i, wt b r i := by
  obtain ⟨i, hi⟩ := hb
  refine Finset.sum_pos' (fun j _ => wt_nonneg b r j) ⟨i, Finset.mem_univ i, ?_⟩
  unfold wt; rw [if_pos hi]; exact Real.exp_pos _

end Row

/-- Weight over sum of weights, whatever common factor both carry. -/
theorem ratio (w W M : ℝ) : (w * Real.exp (-M)) / (W * Real.exp (-M)) = w / W :=
  mul_div_mul_right _ _ (Real.exp_ne_zero _)

/-- The gradient through a softmax written over the unnormalised weights. -/
theorem softmax_grad (dp w W M s : ℝ) (hW : W ≠ 0) (hs : s = ∑ _x : Fin 1, s) :
    dp / (W * Real.exp (-M)) * (w * Real.exp (-M)) = dp * (w / W) := by
  have := Real.exp_ne_zero (-M)
  field_simp

/-! ## The attention's numbers -/

/-- The scores' scale. -/
def scale : ℝ := (Ideal.ofBits FTy.f32 1035273459#32).toReal

theorem scale_eq : Ideal.ofBits FTy.f32 1035273459#32 = (scale : EReal) := by
  have h : ∃ c : ℝ, Ideal.ofBits FTy.f32 1035273459#32 = (c : EReal) := by
    refine ⟨11863283 / 134217728, ?_⟩
    simp [Ideal.ofBits, Ideal.ieee, -EReal.coe_mul]; norm_num
  obtain ⟨c, hc⟩ := h
  unfold scale; rw [hc, EReal.toReal_coe]

theorem neg_inf : Ideal.ofBits FTy.f32 4286578688#32 = (⊥ : EReal) := by simp [Ideal.ofBits, Ideal.ieee]

/-- Key `s` is in the band of query `t`: its chunk of 64 is that of `t` or one of the eight before. -/
def band (t s : ℕ) : Prop := s / 64 ≤ t / 64 ∧ t / 64 ≤ s / 64 + 8
instance (t s : ℕ) : Decidable (band t s) := by unfold band; infer_instance

/-- The bias class of a query and a key. -/
def cls (t s : ℕ) : ℕ := (max (-63) (min 256 ((t : ℤ) - (s : ℤ))) + 63).toNat

theorem cls_lt (t s : ℕ) : cls t s < 320 := by unfold cls; omega

variable (q k v dy rel : ℕ → ℕ → ℝ)

def score (h t s : ℕ) : ℝ := (∑ d : Fin 128, q t (h * 128 + d) * k s (h * 128 + d)) * scale + rel h (cls t s)
def weight (h t s : ℕ) : ℝ := if band t s then Real.exp (score q k rel h t s) else 0
def total (h t : ℕ) : ℝ := ∑ s : Fin 4096, weight q k rel h t s
def prob (h t s : ℕ) : ℝ := weight q k rel h t s / total q k rel h t
def dprob (h t s : ℕ) : ℝ := ∑ d : Fin 128, dy t (h * 128 + d) * v s (h * 128 + d)
def mean (h t : ℕ) : ℝ := ∑ s : Fin 4096, prob q k rel h t s * dprob v dy h t s
def dscore (h t s : ℕ) : ℝ := prob q k rel h t s * (dprob v dy h t s - mean q k v dy rel h t)

/-- The results. -/
def gq (t h d : ℕ) : ℝ := (∑ s : Fin 4096, dscore q k v dy rel h t s * k s (h * 128 + d)) * scale
def gk (s h d : ℕ) : ℝ := (∑ t : Fin 4096, dscore q k v dy rel h t s * q t (h * 128 + d)) * scale
def gv (s h d : ℕ) : ℝ := ∑ t : Fin 4096, prob q k rel h t s * dy t (h * 128 + d)
/-- The score gradient by the padded key: the keys are preceded by 512 that nothing attends to. -/
def dpad (h t y : ℕ) : ℝ := if 512 ≤ y then dscore q k v dy rel h t (y - 512) else 0
def ppad (h t y : ℕ) : ℝ := if 512 ≤ y then prob q k rel h t (y - 512) else 0
/-- The summed score gradient after `n` windows. -/
def gs (n h r c : ℕ) : ℝ := ∑ w ∈ Finset.range n, dpad q k v dy rel h (512 * w + r) (512 * w + c)

theorem weight_off {h t s : ℕ} (hb : ¬ band t s) : weight q k rel h t s = 0 := if_neg hb
theorem prob_off {h t s : ℕ} (hb : ¬ band t s) : prob q k rel h t s = 0 := by
  unfold prob; rw [weight_off q k rel hb, zero_div]
theorem dscore_off {h t s : ℕ} (hb : ¬ band t s) : dscore q k v dy rel h t s = 0 := by
  unfold dscore; rw [prob_off q k rel hb, zero_mul]

theorem total_pos (h t : ℕ) (ht : t < 4096) : 0 < total q k rel h t :=
  wt_sum_pos (fun s : Fin 4096 => band t s) (fun s : Fin 4096 => score q k rel h t s) ⟨⟨t, ht⟩, by unfold band; dsimp only; omega⟩

/-- The output. -/
def out (h t d : ℕ) : ℝ := ∑ s : Fin 4096, prob q k rel h t s * v s (h * 128 + d)

/-- A row's mean gradient is its output times the output's gradient. -/
theorem mean_eq (h t : ℕ) : (∑ d : Fin 128, dy t (h * 128 + d) * out q k v rel h t d) = mean q k v dy rel h t := by
  unfold mean dprob out
  simp_rw [Finset.mul_sum]
  rw [Finset.sum_comm]
  refine Finset.sum_congr rfl fun s _ => Finset.sum_congr rfl fun d _ => by ring

/-! ## Windows -/

/-- A sum over the 4096 keys of what vanishes off a stretch of 768 padded keys. -/
theorem sum_stretch {M : Type*} [AddCommMonoid M] (a : ℕ) (f : ℕ → M) (hf : ∀ s, s < 4096 → f s ≠ 0 → a ≤ s + 512 ∧ s + 512 < a + 768) (ha : a + 768 ≤ 4608) :
    (∑ κ : Fin 768, if 512 ≤ a + κ.val then f (a + κ.val - 512) else 0) = ∑ s : Fin 4096, f s := by
  rw [Finset.sum_fin_eq_sum_range, Finset.sum_fin_eq_sum_range]
  refine Finset.sum_bij_ne_zero (fun κ _ _ => a + κ - 512) ?_ ?_ ?_ ?_
  · intro κ hκ h0; rw [Finset.mem_range] at hκ ⊢; dsimp only at h0 ⊢; omega
  · intro κ hκ h0 κ' hκ' h0' he
    rw [Finset.mem_range] at hκ hκ'
    have h1 : 512 ≤ a + κ := by by_contra hc; simp [hκ, hc] at h0
    have h2 : 512 ≤ a + κ' := by by_contra hc; simp [hκ', hc] at h0'
    omega
  · intro s hs h0
    rw [Finset.mem_range] at hs
    simp only [hs, dite_true] at h0
    obtain ⟨h1, h2⟩ := hf s hs h0
    refine ⟨s + 512 - a, Finset.mem_range.2 (by omega), ?_, by omega⟩
    have e1 : s + 512 - a < 768 := by omega
    have e2 : 512 ≤ a + (s + 512 - a) := by omega
    have e3 : a + (s + 512 - a) - 512 = s := by omega
    simp only [e1, e2, e3, dite_true, if_true]; exact h0
  · intro κ hκ h0
    rw [Finset.mem_range] at hκ
    have h1 : 512 ≤ a + κ := by by_contra hc; simp [hκ, hc] at h0
    have h2 : a + κ - 512 < 4096 := by omega
    simp only [hκ, h1, h2, dite_true, if_true]

/-- The band of a half window's rows lies in its stretch of 768 padded keys. -/
theorem band_stretch {a ρ s : ℕ} (ha : 256 ∣ a) (hρ : ρ < 256) (hb : band (a + ρ) s) : a ≤ s + 512 ∧ s + 512 < a + 768 := by
  obtain ⟨n, rfl⟩ := ha
  unfold band at hb; omega

/-- A key's rows lie in its own window and the next. -/
theorem band_rows {w n t : ℕ} (hn : n < 512) (hb : band t (512 * w + n)) : 512 * w ≤ t ∧ t < 512 * w + 1024 := by
  unfold band at hb; omega

end Cert.Val

end
-- ==== Proof.Val.Words.lean ====
/- The integer words of the mask and of the bias table, in natural numbers, and the bias table read at an index. -/
module

public import proofs.«01_k».proof.Proof.Val.Math
public import Idealize.ShloMosaic.Lib.ValueIdxCore

@[expose] public section

set_option maxRecDepth 16384

noncomputable section

namespace Cert.Val

open Idealize.ShloMosaic

/-- The bias class of a difference `x = t + 4096 − s` as a word. -/
theorem cls_word_aux : ∀ x : Fin 8192,
    IntOp.addi (IntOp.minsi 256#32 (IntOp.maxsi 4294967233#32 (IntOp.subi (BitVec.ofNat 32 x.val) 4096#32))) 63#32
      = BitVec.ofNat 32 (max (-63) (min 256 ((x.val : ℤ) - 4096)) + 63).toNat := by decide +kernel

theorem cls_word (t s : Fin 4096) :
    IntOp.addi (IntOp.minsi 256#32 (IntOp.maxsi 4294967233#32 (IntOp.subi (BitVec.ofNat 32 t.val) (BitVec.ofNat 32 s.val)))) 63#32
      = BitVec.ofNat 32 (cls t s) := by
  have h := cls_word_aux ⟨t.val + 4096 - s.val, by omega⟩
  have e : IntOp.subi (BitVec.ofNat 32 (t.val + 4096 - s.val)) 4096#32 = IntOp.subi (BitVec.ofNat 32 t.val) (BitVec.ofNat 32 s.val) := by
    have ht := t.isLt; have hs := s.isLt
    show BitVec.ofNat 32 (t.val + 4096 - s.val) - 4096#32 = BitVec.ofNat 32 t.val - BitVec.ofNat 32 s.val
    bv_omega
  have e2 : ((t.val + 4096 - s.val : ℕ) : ℤ) - 4096 = (t.val : ℤ) - (s.val : ℤ) := by omega
  dsimp only at h
  rw [e, e2] at h
  exact h

/-- A class is not negative as a signed word, -/
theorem cls_nonneg : ∀ x : Fin 320, IntOp.cmpi .slt (BitVec.ofNat 32 x.val) 0#32 = 0#1 := by decide +kernel
/-- and reads back as itself. -/
theorem cls_toNat : ∀ x : Fin 320, min (BitVec.ofNat 32 x.val).toInt.toNat 319 = x.val := by decide +kernel

/-- The sign of a word. -/
def signWord (x : BitVec 32) : BitVec 32 := if x = 0 then 0 else if x.msb then -1 else 1
/-- The chunk of a row as the host divides: the quotient rounded down. -/
def chunkWord (x : BitVec 32) : BitVec 32 :=
  Scalar.select (IntOp.andi (IntOp.cmpi .ne (signWord x) (signWord 64#32)) (IntOp.cmpi .ne (IntOp.remsi .host x 64#32) 0#32))
    (IntOp.subi (IntOp.divsi .host x 64#32) 1#32) (IntOp.divsi .host x 64#32)

theorem quotient_word : ∀ x : Fin 4096, IntOp.divsi .host (BitVec.ofNat 32 x.val) 64#32 = BitVec.ofNat 32 (x.val / 64) := by decide +kernel
theorem remainder_word : ∀ x : Fin 4096, IntOp.remsi .host (BitVec.ofNat 32 x.val) 64#32 = BitVec.ofNat 32 (x.val % 64) := by decide +kernel
theorem not_low : ∀ x : Fin 4096, (BitVec.ofNat 32 x.val).msb = false := by decide +kernel
theorem chunk_zero : chunkWord 0#32 = 0#32 := by
  decide +kernel
theorem ne_zero_word : ∀ x : Fin 4095, ¬ BitVec.ofNat 32 (x.val + 1) = 0 := by decide +kernel

theorem chunk_word (x : Fin 4096) : chunkWord (BitVec.ofNat 32 x.val) = BitVec.ofNat 32 (x.val / 64) := by
  by_cases h : x.val = 0
  · rw [h]; exact chunk_zero
  · have hs : IntOp.cmpi .ne (signWord (BitVec.ofNat 32 x.val)) (signWord 64#32) = 0#1 := by
      have h1 := ne_zero_word ⟨x.val - 1, by omega⟩
      have e : x.val - 1 + 1 = x.val := by omega
      dsimp only at h1; rw [e] at h1
      unfold signWord; rw [if_neg h1, not_low x]; decide
    have ha : ∀ b : BitVec 1, IntOp.andi 0#1 b = 0#1 := by decide
    unfold chunkWord; rw [hs, ha, quotient_word x]; rfl

/-- The band's test on two chunks. -/
theorem band_word : ∀ x y : Fin 64,
    IntOp.andi (IntOp.cmpi .sge (IntOp.subi (BitVec.ofNat 32 x.val) (BitVec.ofNat 32 y.val)) 0#32)
      (IntOp.cmpi .sle (IntOp.subi (BitVec.ofNat 32 x.val) (BitVec.ofNat 32 y.val)) 8#32)
      = if y.val ≤ x.val ∧ x.val ≤ y.val + 8 then 1#1 else 0#1 := by decide +kernel

/-! ## The bias table's columns taken at an array of classes -/

section Columns
variable {α : Type} {N C A B w : ℕ}

/-- The dimension numbers of taking columns at a vector of classes, -/
abbrev columns (wf : GatherDims.WF ⟨2, ![N, C]⟩ ⟨2, ![A, 1]⟩ ⟨2, ![N, A]⟩ [0] [1] [] [1] [] 1 ![N, 1]) :
    GatherDims ⟨2, ![N, C]⟩ ⟨2, ![A, 1]⟩ ⟨2, ![N, A]⟩ := ⟨[0], [1], [], [], [1], 1, ![N, 1], wf⟩
/-- and at a matrix of them. -/
abbrev columns₂ (wf : GatherDims.WF ⟨2, ![N, C]⟩ ⟨3, ![A, B, 1]⟩ ⟨3, ![N, A, B]⟩ [0] [1] [] [1] [] 2 ![N, 1]) :
    GatherDims ⟨2, ![N, C]⟩ ⟨3, ![A, B, 1]⟩ ⟨3, ![N, A, B]⟩ := ⟨[0], [1], [], [], [1], 2, ![N, 1], wf⟩

theorem gather_columns (hC : 0 < C) (wf : GatherDims.WF ⟨2, ![N, C]⟩ ⟨2, ![A, 1]⟩ ⟨2, ![N, A]⟩ [0] [1] [] [1] [] 1 ![N, 1])
    (x : (⟨2, ![N, C]⟩ : Shape).Idx → α) (idx : IVec ⟨2, ![A, 1]⟩ w) (n : Fin N) (a : Fin A) :
    Host.gather (columns wf) x idx (ix2 n a) = x (ix2 n ⟨min (idx (ix2 a 0)).toInt.toNat (C - 1), by omega⟩) := by
  unfold Host.gather
  congr 1
  funext b
  refine Fin.ext ?_
  show (columns wf).start (ix2 n a) idx b + (columns wf).batchCoord (ix2 n a) b + (columns wf).offCoord (ix2 n a) b = _
  rcases (show b = 0 ∨ b = 1 by match b with | ⟨0, _⟩ => exact Or.inl rfl | ⟨1, _⟩ => exact Or.inr rfl) with rfl | rfl
  · rw [GatherDims.batchCoord_eq_zero _ _ _ List.not_mem_nil]
    unfold GatherDims.start GatherDims.offCoord
    rw [dif_neg (by simp), dif_pos ((GatherDims.mem_sKept _ _).mpr ⟨by simp, by simp⟩), zero_add, zero_add]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (columns wf).startIndexMap from List.mem_singleton.mpr rfl)]
    have hsi : (columns wf).siIdx (ix2 n a) ⟨List.idxOf (1 : Fin 2) (columns wf).startIndexMap,
        List.idxOf_lt_length_iff.2 (List.mem_singleton.mpr rfl)⟩ = ix2 a 0 := by
      funext e; refine Fin.ext ?_
      match e with
      | ⟨0, _⟩ => rfl
      | ⟨1, _⟩ => rfl
    rw [hsi]
    rfl

theorem gather_columns₂ (hC : 0 < C) (wf : GatherDims.WF ⟨2, ![N, C]⟩ ⟨3, ![A, B, 1]⟩ ⟨3, ![N, A, B]⟩ [0] [1] [] [1] [] 2 ![N, 1])
    (x : (⟨2, ![N, C]⟩ : Shape).Idx → α) (idx : IVec ⟨3, ![A, B, 1]⟩ w) (n : Fin N) (a : Fin A) (b : Fin B) :
    Host.gather (columns₂ wf) x idx (ix3 n a b) = x (ix2 n ⟨min (idx (ix3 a b 0)).toInt.toNat (C - 1), by omega⟩) := by
  unfold Host.gather
  congr 1
  funext e
  refine Fin.ext ?_
  show (columns₂ wf).start (ix3 n a b) idx e + (columns₂ wf).batchCoord (ix3 n a b) e + (columns₂ wf).offCoord (ix3 n a b) e = _
  rcases (show e = 0 ∨ e = 1 by match e with | ⟨0, _⟩ => exact Or.inl rfl | ⟨1, _⟩ => exact Or.inr rfl) with rfl | rfl
  · rw [GatherDims.batchCoord_eq_zero _ _ _ List.not_mem_nil]
    unfold GatherDims.start GatherDims.offCoord
    rw [dif_neg (by simp), dif_pos ((GatherDims.mem_sKept _ _).mpr ⟨by simp, by simp⟩), zero_add, zero_add]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (columns₂ wf).startIndexMap from List.mem_singleton.mpr rfl)]
    have hsi : (columns₂ wf).siIdx (ix3 n a b) ⟨List.idxOf (1 : Fin 2) (columns₂ wf).startIndexMap,
        List.idxOf_lt_length_iff.2 (List.mem_singleton.mpr rfl)⟩ = ix3 a b 0 := by
      funext f; refine Fin.ext ?_
      match f with
      | ⟨0, _⟩ => rfl
      | ⟨1, _⟩ => rfl
      | ⟨2, _⟩ => rfl
    rw [hsi]
    rfl

end Columns

end Cert.Val

end
-- ==== Proof.Val.Ref.lean ====
/- The reference's composed terms at finite arguments, in real numbers. -/
module

public import proofs.«01_k».proof.Proof.Gen.ReferenceIdeal.Run
public import proofs.«01_k».proof.Proof.Val.Words
public import Idealize.ShloMosaic.Lib.Pointwise
public import Idealize.ShloMosaic.Lib.Tactic.CleanTypes

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.SL.Sem Idealize.ShloMosaic.StableHlo
open Cert.Val

variable (V0 : Valuation τ sig (Elt Ideal)) (q k v dy rel : ℕ → ℕ → ℝ)

/-! The arguments and the composed terms as arrays of the ideal numbers. -/

abbrev A0 : FVec Ideal S4096x2048 .f32 := V0 (Proc.devRef .tc main_arg0)
abbrev A1 : FVec Ideal S4096x2048 .f32 := V0 (Proc.devRef .tc main_arg1)
abbrev A2 : FVec Ideal S4096x2048 .f32 := V0 (Proc.devRef .tc main_arg2)
abbrev A3 : FVec Ideal S16x320 .f32 := V0 (Proc.devRef .tc main_arg3)
abbrev A4 : FVec Ideal S4096x2048 .f32 := V0 (Proc.devRef .tc main_arg4)
abbrev R17 : FVec Ideal S4096x16x128 .f32 := res_main_v17 V0
abbrev R18 : FVec Ideal S4096x16x128 .f32 := res_main_v18 V0
abbrev R19 : FVec Ideal S4096x16x128 .f32 := res_main_v19 V0
abbrev R39_0 : FVec Ideal S16x4096x4096 .f32 := res_main_v39_0 V0
abbrev R40 : FVec Ideal S16x4096 .f32 := res_main_v40 V0
abbrev R60 : FVec Ideal S16x4096x4096 .f32 := res_main_v60 V0
abbrev R62 : FVec Ideal S16x4096x1 .f32 := res_main_v62 V0
abbrev R64 : FVec Ideal S16x4096x4096 .f32 := res_main_v64 V0
abbrev R73 : FVec Ideal S16x4096x4096 .f32 := res_main_v73 V0
abbrev R88 : FVec Ideal S16x4096x4096 .f32 := res_main_v88 V0
abbrev R90 : FVec Ideal S16x4096x4096 .f32 := res_main_v90 V0
abbrev R98 : FVec Ideal S16x4096x4608 .f32 := res_main_v98 V0

/-- The arguments are real numbers: `q`, `k`, `v`, the output's gradient and the bias table. -/
structure Args : Prop where
  q : ∀ (t : Fin 4096) (e : Fin 2048), A0 V0 (ix2 t e) = (q t e : EReal)
  k : ∀ (t : Fin 4096) (e : Fin 2048), A1 V0 (ix2 t e) = (k t e : EReal)
  v : ∀ (t : Fin 4096) (e : Fin 2048), A2 V0 (ix2 t e) = (v t e : EReal)
  rel : ∀ (h : Fin 16) (e : Fin 320), A3 V0 (ix2 h e) = (rel h e : EReal)
  dy : ∀ (t : Fin 4096) (e : Fin 2048), A4 V0 (ix2 t e) = (dy t e : EReal)

/-! ## The forward pass -/

theorem word9 (t s : Fin 4096) : res_main_v9 V0 (ix2 t s) = BitVec.ofNat 32 (cls t s) := by
  refine Eq.trans ?_ (cls_word t s)
  unfold res_main_v9; clean_types; pointwise
  rfl

theorem word32 (t s : Fin 4096) : res_main_v32 V0 (ix2 t s) = IntOp.subi (BitVec.ofNat 32 (t.val / 64)) (BitVec.ofNat 32 (s.val / 64)) := by
  rw [← chunk_word t, ← chunk_word s]
  unfold res_main_v32 res_main_call1_v2 res_main_call2_v2 res_main_v24 res_main_v27 res_main_call1_v0 res_main_call2_v0
  clean_types; pointwise
  rfl

theorem mask (h : Fin 16) (t s : Fin 4096) : res_main_v39_1 V0 (ix3 h t s) = if band t s then 1#1 else 0#1 := by
  have e : res_main_v39_1 V0 (ix3 h t s) = IntOp.andi (IntOp.cmpi .sge (res_main_v32 V0 (ix2 t s)) 0#32) (IntOp.cmpi .sle (res_main_v32 V0 (ix2 t s)) 8#32) := by
    unfold res_main_v39_1; clean_types; pointwise
  rw [e, word32 V0 t s]
  exact band_word ⟨t.val / 64, by omega⟩ ⟨s.val / 64, by omega⟩

variable {V0 q k v dy rel} (H : Args V0 q k v dy rel)
include H

theorem read17 (t : Fin 4096) (h : Fin 16) (d : Fin 128) : R17 V0 (ix3 t h d) = (q t (h * 128 + d) : EReal) := by
  refine Eq.trans ?_ (H.q t ⟨h.val * 128 + d.val, by omega⟩)
  unfold R17 res_main_v17; clean_types; pointwise
theorem read18 (t : Fin 4096) (h : Fin 16) (d : Fin 128) : R18 V0 (ix3 t h d) = (k t (h * 128 + d) : EReal) := by
  refine Eq.trans ?_ (H.k t ⟨h.val * 128 + d.val, by omega⟩)
  unfold R18 res_main_v18; clean_types; pointwise
theorem read19 (t : Fin 4096) (h : Fin 16) (d : Fin 128) : R19 V0 (ix3 t h d) = (v t (h * 128 + d) : EReal) := by
  refine Eq.trans ?_ (H.v t ⟨h.val * 128 + d.val, by omega⟩)
  unfold R19 res_main_v19; clean_types; pointwise

/-- The bias of a query and a key. -/
theorem bias (h : Fin 16) (t s : Fin 4096) :
    Host.gather gather_S16x320_S4096x4096x1_S16x4096x4096_0_1_n_n_1_2_161 (A3 V0) (broadcastInDim S4096x4096x1 ![0, 1] bcast_S4096x4096_S4096x4096x1_0_1 (select (cmpi .slt (res_main_v9 V0) (broadcastInDim S4096x4096 ![] bcast_S_S4096x4096 (constantI S_ 32 0#32))) (addi (res_main_v9 V0) (broadcastInDim S4096x4096 ![] bcast_S_S4096x4096 (constantI S_ 32 320#32))) (res_main_v9 V0))) (ix3 h t s)
      = (rel h (cls t s) : EReal) := by
  refine (gather_columns₂ (by omega) _ _ _ h t s).trans ?_
  refine Eq.trans ?_ (H.rel h ⟨cls t s, cls_lt t s⟩)
  have e : (broadcastInDim S4096x4096x1 ![0, 1] bcast_S4096x4096_S4096x4096x1_0_1 (select (cmpi .slt (res_main_v9 V0) (broadcastInDim S4096x4096 ![] bcast_S_S4096x4096 (constantI S_ 32 0#32))) (addi (res_main_v9 V0) (broadcastInDim S4096x4096 ![] bcast_S_S4096x4096 (constantI S_ 32 320#32))) (res_main_v9 V0))) (ix3 t s 0)
      = BitVec.ofNat 32 (cls t s) := by
    have e1 : (broadcastInDim S4096x4096x1 ![0, 1] bcast_S4096x4096_S4096x4096x1_0_1 (select (cmpi .slt (res_main_v9 V0) (broadcastInDim S4096x4096 ![] bcast_S_S4096x4096 (constantI S_ 32 0#32))) (addi (res_main_v9 V0) (broadcastInDim S4096x4096 ![] bcast_S_S4096x4096 (constantI S_ 32 320#32))) (res_main_v9 V0))) (ix3 t s 0)
        = Scalar.select (IntOp.cmpi .slt (res_main_v9 V0 (ix2 t s)) 0#32) (IntOp.addi (res_main_v9 V0 (ix2 t s)) 320#32) (res_main_v9 V0 (ix2 t s)) := by
      clean_types; pointwise
    rw [e1, word9 V0 t s, cls_nonneg ⟨cls t s, cls_lt t s⟩]; rfl
  have e2 := cls_toNat ⟨cls t s, cls_lt t s⟩
  dsimp only at e2
  refine congrArg _ (congrArg (ix2 h) (Fin.ext ?_))
  show min (BitVec.toInt _).toNat 319 = cls t s
  rw [e]; exact e2

theorem scores (h : Fin 16) (t s : Fin 4096) :
    R39_0 V0 (ix3 h t s) = if band t s then (score q k rel h t s : EReal) else ⊥ := by
  have e : R39_0 V0 (ix3 h t s) = Scalar.select (res_main_v39_1 V0 (ix3 h t s)) ((∑ x : Fin 128, R17 V0 (ix3 t h x) * R18 V0 (ix3 s h x)) * Ideal.ofBits FTy.f32 1035273459#32 + Host.gather gather_S16x320_S4096x4096x1_S16x4096x4096_0_1_n_n_1_2_161 (A3 V0) (broadcastInDim S4096x4096x1 ![0, 1] bcast_S4096x4096_S4096x4096x1_0_1 (select (cmpi .slt (res_main_v9 V0) (broadcastInDim S4096x4096 ![] bcast_S_S4096x4096 (constantI S_ 32 0#32))) (addi (res_main_v9 V0) (broadcastInDim S4096x4096 ![] bcast_S_S4096x4096 (constantI S_ 32 320#32))) (res_main_v9 V0))) (ix3 h t s)) (Ideal.ofBits FTy.f32 4286578688#32) := by
    unfold R39_0 res_main_v39_0; clean_types; pointwise; rfl
  rw [e, bias H h t s, mask V0 h t s, scale_eq, Cert.Val.neg_inf,
    sum_eq_coe Finset.univ _ (fun x : Fin 128 => q t (h * 128 + x) * k s (h * 128 + x))
      (fun x _ => by rw [read17 H t h x, read18 H s h x, EReal.coe_mul]), ← EReal.coe_mul, ← EReal.coe_add]
  unfold score
  split_ifs <;> rfl

theorem max_real (h : Fin 16) (t : Fin 4096) : ∃ M : ℝ, R40 V0 (ix2 h t) = (M : EReal) := by
  have e : R40 V0 (ix2 h t) = Finset.fold max (Ideal.ofBits FTy.f32 4286578688#32) (fun x : Fin 4096 => R39_0 V0 (ix3 h t x)) Finset.univ := by
    unfold R40 res_main_v40; clean_types; pointwise
  rw [e, Cert.Val.neg_inf]
  exact row_max (fun s : Fin 4096 => band t s) (fun s => score q k rel h t s) _ (fun s => scores H h t s) ⟨t, by unfold band; omega⟩

theorem exps (h : Fin 16) (t : Fin 4096) : ∃ M : ℝ, ∀ s : Fin 4096,
    R60 V0 (ix3 h t s) = ((weight q k rel h t s * Real.exp (-M) : ℝ) : EReal) := by
  obtain ⟨M, hM⟩ := max_real H h t
  refine ⟨M, fun s => ?_⟩
  have key : ∀ (x : FVec Ideal S16x4096x4096 .f32) (y : FVec Ideal S16x4096 .f32), Host.exp (subf x (broadcastInDim S16x4096x4096 ![0, 1, 2] bcast_S16x4096x1_S16x4096x4096_0_1_2 (broadcastInDim S16x4096x1 ![0, 1] bcast_S16x4096_S16x4096x1_0_1 (maximumf (broadcastInDim S16x4096 ![] bcast_S_S16x4096 (constant S_ .f32 0xFF800000#32)) y)))) (ix3 h t s) = Ideal.exp (x (ix3 h t s) - max (Ideal.ofBits FTy.f32 4286578688#32) (y (ix2 h t))) := by
    intro x y; pointwise
  refine (key (R39_0 V0) (R40 V0)).trans ?_
  rw [hM, Cert.Val.neg_inf, max_eq_right bot_le]
  exact row_exp (fun s : Fin 4096 => band t s) (fun s => score q k rel h t s) _ (fun s => scores H h t s) M s

theorem sums (h : Fin 16) (t : Fin 4096) (M : ℝ) (hM : ∀ s : Fin 4096, R60 V0 (ix3 h t s) = ((weight q k rel h t s * Real.exp (-M) : ℝ) : EReal)) :
    R62 V0 (ix3 h t 0) = ((total q k rel h t * Real.exp (-M) : ℝ) : EReal) := by
  have e : R62 V0 (ix3 h t 0) = ∑ x : Fin 4096, R60 V0 (ix3 h t x) := by
    unfold R62 res_main_v62; clean_types; pointwise
  rw [e, sum_eq_coe Finset.univ _ _ (fun s _ => hM s)]
  unfold total; rw [Finset.sum_mul]

theorem total_ne (h : Fin 16) (t : Fin 4096) (M : ℝ) : total q k rel h t * Real.exp (-M) ≠ 0 :=
  mul_ne_zero (total_pos q k rel h t t.isLt).ne' (Real.exp_ne_zero _)

theorem probs (h : Fin 16) (t s : Fin 4096) : R64 V0 (ix3 h t s) = (prob q k rel h t s : EReal) := by
  obtain ⟨M, hM⟩ := exps H h t
  have e : R64 V0 (ix3 h t s) = Ideal.div (R60 V0 (ix3 h t s)) (R62 V0 (ix3 h t 0)) := by
    unfold R64 res_main_v64; clean_types; pointwise
  rw [e, hM, sums H h t M hM, div_coe_coe _ _ (total_ne H h t M), ratio]
  rfl

/-! ## The gradient -/

theorem dprobs (h : Fin 16) (t s : Fin 4096) : R73 V0 (ix3 h t s) = (dprob v dy h t s : EReal) := by
  have e : R73 V0 (ix3 h t s) = ∑ x : Fin 128, A4 V0 (ix2 t ⟨h.val * 128 + x.val, by omega⟩) * A2 V0 (ix2 s ⟨h.val * 128 + x.val, by omega⟩) := by
    unfold R73 res_main_v73 res_main_v72 res_main_v19; clean_types; pointwise
  rw [e]
  refine sum_eq_coe Finset.univ _ _ (fun x _ => ?_)
  rw [H.dy t ⟨h.val * 128 + x.val, by omega⟩, H.v s ⟨h.val * 128 + x.val, by omega⟩, EReal.coe_mul]

theorem dscores (h : Fin 16) (t s : Fin 4096) : R88 V0 (ix3 h t s) = (dscore q k v dy rel h t s : EReal) := by
  obtain ⟨M, hM⟩ := exps H h t
  have e : R88 V0 (ix3 h t s) = Scalar.select (res_main_v39_1 V0 (ix3 h t s)) ((Ideal.div (R73 V0 (ix3 h t s)) (R62 V0 (ix3 h t 0)) + ∑ _x : Fin 1, -∑ x : Fin 4096, R73 V0 (ix3 h t x) * Ideal.div 1 (R62 V0 (ix3 h t 0) * R62 V0 (ix3 h t 0)) * R60 V0 (ix3 h t x)) * R60 V0 (ix3 h t s)) 0 := by
    unfold R88 res_main_v88; clean_types; pointwise
  have hL := total_ne H h t M
  have hL' : total q k rel h t ≠ 0 := (total_pos q k rel h t t.isLt).ne'
  have hE := Real.exp_ne_zero (-M)
  rw [e, mask V0 h t s, sums H h t M hM, dprobs H h t s, hM s, div_coe_coe _ _ hL, ← EReal.coe_mul, ← EReal.coe_one,
    div_coe_coe _ _ (mul_ne_zero hL hL), Fin.sum_univ_one,
    sum_eq_coe Finset.univ _ (fun x : Fin 4096 => dprob v dy h t x * (1 / (total q k rel h t * Real.exp (-M) * (total q k rel h t * Real.exp (-M)))) * (weight q k rel h t x * Real.exp (-M)))
      (fun x _ => by rw [dprobs H h t x, hM x, ← EReal.coe_mul, ← EReal.coe_mul]), ← EReal.coe_neg, ← EReal.coe_add, ← EReal.coe_mul]
  by_cases hb : band t s
  · rw [if_pos hb]
    show ((_ : ℝ) : EReal) = _
    congr 1
    have hm : (∑ x : Fin 4096, dprob v dy h t x * (1 / (total q k rel h t * Real.exp (-M) * (total q k rel h t * Real.exp (-M)))) * (weight q k rel h t x * Real.exp (-M)))
        = mean q k v dy rel h t / (total q k rel h t * Real.exp (-M)) := by
      unfold mean prob
      rw [Finset.sum_div]
      refine Finset.sum_congr rfl fun x _ => ?_
      field_simp
    rw [hm]
    unfold dscore prob
    field_simp
    ring
  · rw [if_neg hb, dscore_off q k v dy rel hb]; rfl

theorem dscaled (h : Fin 16) (t s : Fin 4096) : R90 V0 (ix3 h t s) = ((dscore q k v dy rel h t s * scale : ℝ) : EReal) := by
  have e : R90 V0 (ix3 h t s) = R88 V0 (ix3 h t s) * Ideal.ofBits FTy.f32 1035273459#32 := by
    unfold R90 res_main_v90; clean_types; pointwise
  rw [e, dscores H, scale_eq, EReal.coe_mul]

theorem dpads (h : Fin 16) (t : Fin 4096) (y : Fin 4608) : R98 V0 (ix3 h t y) = (dpad q k v dy rel h t y : EReal) := by
  by_cases hy : 512 ≤ y.val
  · have e : R98 V0 (ix3 h t y) = R88 V0 (ix3 h t ⟨y.val - 512, by omega⟩) := by
      unfold R98 res_main_v98; clean_types; pointwise
      rw [dif_pos ⟨hy, by omega⟩]
    rw [e, dscores H]; unfold dpad; rw [if_pos hy]
  · have e : R98 V0 (ix3 h t y) = (FloatOps.sitofp FTy.f32 0#32 : Ideal .f32) := by
      unfold R98 res_main_v98; clean_types; pointwise
      rw [dif_neg (fun hc => hy hc.1)]
    rw [e]; unfold dpad; rw [if_neg hy]
    show (((0#32 : BitVec 32).toInt : ℝ) : EReal) = _
    norm_num

end Cert.ReferenceIdeal.Val

end
-- ==== Proof.Val.RefOut.lean ====
/- The reference's four results at finite arguments, in real numbers. -/
module

public import proofs.«01_k».proof.Proof.Val.Ref

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.SL.Sem Idealize.ShloMosaic.StableHlo
open Cert.Val

variable (V0 : Valuation τ sig (Elt Ideal))

/-- The output's gradient by head, column and row, an array of the ideal numbers. -/
abbrev R72 : FVec Ideal S16x128x4096 .f32 := res_main_v72 V0

/-- The keys' gradient, -/
def resK : FVec Ideal S4096x2048 .f32 := shapeCast _ (transpose S4096x16x128 [1, 0, 2] (Host.dotGeneral dot_S16x4096x4096_S4096x16x128_S16x4096x128_1_0_2_2_0_1 none (R90 V0) (R17 V0)) transposes_S16x4096x128_S4096x16x128_1_0_2) shapeCasts_S4096x16x128_S4096x2048
/-- the queries', -/
def resQ : FVec Ideal S4096x2048 .f32 := shapeCast _ (transpose S4096x16x128 [1, 0, 2] (Host.dotGeneral dot_S16x4096x4096_S4096x16x128_S16x4096x128_2_0_1_2_0_1 none (R90 V0) (R18 V0)) transposes_S16x4096x128_S4096x16x128_1_0_2) shapeCasts_S4096x16x128_S4096x2048
/-- the values', -/
def resV : FVec Ideal S4096x2048 .f32 := shapeCast _ (transpose S4096x16x128 [2, 0, 1] (Host.dotGeneral dot_S16x128x4096_S16x4096x4096_S16x128x4096_2_1_1_2_0_0 none (R72 V0) (R64 V0)) transposes_S16x128x4096_S4096x16x128_2_0_1) shapeCasts_S4096x16x128_S4096x2048
/-- and the sum of the score gradient's windows. -/
def resS : FVec Ideal S16x512x1024 .f32 := addf (addf (addf (addf (addf (addf (addf (addf (broadcastInDim S16x512x1024 ![] bcast_S_S16x512x1024 (constant S_ .f32 0x00000000#32)) (extractStridedSlice S16x512x1024 ![0, 0, 0] (R98 V0) slices_S16x4096x4608_S16x512x1024_0_0_0)) (extractStridedSlice S16x512x1024 ![0, 512, 512] (R98 V0) slices_S16x4096x4608_S16x512x1024_0_512_512)) (extractStridedSlice S16x512x1024 ![0, 1024, 1024] (R98 V0) slices_S16x4096x4608_S16x512x1024_0_1024_1024)) (extractStridedSlice S16x512x1024 ![0, 1536, 1536] (R98 V0) slices_S16x4096x4608_S16x512x1024_0_1536_1536)) (extractStridedSlice S16x512x1024 ![0, 2048, 2048] (R98 V0) slices_S16x4096x4608_S16x512x1024_0_2048_2048)) (extractStridedSlice S16x512x1024 ![0, 2560, 2560] (R98 V0) slices_S16x4096x4608_S16x512x1024_0_2560_2560)) (extractStridedSlice S16x512x1024 ![0, 3072, 3072] (R98 V0) slices_S16x4096x4608_S16x512x1024_0_3072_3072)) (extractStridedSlice S16x512x1024 ![0, 3584, 3584] (R98 V0) slices_S16x4096x4608_S16x512x1024_0_3584_3584)
/-- The attention's output. -/
def resO : FVec Ideal S4096x2048 .f32 := shapeCast _ (transpose S4096x16x128 [2, 0, 1] (Host.dotGeneral dot_S4096x16x128_S16x4096x4096_S16x128x4096_0_2_2_1_1_0 none (R19 V0) (R64 V0)) transposes_S16x128x4096_S4096x16x128_2_0_1) shapeCasts_S4096x16x128_S4096x2048

variable {V0} {q k v dy rel : ℕ → ℕ → ℝ} (H : Args V0 q k v dy rel)
include H

theorem resQ_eq (t : Fin 4096) (h : Fin 16) (d : Fin 128) : resQ V0 (ix2 t ⟨h.val * 128 + d.val, by omega⟩) = (gq q k v dy rel t h d : EReal) := by
  have e : resQ V0 (ix2 t ⟨h.val * 128 + d.val, by omega⟩) = ∑ s : Fin 4096, R90 V0 (ix3 h t s) * R18 V0 (ix3 s h d) := by
    unfold resQ; generalize R90 V0 = x; generalize R18 V0 = y
    pointwise
  rw [e, sum_eq_coe Finset.univ _ (fun s : Fin 4096 => dscore q k v dy rel h t s * scale * k s (h * 128 + d)) (fun s _ => by rw [dscaled H, read18 H, ← EReal.coe_mul])]
  unfold gq; rw [Finset.sum_mul]; congr 1; exact Finset.sum_congr rfl fun s _ => by ring

theorem resK_eq (t : Fin 4096) (h : Fin 16) (d : Fin 128) : resK V0 (ix2 t ⟨h.val * 128 + d.val, by omega⟩) = (gk q k v dy rel t h d : EReal) := by
  have e : resK V0 (ix2 t ⟨h.val * 128 + d.val, by omega⟩) = ∑ s : Fin 4096, R90 V0 (ix3 h s t) * R17 V0 (ix3 s h d) := by
    unfold resK; generalize R90 V0 = x; generalize R17 V0 = y
    pointwise
  rw [e, sum_eq_coe Finset.univ _ (fun s : Fin 4096 => dscore q k v dy rel h s t * scale * q s (h * 128 + d)) (fun s _ => by rw [dscaled H, read17 H, ← EReal.coe_mul])]
  unfold gk; rw [Finset.sum_mul]; congr 1; exact Finset.sum_congr rfl fun s _ => by ring

theorem resV_eq (t : Fin 4096) (h : Fin 16) (d : Fin 128) : resV V0 (ix2 t ⟨h.val * 128 + d.val, by omega⟩) = (gv q k dy rel t h d : EReal) := by
  have e : resV V0 (ix2 t ⟨h.val * 128 + d.val, by omega⟩) = ∑ s : Fin 4096, R72 V0 (ix3 h d s) * R64 V0 (ix3 h s t) := by
    unfold resV; generalize R64 V0 = x; generalize R72 V0 = y
    pointwise
  have e2 : ∀ s : Fin 4096, R72 V0 (ix3 h d s) = (dy s (h * 128 + d) : EReal) := by
    intro s
    refine Eq.trans ?_ (H.dy s ⟨h.val * 128 + d.val, by omega⟩)
    unfold R72 res_main_v72; clean_types; pointwise
  rw [e]; unfold gv
  refine sum_eq_coe Finset.univ _ _ (fun s _ => ?_)
  rw [e2, probs H, mul_comm (prob q k rel h s t), EReal.coe_mul]

theorem resO_eq (t : Fin 4096) (h : Fin 16) (d : Fin 128) : resO V0 (ix2 t ⟨h.val * 128 + d.val, by omega⟩) = (out q k v rel h t d : EReal) := by
  have e : resO V0 (ix2 t ⟨h.val * 128 + d.val, by omega⟩) = ∑ s : Fin 4096, R19 V0 (ix3 s h d) * R64 V0 (ix3 h t s) := by
    unfold resO; generalize R64 V0 = x; generalize R19 V0 = y
    pointwise
  rw [e]; unfold out
  refine sum_eq_coe Finset.univ _ _ (fun s _ => ?_)
  rw [read19 H, probs H, mul_comm (prob q k rel h t s), EReal.coe_mul]

theorem resS_eq (h : Fin 16) (r : Fin 512) (c : Fin 1024) : resS V0 (ix3 h r c) = (gs q k v dy rel 8 h r c : EReal) := by
  have e : resS V0 (ix3 h r c) = Ideal.ofBits FTy.f32 0#32 + R98 V0 (ix3 h ⟨512 * 0 + r.val, by omega⟩ ⟨512 * 0 + c.val, by omega⟩) + R98 V0 (ix3 h ⟨512 * 1 + r.val, by omega⟩ ⟨512 * 1 + c.val, by omega⟩)
      + R98 V0 (ix3 h ⟨512 * 2 + r.val, by omega⟩ ⟨512 * 2 + c.val, by omega⟩) + R98 V0 (ix3 h ⟨512 * 3 + r.val, by omega⟩ ⟨512 * 3 + c.val, by omega⟩)
      + R98 V0 (ix3 h ⟨512 * 4 + r.val, by omega⟩ ⟨512 * 4 + c.val, by omega⟩) + R98 V0 (ix3 h ⟨512 * 5 + r.val, by omega⟩ ⟨512 * 5 + c.val, by omega⟩)
      + R98 V0 (ix3 h ⟨512 * 6 + r.val, by omega⟩ ⟨512 * 6 + c.val, by omega⟩) + R98 V0 (ix3 h ⟨512 * 7 + r.val, by omega⟩ ⟨512 * 7 + c.val, by omega⟩) := by
    unfold resS; generalize R98 V0 = x
    pointwise
  have z : Ideal.ofBits FTy.f32 0#32 = ((0 : ℝ) : EReal) := by simp [Ideal.ofBits, Ideal.ieee]
  simp only [e, z, dpads H, ← EReal.coe_add]
  unfold gs
  simp only [Finset.sum_range_succ, Finset.sum_range_zero]

end Cert.ReferenceIdeal.Val

end
-- ==== Proof.Val.Host.lean ====
/- What the kernel's inputs hold when it is called: the arguments' casts, the bias table's row per head, and the
   attention's output, which is the reference's own. -/
module

public import proofs.«01_k».proof.Proof.Run.Region
public import proofs.«01_k».proof.Proof.Val.RefOut
public import Idealize.ShloMosaic.Lib.StableHlo.RunRead

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo
open Cert.Val

variable (V0 : Valuation τ sig (Elt Ideal))

/-- The arguments as arrays of the ideal numbers. -/
abbrev A0 : FVec Ideal S4096x2048 .f32 := V0 (Proc.devRef .tc main_arg0)
abbrev A1 : FVec Ideal S4096x2048 .f32 := V0 (Proc.devRef .tc main_arg1)
abbrev A2 : FVec Ideal S4096x2048 .f32 := V0 (Proc.devRef .tc main_arg2)
abbrev A3 : FVec Ideal S16x320 .f32 := V0 (Proc.devRef .tc main_arg3)
abbrev A4 : FVec Ideal S4096x2048 .f32 := V0 (Proc.devRef .tc main_arg4)

/-- The host's operations before the call, -/
abbrev ops : List (HloOp τ sig (Elt Ideal)) := List.flatten [hostOps0, hostOps0_1, hostOps0_2, hostOps0_3, hostOps0_4, hostOps0_5, hostOps0_6, hostOps0_7, hostOps0_8]

/-- and the call's six inputs after them. -/
abbrev B62 : FVec Ideal S4096x2048 .bf16 := after ops V0 (Proc.devRef .tc main_v62)
abbrev B63 : FVec Ideal S4096x2048 .bf16 := after ops V0 (Proc.devRef .tc main_v63)
abbrev B64 : FVec Ideal S4096x2048 .bf16 := after ops V0 (Proc.devRef .tc main_v64)
abbrev B65 : FVec Ideal S4096x2048 .bf16 := after ops V0 (Proc.devRef .tc main_v65)
abbrev B66 : FVec Ideal S4096x2048 .bf16 := after ops V0 (Proc.devRef .tc main_v66)
abbrev B7 : FVec Ideal S16x1x2048 .f32 := after ops V0 (Proc.devRef .tc main_v7)

theorem host_q : B62 V0 = truncf .bf16 (A0 V0) bitsLt_bf16_f32 := by
  unfold_abbrev_sides
  after_reads_simp
theorem host_k : B63 V0 = truncf .bf16 (A1 V0) bitsLt_bf16_f32 := by
  unfold_abbrev_sides
  after_reads_simp
theorem host_v : B64 V0 = truncf .bf16 (A2 V0) bitsLt_bf16_f32 := by
  unfold_abbrev_sides
  after_reads_simp
theorem host_dy : B65 V0 = truncf .bf16 (A4 V0) bitsLt_bf16_f32 := by
  unfold_abbrev_sides
  after_reads_simp

/-- The row's columns of the bias table, as words. -/
abbrev rowWords : IVec S2048 32 :=
  select (cmpi .slt (fun i => lit0 (S2048.rowMajor i)) (broadcastInDim S2048 ![] bcast_S_S2048 (constantI S_ 32 0#32)))
    (addi (fun i => lit0 (S2048.rowMajor i)) (broadcastInDim S2048 ![] bcast_S_S2048 (constantI S_ 32 320#32)))
    (fun i => lit0 (S2048.rowMajor i))

theorem host_row : B7 V0 = shapeCast S16x1x2048 (Host.gather gather_S16x320_S2048x1_S16x2048_0_1_n_n_1_1_161 (A3 V0)
    (broadcastInDim S2048x1 ![0] bcast_S2048_S2048x1_0 rowWords)) shapeCasts_S16x2048_S16x1x2048 := by
  unfold_abbrev_sides
  after_reads_simp
  rfl

/-- The class of the row's entry `u`: the difference of a query and a key `u − 512` later, or `u − 2560`. -/
def rowCls (u : ℕ) : ℕ := cls (if u < 1024 then 512 else 2560) u

theorem rowCls_lt (u : ℕ) : rowCls u < 320 := cls_lt _ _

set_option maxHeartbeats 2000000 in
theorem row_word : ∀ u : Fin 2048, lit0 u = BitVec.ofNat 32 (rowCls u) := by decide +kernel

theorem rowCls_eq (r : Fin 512) (m : Fin 1024) : rowCls ((m.val + 2048 - r.val) % 2048) = cls (512 + r) m := by
  have hr := r.isLt; have hm := m.isLt
  unfold rowCls cls
  split <;> congr 2 <;> omega

theorem row_index (u : Fin 2048) : (broadcastInDim S2048x1 ![0] bcast_S2048_S2048x1_0 rowWords) (ix2 u 0) = BitVec.ofNat 32 (rowCls u) := by
  have e : ∀ x : IVec S2048 32, (broadcastInDim S2048x1 ![0] bcast_S2048_S2048x1_0 (select (cmpi .slt x (broadcastInDim S2048 ![] bcast_S_S2048 (constantI S_ 32 0#32)))
      (addi x (broadcastInDim S2048 ![] bcast_S_S2048 (constantI S_ 32 320#32))) x)) (ix2 u 0)
      = Scalar.select (IntOp.cmpi .slt (x (ix1 u)) 0#32) (IntOp.addi (x (ix1 u)) 320#32) (x (ix1 u)) := by
    intro x; pointwise
  have hu : S2048.rowMajor (ix1 u) = u := Fin.ext (Shape.rowMajor_val_one _)
  refine (e _).trans ?_
  rw [hu]
  rw [row_word u, cls_nonneg ⟨rowCls u, rowCls_lt u⟩]
  rfl

variable {V0} {q k v dy rel : ℕ → ℕ → ℝ}

theorem row_at (hrel : ∀ (h : Fin 16) (e : Fin 320), A3 V0 (ix2 h e) = (rel h e : EReal)) (h : Fin 16) (u : Fin 2048) :
    B7 V0 (ix3 h 0 u) = (rel h (rowCls u) : EReal) := by
  rw [host_row]
  have e : ∀ x : FVec Ideal S16x2048 .f32, shapeCast S16x1x2048 x shapeCasts_S16x2048_S16x1x2048 (ix3 h 0 u) = x (ix2 h u) := by
    intro x; pointwise
  rw [e]
  refine (gather_columns (by omega) _ _ _ h u).trans ?_
  refine Eq.trans ?_ (hrel h ⟨rowCls u, rowCls_lt u⟩)
  congr 2
  refine Fin.ext ?_
  show min (_ : BitVec 32).toInt.toNat (320 - 1) = rowCls u
  rw [row_index u]
  exact cls_toNat ⟨rowCls u, rowCls_lt u⟩

/-- The attention's output that the kernel is given is the reference's. -/
theorem host_o (U0 : Valuation Cert.ReferenceIdeal.τ Cert.ReferenceIdeal.sig (Elt Ideal))
    (h0 : A0 V0 = Cert.ReferenceIdeal.Val.A0 U0) (h1 : A1 V0 = Cert.ReferenceIdeal.Val.A1 U0)
    (h2 : A2 V0 = Cert.ReferenceIdeal.Val.A2 U0) (h3 : A3 V0 = Cert.ReferenceIdeal.Val.A3 U0) :
    B66 V0 = truncf .bf16 (Cert.ReferenceIdeal.Val.resO U0) bitsLt_bf16_f32 := by
  unfold_abbrev_sides
  after_reads_simp
  unfold Cert.ReferenceIdeal.Val.resO Cert.ReferenceIdeal.Val.R64 Cert.ReferenceIdeal.Val.R19 Cert.ReferenceIdeal.Value.res_main_v64
    Cert.ReferenceIdeal.Value.res_main_v62 Cert.ReferenceIdeal.Value.res_main_v60 Cert.ReferenceIdeal.Value.res_main_v40
    Cert.ReferenceIdeal.Value.res_main_v39_0 Cert.ReferenceIdeal.Value.res_main_v19 Cert.ReferenceIdeal.Value.res_main_v18
    Cert.ReferenceIdeal.Value.res_main_v17
  unfold A0 Cert.ReferenceIdeal.Val.A0 at h0
  unfold A1 Cert.ReferenceIdeal.Val.A1 at h1
  unfold A2 Cert.ReferenceIdeal.Val.A2 at h2
  unfold A3 Cert.ReferenceIdeal.Val.A3 at h3
  rw [h0, h1, h2, h3]
  rfl

end Cert.KernelIdeal.Val

end
-- ==== Proof.Val.Bias.lean ====
/- The bias of the band, which the kernel keeps from a head's first window on: row `r`, column `m` is entry `m - r` modulo 2048 of
   the head's rolled row where the chunks of `r` and `m` lie in the band, and the mask elsewhere. -/
module

public import proofs.«01_k».proof.Proof.Run.Base
public import proofs.«01_k».proof.Proof.Val.Words
public import Idealize.ShloMosaic.Lib.Pointwise
public import Idealize.ShloMosaic.Lib.Pipeline.ReadBack

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem
open Cert.Val

/-- The band's bias from a row of 2048. -/
def biasAt (g : ℕ → EReal) (r m : ℕ) : EReal :=
  if r / 64 ≤ m / 64 ∧ m / 64 ≤ r / 64 + 8 then g ((m + 2048 - r) % 2048) else ⊥

/-! ## Rolling row `ρ` by `ρ`, one bit of `ρ` at a time -/

/-- One step: the rows whose number has bit `b` are rolled by `n`. -/
def roll (b n : BitVec 32) (x : FVec Ideal S64x2048 .f32) : FVec Ideal S64x2048 .f32 :=
  select (cmpi .eq (andi (shrsi (iota .tc S64x2048 32 [0] iota_S64x2048_d0_w32) (broadcast S64x2048 b)) (broadcast S64x2048 1#32)) (broadcast S64x2048 1#32))
    (dynamicRotate 1 n none x rotates_S64x2048_d1) x

theorem rolled_eq (g : Vec Ideal S1x1x2048 .f32) :
    rolled g = roll 5#32 32#32 (roll 4#32 16#32 (roll 3#32 8#32 (roll 2#32 4#32 (roll 1#32 2#32 (roll 0#32 1#32
      (broadcastTo S64x2048 (shapeCast S1x2048 (shapeCast S1x2048 g shapeCasts_S1x1x2048_S1x2048) shapeCasts_S1x2048_S1x2048) broadcasts_S1x2048_S64x2048)))))) := rfl

theorem bits0 : ∀ ρ : Fin 64, IntOp.cmpi .eq (IntOp.andi (IntOp.shrsi .vector (BitVec.ofNat 32 ρ) 0#32) 1#32) 1#32 = if ρ.val / 1 % 2 = 1 then 1#1 else 0#1 := by decide +kernel
theorem bits1 : ∀ ρ : Fin 64, IntOp.cmpi .eq (IntOp.andi (IntOp.shrsi .vector (BitVec.ofNat 32 ρ) 1#32) 1#32) 1#32 = if ρ.val / 2 % 2 = 1 then 1#1 else 0#1 := by decide +kernel
theorem bits2 : ∀ ρ : Fin 64, IntOp.cmpi .eq (IntOp.andi (IntOp.shrsi .vector (BitVec.ofNat 32 ρ) 2#32) 1#32) 1#32 = if ρ.val / 4 % 2 = 1 then 1#1 else 0#1 := by decide +kernel
theorem bits3 : ∀ ρ : Fin 64, IntOp.cmpi .eq (IntOp.andi (IntOp.shrsi .vector (BitVec.ofNat 32 ρ) 3#32) 1#32) 1#32 = if ρ.val / 8 % 2 = 1 then 1#1 else 0#1 := by decide +kernel
theorem bits4 : ∀ ρ : Fin 64, IntOp.cmpi .eq (IntOp.andi (IntOp.shrsi .vector (BitVec.ofNat 32 ρ) 4#32) 1#32) 1#32 = if ρ.val / 16 % 2 = 1 then 1#1 else 0#1 := by decide +kernel
theorem bits5 : ∀ ρ : Fin 64, IntOp.cmpi .eq (IntOp.andi (IntOp.shrsi .vector (BitVec.ofNat 32 ρ) 5#32) 1#32) 1#32 = if ρ.val / 32 % 2 = 1 then 1#1 else 0#1 := by decide +kernel

theorem roll0 (x : FVec Ideal S64x2048 .f32) (ρ : Fin 64) (u : Fin 2048) : roll 0#32 1#32 x (ix2 ρ u) = Scalar.select (if ρ.val / 1 % 2 = 1 then 1#1 else 0#1) (x (ix2 ρ ⟨(u.val + 2048 - 1) % 2048, Nat.mod_lt _ (by decide)⟩)) (x (ix2 ρ u)) := by
  rw [← bits0 ρ]; unfold roll; pointwise
theorem roll1 (x : FVec Ideal S64x2048 .f32) (ρ : Fin 64) (u : Fin 2048) : roll 1#32 2#32 x (ix2 ρ u) = Scalar.select (if ρ.val / 2 % 2 = 1 then 1#1 else 0#1) (x (ix2 ρ ⟨(u.val + 2048 - 2) % 2048, Nat.mod_lt _ (by decide)⟩)) (x (ix2 ρ u)) := by
  rw [← bits1 ρ]; unfold roll; pointwise
theorem roll2 (x : FVec Ideal S64x2048 .f32) (ρ : Fin 64) (u : Fin 2048) : roll 2#32 4#32 x (ix2 ρ u) = Scalar.select (if ρ.val / 4 % 2 = 1 then 1#1 else 0#1) (x (ix2 ρ ⟨(u.val + 2048 - 4) % 2048, Nat.mod_lt _ (by decide)⟩)) (x (ix2 ρ u)) := by
  rw [← bits2 ρ]; unfold roll; pointwise
theorem roll3 (x : FVec Ideal S64x2048 .f32) (ρ : Fin 64) (u : Fin 2048) : roll 3#32 8#32 x (ix2 ρ u) = Scalar.select (if ρ.val / 8 % 2 = 1 then 1#1 else 0#1) (x (ix2 ρ ⟨(u.val + 2048 - 8) % 2048, Nat.mod_lt _ (by decide)⟩)) (x (ix2 ρ u)) := by
  rw [← bits3 ρ]; unfold roll; pointwise
theorem roll4 (x : FVec Ideal S64x2048 .f32) (ρ : Fin 64) (u : Fin 2048) : roll 4#32 16#32 x (ix2 ρ u) = Scalar.select (if ρ.val / 16 % 2 = 1 then 1#1 else 0#1) (x (ix2 ρ ⟨(u.val + 2048 - 16) % 2048, Nat.mod_lt _ (by decide)⟩)) (x (ix2 ρ u)) := by
  rw [← bits4 ρ]; unfold roll; pointwise
theorem roll5 (x : FVec Ideal S64x2048 .f32) (ρ : Fin 64) (u : Fin 2048) : roll 5#32 32#32 x (ix2 ρ u) = Scalar.select (if ρ.val / 32 % 2 = 1 then 1#1 else 0#1) (x (ix2 ρ ⟨(u.val + 2048 - 32) % 2048, Nat.mod_lt _ (by decide)⟩)) (x (ix2 ρ u)) := by
  rw [← bits5 ρ]; unfold roll; pointwise

/-- The rows of `x` are `g` rolled by `f`. -/
def Rolled (g : ℕ → EReal) (f : ℕ → ℕ) (x : FVec Ideal S64x2048 .f32) : Prop :=
  ∀ (ρ : Fin 64) (u : Fin 2048), x (ix2 ρ u) = g ((u.val + 2048 - f ρ) % 2048)

/-- A step adds its amount to the roll of the rows it takes. -/
theorem Rolled.step {g : ℕ → EReal} {f f' : ℕ → ℕ} {x x' : FVec Ideal S64x2048 .f32} (n p : ℕ) (hx : Rolled g f x)
    (h : ∀ (ρ : Fin 64) (u : Fin 2048), x' (ix2 ρ u) = Scalar.select (if ρ.val / p % 2 = 1 then 1#1 else 0#1) (x (ix2 ρ ⟨(u.val + 2048 - n) % 2048, Nat.mod_lt _ (by decide)⟩)) (x (ix2 ρ u)))
    (hf : ∀ ρ < 64, f' ρ = (if ρ / p % 2 = 1 then n else 0) + f ρ) (hn : ∀ ρ < 64, n + f ρ ≤ 2048) : Rolled g f' x' := by
  intro ρ u
  rw [h ρ u, hf ρ ρ.isLt, hx ρ u, hx ρ _]
  have := hn ρ ρ.isLt
  have hu := u.isLt
  split_ifs with hb
  · show g (((u.val + 2048 - n) % 2048 + 2048 - f ρ) % 2048) = g _
    congr 1; omega
  · show g _ = g _
    congr 1; omega

theorem rolled_at (g : Vec Ideal S1x1x2048 .f32) (G : ℕ → EReal) (hg : ∀ u : Fin 2048, g (ix3 0 0 u) = G u) : Rolled G (fun ρ => ρ) (rolled g) := by
  rw [rolled_eq]
  have h : Rolled G (fun _ => 0) (broadcastTo S64x2048 (shapeCast S1x2048 (shapeCast S1x2048 g shapeCasts_S1x1x2048_S1x2048) shapeCasts_S1x2048_S1x2048) broadcasts_S1x2048_S64x2048) := by
    intro ρ u
    refine Eq.trans ?_ ((hg u).trans (congrArg G (by have := u.isLt; show u.val = (u.val + 2048 - 0) % 2048; omega)))
    pointwise
  refine Rolled.step (f := fun ρ => ρ % 32) 32 32 ?_ (roll5 _) (by intro ρ hρ; split_ifs <;> omega) (by intro ρ hρ; omega)
  refine Rolled.step (f := fun ρ => ρ % 16) 16 16 ?_ (roll4 _) (by intro ρ hρ; split_ifs <;> omega) (by intro ρ hρ; omega)
  refine Rolled.step (f := fun ρ => ρ % 8) 8 8 ?_ (roll3 _) (by intro ρ hρ; split_ifs <;> omega) (by intro ρ hρ; omega)
  refine Rolled.step (f := fun ρ => ρ % 4) 4 4 ?_ (roll2 _) (by intro ρ hρ; split_ifs <;> omega) (by intro ρ hρ; omega)
  refine Rolled.step (f := fun ρ => ρ % 2) 2 2 ?_ (roll1 _) (by intro ρ hρ; split_ifs <;> omega) (by intro ρ hρ; omega)
  exact Rolled.step (f := fun _ => 0) 1 1 h (roll0 _) (by intro ρ hρ; split_ifs <;> omega) (by intro ρ hρ; omega)

/-! ## The eight chunks of rows -/

theorem column_word : ∀ m : Fin 1024, Scalar.select (IntOp.andi
      (IntOp.cmpi .ne (IntOp.subi (BitVec.setWidth 32 (IntOp.cmpi .sgt (BitVec.ofNat 32 m.val) 0#32)) (BitVec.setWidth 32 (IntOp.cmpi .slt (BitVec.ofNat 32 m.val) 0#32)))
        (Scalar.subi (Scalar.extui (Scalar.cmpi .sgt 64#32 0#32)) (Scalar.extui (Scalar.cmpi .slt 64#32 0#32))))
      (IntOp.cmpi .ne (IntOp.remsi .vector (BitVec.ofNat 32 m.val) 64#32) 0#32))
    (IntOp.subi (IntOp.divsi .vector (BitVec.ofNat 32 m.val) 64#32) 1#32) (IntOp.divsi .vector (BitVec.ofNat 32 m.val) 64#32) = BitVec.ofNat 32 (m.val / 64) := by decide +kernel

theorem column_chunk (ρ : Fin 64) (m : Fin 1024) : k0_pay10 (ix2 ρ m) = BitVec.ofNat 32 (m.val / 64) := by
  refine Eq.trans ?_ (column_word m)
  unfold k0_pay10; pointwise

theorem mask_value : (Named.named κ "mask" 0xF149F2CA#32 : Ideal .f32) = (⊥ : EReal) := rfl

/-- The test of a chunk of columns against the chunk `j` of rows. -/
theorem chunk_test : ∀ (j : Fin 8) (c : Fin 16), IntOp.andi (IntOp.cmpi .sge (BitVec.ofNat 32 c.val) (BitVec.ofNat 32 j.val)) (IntOp.cmpi .sle (BitVec.ofNat 32 c.val) (BitVec.ofNat 32 (j.val + 8)))
    = if j.val ≤ c.val ∧ c.val ≤ j.val + 8 then 1#1 else 0#1 := by decide +kernel

/-- What one chunk of rows comes to. -/
theorem chunk_value {g : ℕ → EReal} {x : FVec Ideal S64x2048 .f32} (hx : Rolled g (fun ρ => ρ) x) (j : Fin 8) (ρ : Fin 64) (m : Fin 1024) :
    Scalar.select (IntOp.andi (IntOp.cmpi .sge (k0_pay10 (ix2 ρ m)) (BitVec.ofNat 32 j.val)) (IntOp.cmpi .sle (k0_pay10 (ix2 ρ m)) (BitVec.ofNat 32 (j.val + 8))))
      (x (ix2 ρ ⟨(m.val + 2048 - 64 * j.val) % 2048, Nat.mod_lt _ (by decide)⟩)) (⊥ : EReal) = biasAt g (64 * j.val + ρ.val) m.val := by
  rw [column_chunk, chunk_test j ⟨m.val / 64, by omega⟩, hx ρ]
  unfold biasAt
  have e1 : (64 * j.val + ρ.val) / 64 = j.val := by omega
  rw [e1]
  dsimp only
  have e2 : ((m.val + 2048 - 64 * j.val) % 2048 + 2048 - ρ.val) % 2048 = (m.val + 2048 - (64 * j.val + ρ.val)) % 2048 := by omega
  rw [e2]
  split_ifs <;> rfl

section Pieces
variable {g : ℕ → EReal} {x : FVec Ideal S64x2048 .f32} (hx : Rolled g (fun ρ => ρ) x) (ρ : Fin 64) (m : Fin 1024)
include hx

theorem piece1 : k0_pay14 x k0_pay10 (ix2 ρ m) = biasAt g (64 * 1 + ρ.val) m.val := by
  refine Eq.trans ?_ (chunk_value hx 1 ρ m)
  unfold k0_pay14; pointwise; rfl
theorem piece2 : k0_pay15 x k0_pay10 (ix2 ρ m) = biasAt g (64 * 2 + ρ.val) m.val := by
  refine Eq.trans ?_ (chunk_value hx 2 ρ m)
  unfold k0_pay15; pointwise; rfl
theorem piece3 : k0_pay17 (k0_pay16 x k0_pay10) (ix2 ρ m) = biasAt g (64 * 3 + ρ.val) m.val := by
  refine Eq.trans ?_ (chunk_value hx 3 ρ m)
  unfold k0_pay17 k0_pay16; pointwise; rfl
theorem piece4 : k0_pay18 x k0_pay10 (ix2 ρ m) = biasAt g (64 * 4 + ρ.val) m.val := by
  refine Eq.trans ?_ (chunk_value hx 4 ρ m)
  unfold k0_pay18; pointwise; rfl
theorem piece5 : k0_pay19 x k0_pay10 (ix2 ρ m) = biasAt g (64 * 5 + ρ.val) m.val := by
  refine Eq.trans ?_ (chunk_value hx 5 ρ m)
  unfold k0_pay19; pointwise; rfl
theorem piece6 : k0_pay1 (k0_pay20 x k0_pay10) (ix2 ρ m) = biasAt g (64 * 6 + ρ.val) m.val := by
  refine Eq.trans ?_ (chunk_value hx 6 ρ m)
  unfold k0_pay1 k0_pay20; pointwise; rfl
theorem piece7 : k0_pay2 x k0_pay10 (ix2 ρ m) = biasAt g (64 * 7 + ρ.val) m.val := by
  refine Eq.trans ?_ (chunk_value hx 7 ρ m)
  unfold k0_pay2; pointwise; rfl
theorem piece0 : k0_pay13 (F := Ideal) k0_pay11 (extractStridedSlice S64x1024 ![0, 0] x slices_S64x2048_o0_0_S64x1024) (ix2 ρ m) = biasAt g (64 * 0 + ρ.val) m.val := by
  refine Eq.trans ?_ (chunk_value hx 0 ρ m)
  have e : (⟨(m.val + 2048 - 64 * (0 : Fin 8).val) % 2048, Nat.mod_lt _ (by decide)⟩ : Fin 2048) = ⟨m.val, by omega⟩ :=
    Fin.ext (by show (m.val + 2048 - 0) % 2048 = m.val; omega)
  rw [e]
  unfold k0_pay13 k0_pay11; pointwise; rfl
end Pieces

/-- The bias that the eight stores leave. -/
theorem bias_at (b : Vec Ideal S1x1x2048 .f32) (g : ℕ → EReal) (hb : ∀ u : Fin 2048, b (ix3 0 0 u) = g u) (r : Fin 512) (m : Fin 1024) :
    biasOf b (ix2 r m) = biasAt g r m := by
  have hx := rolled_at b g hb
  have key : View.PiecesOf (Val := Elt Ideal) (s := S512x1024) (e := .f32) (fun y => biasAt g (y 0).val (y 1).val) (biasPieces b) := by
    refine ⟨fun y => ?_, fun y => ?_, fun y => ?_, fun y => ?_, fun y => ?_, fun y => ?_, fun y => ?_, fun y => ?_, trivial⟩
    all_goals obtain ⟨ρ, m, rfl⟩ : ∃ (ρ : Fin 64) (m : Fin 1024), y = ix2 ρ m := ⟨y 0, y 1, by funext a; match a with | ⟨0, _⟩ => rfl | ⟨1, _⟩ => rfl⟩
    · exact (piece7 hx ρ m).trans (by congr 1 <;> first | rfl | (show _ = 0 + 1 * m.val; omega) | (show _ = 448 + 1 * ρ.val; omega))
    · exact (piece6 hx ρ m).trans (by congr 1 <;> first | rfl | (show _ = 0 + 1 * m.val; omega) | (show _ = 384 + 1 * ρ.val; omega))
    · exact (piece5 hx ρ m).trans (by congr 1 <;> first | rfl | (show _ = 0 + 1 * m.val; omega) | (show _ = 320 + 1 * ρ.val; omega))
    · exact (piece4 hx ρ m).trans (by congr 1 <;> first | rfl | (show _ = 0 + 1 * m.val; omega) | (show _ = 256 + 1 * ρ.val; omega))
    · exact (piece3 hx ρ m).trans (by congr 1 <;> first | rfl | (show _ = 0 + 1 * m.val; omega) | (show _ = 192 + 1 * ρ.val; omega))
    · exact (piece2 hx ρ m).trans (by congr 1 <;> first | rfl | (show _ = 0 + 1 * m.val; omega) | (show _ = 128 + 1 * ρ.val; omega))
    · exact (piece1 hx ρ m).trans (by congr 1 <;> first | rfl | (show _ = 0 + 1 * m.val; omega) | (show _ = 64 + 1 * ρ.val; omega))
    · exact (piece0 hx ρ m).trans (by congr 1 <;> first | rfl | (show _ = 0 + 1 * m.val; omega) | (show _ = 0 + 1 * ρ.val; omega))
  unfold biasOf
  rw [View.read_writes_junk_apply_eq_canon]
  have h := View.canon_append_of_piecesOf (Val := Elt Ideal) _ [] _ key (ix2 r m) (bias_cover b _)
  rw [List.append_nil] at h
  exact h

end Cert.KernelIdeal.Val

end
-- ==== Proof.Val.Soft.lean ====
/- The probabilities of one window of queries, in real numbers: half a window's softmax over its stretch of 768 keys is the softmax
   over all keys. -/
module

public import proofs.«01_k».proof.Proof.Run.Base
public import proofs.«01_k».proof.Proof.Val.Math
public import Idealize.ShloMosaic.Lib.Pointwise

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.VecWindow
open Cert.Val

/-- The softmax along the rows, as the kernel takes it. -/
def softmax (z : FVec Ideal S256x768 .f32) : FVec Ideal S256x768 .f32 :=
  have e : FVec Ideal S256x768 .f32 := exp (subf z (broadcastTo S256x768 (shapeCast S256x1 (multiReduction .maximumf [1] S256 z 0xFF800000#32 reduces_S256x768_S256 (.inl rfl) rfl) shapeCasts_S256_S256x1) broadcasts_S256x1_S256x768))
  mulf e (broadcastTo S256x768 (divf (broadcast S256x1 (Scalar.ofBits .f32 0x3F800000#32)) (shapeCast S256x1 (multiReduction .add [1] S256 e 0x00000000#32 reduces_S256x768_S256 (.inl rfl) rfl) shapeCasts_S256_S256x1)) broadcasts_S256x1_S256x768)

/-- The scores of the first half, masked, -/
def scores0 (a : BitVec 32) (q kp kc : Vec Ideal S512x128 .bf16) (b : Vec Ideal S512x1024 .f32) : FVec Ideal S256x768 .f32 :=
  select (k0_pay27 a) (k0_pay26 q kp kc (window b ![0, 0] S256x768.size inb_S512x1024_S256x768_0_0)) k0_pay28
/-- and of the second. -/
def scores1 (a : BitVec 32) (q kp kc : Vec Ideal S512x128 .bf16) (b : Vec Ideal S512x1024 .f32) : FVec Ideal S256x768 .f32 :=
  select (ori (broadcast S256x768 (Scalar.cmpi .sgt a 0#32)) (cmpi .sge (addi (broadcast S256x768 256#32) (iota .tc S256x768 32 [1] iota_S256x768_d1_w32)) (broadcast S256x768 512#32)))
    (addf (mulf (matmul dot_S256x128_S768x128_S256x768_1_1_0_0_n_n none (extractStridedSlice S256x128 ![256, 0] (k0_pay21 q) slices_S512x128_o256_0_S256x128)
      (extractStridedSlice S768x128 ![256, 0] (k0_pay23 kp kc) slices_S1024x128_o256_0_S768x128) (constant S256x768 .f32 0x00000000#32)) (broadcast S256x768 (Scalar.ofBits .f32 0x3DB504F3#32)))
      (window b ![256, 256] S256x768.size inb_S512x1024_S256x768_256_256)) k0_pay28

theorem prob0_eq (a : BitVec 32) (q kp kc : Vec Ideal S512x128 .bf16) (b : Vec Ideal S512x1024 .f32) : prob0 a q kp kc b = softmax (scores0 a q kp kc b) := rfl
theorem prob1_eq (a : BitVec 32) (q kp kc : Vec Ideal S512x128 .bf16) (b : Vec Ideal S512x1024 .f32) : prob1 a q kp kc b = softmax (scores1 a q kp kc b) := rfl

/-- The softmax of a row of numbers, some of them masked. -/
theorem softmax_row (z : FVec Ideal S256x768 .f32) (ρ : Fin 256) (b : Fin 768 → Prop) [DecidablePred b] (r : Fin 768 → ℝ)
    (hz : ∀ κ, z (ix2 ρ κ) = if b κ then (r κ : EReal) else ⊥) (hb : ∃ κ, b κ) (κ : Fin 768) :
    softmax z (ix2 ρ κ) = ((wt b r κ / ∑ j, wt b r j : ℝ) : EReal) := by
  obtain ⟨M, hM⟩ := row_max b r (fun κ => z (ix2 ρ κ)) hz hb
  have e : softmax z (ix2 ρ κ) = Ideal.exp (z (ix2 ρ κ) - Finset.fold max (Ideal.ofBits FTy.f32 4286578688#32) (fun x : Fin 768 => z (ix2 ρ x)) Finset.univ)
      * Ideal.div (Ideal.ofBits FTy.f32 0x3F800000#32) (∑ j : Fin 768, Ideal.exp (z (ix2 ρ j) - Finset.fold max (Ideal.ofBits FTy.f32 4286578688#32) (fun x : Fin 768 => z (ix2 ρ x)) Finset.univ)) := by
    unfold softmax; pointwise
  have one : Ideal.ofBits FTy.f32 0x3F800000#32 = ((1 : ℝ) : EReal) := by
    simp [Ideal.ofBits, Ideal.ieee]; rw [← EReal.coe_mul, ← EReal.coe_one]; norm_num
  have hpos := wt_sum_pos b r hb
  have hne : (∑ j, wt b r j) * Real.exp (-M) ≠ 0 := mul_ne_zero hpos.ne' (Real.exp_ne_zero _)
  have hexp : ∀ j, Ideal.exp (z (ix2 ρ j) - (M : EReal)) = ((wt b r j * Real.exp (-M) : ℝ) : EReal) := fun j => row_exp b r _ hz M j
  rw [e, Cert.Val.neg_inf, hM, one, sum_eq_coe Finset.univ _ _ (fun j _ => hexp j), hexp κ, ← Finset.sum_mul, div_coe_coe _ _ hne, ← EReal.coe_mul]
  congr 1
  have hE := Real.exp_ne_zero (-M)
  have hp := hpos.ne'
  field_simp

/-! ## A window's blocks in real numbers -/

section Window
variable (q k v dy rel : ℕ → ℕ → ℝ)

/-- The row of key `m` of the 1024 keys that window `w` sees: its own 512 and the 512 before, the first window's being its own again. -/
def keyRow (w m : ℕ) : ℕ := if m < 512 then 512 * (w - 1) + m else 512 * w + m - 512

theorem keyRow_eq {w m : ℕ} (h : 512 ≤ 512 * w + m) : keyRow w m = 512 * w + m - 512 := by
  unfold keyRow; split_ifs <;> omega

/-- Window `w` of head `h`: its blocks are rows of the arguments, the bias is the band's. -/
structure Blocks (h w : ℕ) (a : BitVec 32) (Q KP KC VP VC DY O : Vec Ideal S512x128 .bf16) (B : Vec Ideal S512x1024 .f32) : Prop where
  hw : w < 8
  ha : a = BitVec.ofNat 32 w
  hq : ∀ (r : Fin 512) (d : Fin 128), Q (ix2 r d) = (q (512 * w + r) (h * 128 + d) : EReal)
  hkp : ∀ (r : Fin 512) (d : Fin 128), KP (ix2 r d) = (k (512 * (w - 1) + r) (h * 128 + d) : EReal)
  hkc : ∀ (r : Fin 512) (d : Fin 128), KC (ix2 r d) = (k (512 * w + r) (h * 128 + d) : EReal)
  hvp : ∀ (r : Fin 512) (d : Fin 128), VP (ix2 r d) = (v (512 * (w - 1) + r) (h * 128 + d) : EReal)
  hvc : ∀ (r : Fin 512) (d : Fin 128), VC (ix2 r d) = (v (512 * w + r) (h * 128 + d) : EReal)
  hdy : ∀ (r : Fin 512) (d : Fin 128), DY (ix2 r d) = (dy (512 * w + r) (h * 128 + d) : EReal)
  ho : ∀ (r : Fin 512) (d : Fin 128), O (ix2 r d) = (out q k v rel h (512 * w + r) d : EReal)
  hb : ∀ (r : Fin 512) (m : Fin 1024), B (ix2 r m) = if r.val / 64 ≤ m.val / 64 ∧ m.val / 64 ≤ r.val / 64 + 8 then (rel h (cls (512 + r) m) : EReal) else ⊥

variable {q k v dy rel} {h w : ℕ} {a : BitVec 32} {Q KP KC VP VC DY O : Vec Ideal S512x128 .bf16} {B : Vec Ideal S512x1024 .f32}
  (W : Blocks q k v dy rel h w a Q KP KC VP VC DY O B)
include W

theorem keys_at (m : Fin 1024) (d : Fin 128) : k0_pay23 (F := Ideal) KP KC (ix2 m d) = (k (keyRow w m) (h * 128 + d) : EReal) := by
  have e : k0_pay23 (F := Ideal) KP KC (ix2 m d) = if hm : m.val < 512 then KP (ix2 ⟨m.val, hm⟩ d) else KC (ix2 ⟨m.val - 512, by omega⟩ d) := by
    unfold k0_pay23; pointwise
  rw [e]; unfold keyRow
  split_ifs with hm
  · exact W.hkp _ _
  · refine (W.hkc _ _).trans ?_
    rw [show 512 * w + (m.val - 512) = 512 * w + m.val - 512 by omega]

theorem values_at (m : Fin 1024) (d : Fin 128) : k0_pay24 (F := Ideal) VP VC (ix2 m d) = (v (keyRow w m) (h * 128 + d) : EReal) := by
  have e : k0_pay24 (F := Ideal) VP VC (ix2 m d) = if hm : m.val < 512 then VP (ix2 ⟨m.val, hm⟩ d) else VC (ix2 ⟨m.val - 512, by omega⟩ d) := by
    unfold k0_pay24; pointwise
  rw [e]; unfold keyRow
  split_ifs with hm
  · exact W.hvp _ _
  · refine (W.hvc _ _).trans ?_
    rw [show 512 * w + (m.val - 512) = 512 * w + m.val - 512 by omega]

end Window

/-- The padded keys of window `w` that exist: the test of the first window. -/
theorem test_word : ∀ (w : Fin 8) (m : Fin 1024), IntOp.ori (Scalar.cmpi .sgt (BitVec.ofNat 32 w.val) 0#32) (IntOp.cmpi .sge (BitVec.ofNat 32 m.val) 512#32)
    = if 512 ≤ 512 * w.val + m.val then 1#1 else 0#1 := by decide +kernel
theorem add_zero_word : ∀ m : Fin 768, IntOp.addi 0#32 (BitVec.ofNat 32 m.val) = BitVec.ofNat 32 m.val := by decide +kernel
theorem add_half_word : ∀ m : Fin 768, IntOp.addi 256#32 (BitVec.ofNat 32 m.val) = BitVec.ofNat 32 (256 + m.val) := by decide +kernel

section Window2
variable {q k v dy rel : ℕ → ℕ → ℝ} {h w : ℕ} {a : BitVec 32} {Q KP KC VP VC DY O : Vec Ideal S512x128 .bf16} {B : Vec Ideal S512x1024 .f32}
  (W : Blocks q k v dy rel h w a Q KP KC VP VC DY O B)
include W

/-- A masked score from its parts. -/
theorem score_parts (r : Fin 512) (m : Fin 1024) :
    Scalar.select (if 512 ≤ 512 * w + m.val then 1#1 else 0#1)
      ((∑ d : Fin 128, Q (ix2 r d) * k0_pay23 (F := Ideal) KP KC (ix2 m d)) * Ideal.ofBits FTy.f32 1035273459#32 + B (ix2 r m)) (⊥ : EReal)
      = if 512 ≤ 512 * w + m.val ∧ band (512 * w + r) (512 * w + m - 512) then (score q k rel h (512 * w + r) (512 * w + m - 512) : EReal) else ⊥ := by
  by_cases hm : 512 ≤ 512 * w + m.val
  · rw [if_pos hm, W.hb, scale_eq, sum_eq_coe Finset.univ _ (fun d : Fin 128 => q (512 * w + r) (h * 128 + d) * k (512 * w + m - 512) (h * 128 + d))
      (fun d _ => by rw [W.hq, keys_at W, keyRow_eq hm, EReal.coe_mul]), ← EReal.coe_mul]
    have hc : cls (512 + r) m = cls (512 * w + r) (512 * w + m - 512) := by unfold cls; omega
    have hbd : (512 ≤ 512 * w + m.val ∧ band (512 * w + r) (512 * w + m - 512)) ↔ (r.val / 64 ≤ m.val / 64 ∧ m.val / 64 ≤ r.val / 64 + 8) := by
      unfold band; omega
    rw [hc]
    by_cases hb : r.val / 64 ≤ m.val / 64 ∧ m.val / 64 ≤ r.val / 64 + 8
    · rw [if_pos hb, if_pos (hbd.mpr hb), ← EReal.coe_add]; rfl
    · rw [if_neg hb, if_neg (fun hc => hb (hbd.mp hc)), EReal.add_bot]; rfl
  · rw [if_neg hm, if_neg (fun hc => hm hc.1)]; rfl

theorem scores0_at (ρ : Fin 256) (κ : Fin 768) : scores0 a Q KP KC B (ix2 ρ κ)
    = if 512 ≤ 512 * w + 0 + κ.val ∧ band (512 * w + 0 + ρ) (512 * w + 0 + κ - 512) then (score q k rel h (512 * w + 0 + ρ) (512 * w + 0 + κ - 512) : EReal) else ⊥ := by
  refine Eq.trans ?_ (score_parts W ⟨ρ.val, by omega⟩ ⟨κ.val, by omega⟩)
  rw [← test_word ⟨w, W.hw⟩ ⟨κ.val, by omega⟩, ← add_zero_word κ, ← W.ha]
  have e : window B ![0, 0] S256x768.size inb_S512x1024_S256x768_0_0 (ix2 ρ κ) = B (ix2 ⟨ρ.val, by omega⟩ ⟨κ.val, by omega⟩) :=
    congrArg B (by funext i; refine Fin.ext ?_; match i with | ⟨0, _⟩ => (show 0 + 1 * ρ.val = ρ.val; omega) | ⟨1, _⟩ => (show 0 + 1 * κ.val = κ.val; omega))
  rw [← e]
  unfold scores0 k0_pay26 k0_pay27 k0_pay28 k0_pay21
  generalize window B ![0, 0] S256x768.size inb_S512x1024_S256x768_0_0 = b
  generalize k0_pay23 (F := Ideal) KP KC = kk
  pointwise
  rfl

theorem scores1_at (ρ : Fin 256) (κ : Fin 768) : scores1 a Q KP KC B (ix2 ρ κ)
    = if 512 ≤ 512 * w + 256 + κ.val ∧ band (512 * w + 256 + ρ) (512 * w + 256 + κ - 512) then (score q k rel h (512 * w + 256 + ρ) (512 * w + 256 + κ - 512) : EReal) else ⊥ := by
  rw [Nat.add_assoc, Nat.add_assoc]
  refine Eq.trans ?_ (score_parts W ⟨256 + ρ.val, by omega⟩ ⟨256 + κ.val, by omega⟩)
  rw [← test_word ⟨w, W.hw⟩ ⟨256 + κ.val, by omega⟩, ← add_half_word κ, ← W.ha]
  have e : window B ![256, 256] S256x768.size inb_S512x1024_S256x768_256_256 (ix2 ρ κ) = B (ix2 ⟨256 + ρ.val, by omega⟩ ⟨256 + κ.val, by omega⟩) :=
    congrArg B (by funext i; refine Fin.ext ?_; match i with | ⟨0, _⟩ => (show 256 + 1 * ρ.val = 256 + ρ.val; omega) | ⟨1, _⟩ => (show 256 + 1 * κ.val = 256 + κ.val; omega))
  rw [← e]
  unfold scores1 k0_pay28 k0_pay21
  generalize window B ![256, 256] S256x768.size inb_S512x1024_S256x768_256_256 = b
  generalize k0_pay23 (F := Ideal) KP KC = kk
  pointwise
  rfl

end Window2

/-- A row's weights over its stretch of padded keys are its weights over all keys. -/
theorem softmax_stretch (q k rel : ℕ → ℕ → ℝ) (h o : ℕ) (ho : 256 ∣ o) (ho' : o + 768 ≤ 4608) (z : FVec Ideal S256x768 .f32)
    (hz : ∀ (ρ : Fin 256) (κ : Fin 768), z (ix2 ρ κ) = if 512 ≤ o + κ.val ∧ band (o + ρ) (o + κ - 512) then (score q k rel h (o + ρ) (o + κ - 512) : EReal) else ⊥)
    (ρ : Fin 256) (κ : Fin 768) : softmax z (ix2 ρ κ) = (ppad q k rel h (o + ρ) (o + κ) : EReal) := by
  have hex : ∃ κ : Fin 768, 512 ≤ o + κ.val ∧ band (o + ρ) (o + κ - 512) := ⟨⟨512 + ρ.val, by omega⟩, by unfold band; dsimp only; omega⟩
  have hwt : ∀ κ : Fin 768, wt (fun κ : Fin 768 => 512 ≤ o + κ.val ∧ band (o + ρ) (o + κ - 512)) (fun κ => score q k rel h (o + ρ) (o + κ - 512)) κ
      = if 512 ≤ o + κ.val then weight q k rel h (o + ρ) (o + κ.val - 512) else 0 := by
    intro κ; unfold wt weight
    by_cases h1 : 512 ≤ o + κ.val
    · rw [if_pos h1]; simp only [h1, true_and]
    · rw [if_neg h1, if_neg (fun hc => h1 hc.1)]
  rw [softmax_row z ρ _ _ (hz ρ) hex κ]
  simp only [hwt]
  rw [sum_stretch o (fun s => weight q k rel h (o + ρ) s) (fun s _ hs => band_stretch ho ρ.isLt (by by_contra hc; exact hs (weight_off q k rel hc))) ho']
  unfold ppad prob total
  split_ifs <;> simp

theorem prob0_at {q k v dy rel : ℕ → ℕ → ℝ} {h w : ℕ} {a : BitVec 32} {Q KP KC VP VC DY O : Vec Ideal S512x128 .bf16} {B : Vec Ideal S512x1024 .f32}
    (W : Blocks q k v dy rel h w a Q KP KC VP VC DY O B) (ρ : Fin 256) (κ : Fin 768) :
    prob0 a Q KP KC B (ix2 ρ κ) = (ppad q k rel h (512 * w + 0 + ρ) (512 * w + 0 + κ) : EReal) := by
  rw [prob0_eq]
  exact softmax_stretch q k rel h (512 * w + 0) ⟨2 * w, by omega⟩ (by have := W.hw; omega) _ (scores0_at W) ρ κ

theorem prob1_at {q k v dy rel : ℕ → ℕ → ℝ} {h w : ℕ} {a : BitVec 32} {Q KP KC VP VC DY O : Vec Ideal S512x128 .bf16} {B : Vec Ideal S512x1024 .f32}
    (W : Blocks q k v dy rel h w a Q KP KC VP VC DY O B) (ρ : Fin 256) (κ : Fin 768) :
    prob1 a Q KP KC B (ix2 ρ κ) = (ppad q k rel h (512 * w + 256 + ρ) (512 * w + 256 + κ) : EReal) := by
  rw [prob1_eq]
  exact softmax_stretch q k rel h (512 * w + 256) ⟨2 * w + 1, by omega⟩ (by have := W.hw; omega) _ (scores1_at W) ρ κ

end Cert.KernelIdeal.Val

end
-- ==== Proof.Val.Grad.lean ====
/- The gradients of one window of queries, in real numbers: its dq, its parts of dk and dv, and its score gradients. -/
module

public import proofs.«01_k».proof.Proof.Val.Soft
public import Idealize.ShloMosaic.Lib.Pipeline.ReadBack

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.VecWindow
open Cert.Val

section
variable (q k v dy rel : ℕ → ℕ → ℝ)

theorem dpad_off {h t y : ℕ} (hb : 512 ≤ y → ¬ band t (y - 512)) : dpad q k v dy rel h t y = 0 := by
  unfold dpad; split_ifs with hy
  · exact dscore_off q k v dy rel (hb hy)
  · rfl
theorem ppad_off {h t y : ℕ} (hb : 512 ≤ y → ¬ band t (y - 512)) : ppad q k rel h t y = 0 := by
  unfold ppad; split_ifs with hy
  · exact prob_off q k rel (hb hy)
  · rfl

/-- Window `w`'s part of dk at its padded key `m`, -/
def partK (h w m d : ℕ) : ℝ := (∑ r : Fin 512, dpad q k v dy rel h (512 * w + r) (512 * w + m) * q (512 * w + r) (h * 128 + d)) * scale
/-- and of dv. -/
def partV (h w m d : ℕ) : ℝ := ∑ r : Fin 512, ppad q k rel h (512 * w + r) (512 * w + m) * dy (512 * w + r) (h * 128 + d)

/-- A sum over a window's rows by halves. -/
theorem sum_halves (f : ℕ → ℝ) : ∑ r : Fin 512, f r = (∑ ρ : Fin 256, f (0 + ρ.val)) + ∑ ρ : Fin 256, f (256 + ρ.val) := by
  rw [Finset.sum_fin_eq_sum_range, Finset.sum_fin_eq_sum_range, Finset.sum_fin_eq_sum_range]
  have e : ∀ (n : ℕ) (g : ℕ → ℝ), (∑ i ∈ Finset.range n, if _h : i < n then g i else 0) = ∑ i ∈ Finset.range n, g i := fun n g =>
    Finset.sum_congr rfl fun i hi => by rw [dif_pos (Finset.mem_range.mp hi)]
  have e1 := e 512 f
  have e2 := e 256 (fun i => f (0 + i))
  have e3 := e 256 (fun i => f (256 + i))
  refine e1.trans (Eq.trans ?_ (congrArg₂ (· + ·) e2 e3).symm)
  simp only [zero_add]
  exact Finset.sum_range_add f 256 256
end

section Window
variable {q k v dy rel : ℕ → ℕ → ℝ} {h w : ℕ} {a : BitVec 32} {Q KP KC VP VC DY O : Vec Ideal S512x128 .bf16} {B : Vec Ideal S512x1024 .f32}
  (W : Blocks q k v dy rel h w a Q KP KC VP VC DY O B)
include W

/-- The mean gradient of a row is its output times the output's gradient. -/
theorem delta_at (r : Fin 512) : k0_pay25 DY O (ix2 r 0) = (mean q k v dy rel h (512 * w + r) : EReal) := by
  have e : k0_pay25 DY O (ix2 r 0) = ∑ d : Fin 128, DY (ix2 r d) * O (ix2 r d) := by
    unfold k0_pay25 k0_pay22; pointwise
  rw [e, ← mean_eq]
  exact sum_eq_coe Finset.univ _ _ (fun d _ => by rw [W.hdy, W.ho, EReal.coe_mul])

/-- A score gradient from its parts. -/
theorem dscore_parts (r : Fin 512) (m : Fin 1024) :
    (ppad q k rel h (512 * w + r) (512 * w + m) : EReal) * ((∑ d : Fin 128, DY (ix2 r d) * k0_pay24 (F := Ideal) VP VC (ix2 m d)) - k0_pay25 DY O (ix2 r 0))
      = (dpad q k v dy rel h (512 * w + r) (512 * w + m) : EReal) := by
  rw [delta_at W, sum_eq_coe Finset.univ _ (fun d : Fin 128 => dy (512 * w + r) (h * 128 + d) * v (keyRow w m) (h * 128 + d))
      (fun d _ => by rw [W.hdy, values_at W, EReal.coe_mul]), ← EReal.coe_sub, ← EReal.coe_mul]
  congr 1
  unfold ppad dpad
  by_cases hy : 512 ≤ 512 * w + m.val
  · rw [if_pos hy, if_pos hy, keyRow_eq hy]; rfl
  · rw [if_neg hy, if_neg hy, zero_mul]

theorem dsc0_at (ρ : Fin 256) (κ : Fin 768) : k0_pay33 (prob0 a Q KP KC B) (dp0 VP VC DY) (dl0 DY O) (ix2 ρ κ)
    = (dpad q k v dy rel h (512 * w + 0 + ρ) (512 * w + 0 + κ) : EReal) := by
  have hp := prob0_at W ρ κ
  refine Eq.trans ?_ (dscore_parts W ⟨ρ.val, by omega⟩ ⟨κ.val, by omega⟩)
  refine Eq.trans ?_ (congrArg (fun x : EReal => x * _) hp)
  unfold k0_pay33 dp0 dl0 k0_pay31 k0_pay32 k0_pay22
  generalize prob0 a Q KP KC B = p
  generalize k0_pay24 (F := Ideal) VP VC = vv
  generalize k0_pay25 DY O = dd
  pointwise

theorem dsc1_at (ρ : Fin 256) (κ : Fin 768) : dsc1 a Q KP KC VP VC DY O B (ix2 ρ κ)
    = (dpad q k v dy rel h (512 * w + 256 + ρ) (512 * w + 256 + κ) : EReal) := by
  have hp := prob1_at W ρ κ
  rw [Nat.add_assoc, Nat.add_assoc] at hp ⊢
  refine Eq.trans ?_ (dscore_parts W ⟨256 + ρ.val, by omega⟩ ⟨256 + κ.val, by omega⟩)
  refine Eq.trans ?_ (congrArg (fun x : EReal => x * _) hp)
  unfold dsc1 k0_pay34 k0_pay22
  generalize prob1 a Q KP KC B = p
  generalize k0_pay24 (F := Ideal) VP VC = vv
  generalize k0_pay25 DY O = dd
  pointwise

/-! ## dq -/

omit W in
/-- A half's row of dq is the whole row. -/
theorem dq_stretch (o : ℕ) (ho : 256 ∣ o) (ho' : o + 768 ≤ 4608) (ρ : Fin 256) (d : ℕ) (f : Fin 768 → ℕ) (hf : ∀ κ, 512 ≤ o + κ.val → f κ = o + κ.val - 512) :
    (∑ κ : Fin 768, dpad q k v dy rel h (o + ρ) (o + κ) * k (f κ) (h * 128 + d)) * scale = gq q k v dy rel (o + ρ) h d := by
  have e : ∀ κ : Fin 768, dpad q k v dy rel h (o + ρ) (o + κ) * k (f κ) (h * 128 + d)
      = if 512 ≤ o + κ.val then (fun s => dscore q k v dy rel h (o + ρ) s * k s (h * 128 + d)) (o + κ.val - 512) else 0 := by
    intro κ; unfold dpad
    by_cases hy : 512 ≤ o + κ.val
    · rw [if_pos hy, if_pos hy, hf κ hy]
    · rw [if_neg hy, if_neg hy, zero_mul]
  simp only [e]
  rw [sum_stretch o (fun s => dscore q k v dy rel h (o + ρ) s * k s (h * 128 + d)) (fun s _ hs => band_stretch ho ρ.isLt (by
    by_contra hc; exact hs (by rw [dscore_off q k v dy rel hc, zero_mul]))) ho']
  unfold gq; rfl

theorem dq0_at (ρ : Fin 256) (d : Fin 128) : k0_pay36 (k0_pay23 KP KC) (prob0 a Q KP KC B) (dp0 VP VC DY) (dl0 DY O) (ix2 ρ d)
    = (gq q k v dy rel (512 * w + 0 + ρ) h d : EReal) := by
  have e : k0_pay36 (k0_pay23 KP KC) (prob0 a Q KP KC B) (dp0 VP VC DY) (dl0 DY O) (ix2 ρ d)
      = (∑ κ : Fin 768, k0_pay33 (prob0 a Q KP KC B) (dp0 VP VC DY) (dl0 DY O) (ix2 ρ κ) * k0_pay23 (F := Ideal) KP KC (ix2 ⟨κ.val, by omega⟩ d)) * Ideal.ofBits FTy.f32 1035273459#32 := by
    unfold k0_pay36 k0_pay35
    generalize k0_pay33 (prob0 a Q KP KC B) (dp0 VP VC DY) (dl0 DY O) = s
    generalize k0_pay23 (F := Ideal) KP KC = kk
    pointwise
  rw [e, scale_eq, sum_eq_coe Finset.univ _ _ (fun κ _ => by rw [dsc0_at W, keys_at W, ← EReal.coe_mul]), ← EReal.coe_mul]
  congr 1
  exact dq_stretch (512 * w + 0) ⟨2 * w, by omega⟩ (by have := W.hw; omega) ρ d _ (fun κ hκ => keyRow_eq hκ)

theorem dq1_at (ρ : Fin 256) (d : Fin 128) : k0_pay41 (k0_pay22 DY) (k0_pay23 KP KC) (k0_pay24 VP VC) (k0_pay25 DY O) (prob1 a Q KP KC B) (ix2 ρ d)
    = (gq q k v dy rel (512 * w + 256 + ρ) h d : EReal) := by
  have e : k0_pay41 (k0_pay22 DY) (k0_pay23 KP KC) (k0_pay24 VP VC) (k0_pay25 DY O) (prob1 a Q KP KC B) (ix2 ρ d)
      = (∑ κ : Fin 768, dsc1 a Q KP KC VP VC DY O B (ix2 ρ κ) * k0_pay23 (F := Ideal) KP KC (ix2 ⟨256 + κ.val, by omega⟩ d)) * Ideal.ofBits FTy.f32 1035273459#32 := by
    unfold k0_pay41 k0_pay40 dsc1
    generalize k0_pay34 (k0_pay22 DY) (k0_pay24 VP VC) (k0_pay25 DY O) (prob1 a Q KP KC B) = s
    generalize k0_pay23 (F := Ideal) KP KC = kk
    pointwise
  rw [e, scale_eq, sum_eq_coe Finset.univ _ _ (fun κ _ => by rw [dsc1_at W, keys_at W, ← EReal.coe_mul]), ← EReal.coe_mul]
  congr 1
  exact dq_stretch (512 * w + 256) ⟨2 * w + 1, by omega⟩ (by have := W.hw; omega) ρ d _ (fun κ hκ => (keyRow_eq (by dsimp only; omega)).trans (by dsimp only; omega))

theorem dq_at (r : Fin 512) (d : Fin 128) : dqOf a Q KP KC VP VC DY O B (ix2 r d) = (gq q k v dy rel (512 * w + r) h d : EReal) := by
  have key : View.PiecesOf (Val := Elt Ideal) (s := S512x128) (e := .f32) (fun y => (gq q k v dy rel (512 * w + (y 0).val) h (y 1).val : EReal)) (dqPieces a Q KP KC VP VC DY O B) := by
    refine ⟨fun y => ?_, fun y => ?_, trivial⟩
    all_goals obtain ⟨ρ, m, rfl⟩ : ∃ (ρ : Fin 256) (m : Fin 128), y = ix2 ρ m := ⟨y 0, y 1, by funext a; match a with | ⟨0, _⟩ => rfl | ⟨1, _⟩ => rfl⟩
    · exact (dq1_at W ρ m).trans (by
        show _ = ((gq q k v dy rel (512 * w + (256 + 1 * ρ.val)) h (0 + 1 * m.val) : ℝ) : EReal)
        rw [Nat.one_mul, Nat.one_mul, Nat.zero_add, Nat.add_assoc])
    · exact (dq0_at W ρ m).trans (by
        show _ = ((gq q k v dy rel (512 * w + (0 + 1 * ρ.val)) h (0 + 1 * m.val) : ℝ) : EReal)
        rw [Nat.one_mul, Nat.one_mul, Nat.zero_add, Nat.zero_add, Nat.add_zero])
  unfold dqOf
  rw [View.read_writes_junk_apply_eq_canon]
  have hc := View.canon_append_of_piecesOf (Val := Elt Ideal) _ [] _ key (ix2 r d) (dq_cover a Q KP KC VP VC DY O B _)
  rw [List.append_nil] at hc
  exact hc

/-! ## The parts of dk and dv -/

theorem partK_split (m d : ℕ) : partK q k v dy rel h w m d
    = (∑ ρ : Fin 256, dpad q k v dy rel h (512 * w + 0 + ρ) (512 * w + m) * q (512 * w + 0 + ρ) (h * 128 + d)) * scale
      + (∑ ρ : Fin 256, dpad q k v dy rel h (512 * w + 256 + ρ) (512 * w + m) * q (512 * w + 256 + ρ) (h * 128 + d)) * scale := by
  unfold partK
  rw [sum_halves (fun r => dpad q k v dy rel h (512 * w + r) (512 * w + m) * q (512 * w + r) (h * 128 + d)), add_mul]
  simp only [Nat.add_assoc]

theorem partV_split (m d : ℕ) : partV q k dy rel h w m d
    = (∑ ρ : Fin 256, ppad q k rel h (512 * w + 0 + ρ) (512 * w + m) * dy (512 * w + 0 + ρ) (h * 128 + d))
      + (∑ ρ : Fin 256, ppad q k rel h (512 * w + 256 + ρ) (512 * w + m) * dy (512 * w + 256 + ρ) (h * 128 + d)) := by
  unfold partV
  rw [sum_halves (fun r => ppad q k rel h (512 * w + r) (512 * w + m) * dy (512 * w + r) (h * 128 + d))]
  simp only [Nat.add_assoc]

theorem dk0_at (κ : Fin 768) (d : Fin 128) : dkh a Q KP KC VP VC DY O B (ix2 κ d)
    = (((∑ ρ : Fin 256, dpad q k v dy rel h (512 * w + 0 + ρ) (512 * w + 0 + κ) * q (512 * w + 0 + ρ) (h * 128 + d)) * scale : ℝ) : EReal) := by
  have e : dkh a Q KP KC VP VC DY O B (ix2 κ d)
      = (∑ ρ : Fin 256, k0_pay33 (prob0 a Q KP KC B) (dp0 VP VC DY) (dl0 DY O) (ix2 ρ κ) * Q (ix2 ⟨ρ.val, by omega⟩ d)) * Ideal.ofBits FTy.f32 1035273459#32 := by
    unfold dkh k0_pay38 k0_pay35 k0_pay21
    generalize k0_pay33 (prob0 a Q KP KC B) (dp0 VP VC DY) (dl0 DY O) = s
    pointwise
  rw [e, scale_eq, sum_eq_coe Finset.univ _ _ (fun ρ _ => by rw [dsc0_at W, W.hq, ← EReal.coe_mul]), ← EReal.coe_mul]
  rfl

theorem dk1_at (κ : Fin 768) (d : Fin 128) : k0_pay44 (F := Ideal) (k0_pay21 Q) (dsr1 a Q KP KC VP VC DY O B) (ix2 κ d)
    = (((∑ ρ : Fin 256, dpad q k v dy rel h (512 * w + 256 + ρ) (512 * w + 256 + κ) * q (512 * w + 256 + ρ) (h * 128 + d)) * scale : ℝ) : EReal) := by
  have e : k0_pay44 (F := Ideal) (k0_pay21 Q) (dsr1 a Q KP KC VP VC DY O B) (ix2 κ d)
      = (∑ ρ : Fin 256, dsc1 a Q KP KC VP VC DY O B (ix2 ρ κ) * Q (ix2 ⟨256 + ρ.val, by omega⟩ d)) * Ideal.ofBits FTy.f32 1035273459#32 := by
    unfold k0_pay44 dsr1 k0_pay40 k0_pay21 dsc1
    generalize k0_pay34 (k0_pay22 DY) (k0_pay24 VP VC) (k0_pay25 DY O) (prob1 a Q KP KC B) = s
    pointwise
  rw [e, scale_eq, sum_eq_coe Finset.univ _ _ (fun ρ _ => by rw [dsc1_at W, W.hq, ← EReal.coe_mul]), ← EReal.coe_mul]
  simp only [Nat.add_assoc]

theorem dv0_at (κ : Fin 768) (d : Fin 128) : dvh a Q KP KC DY B (ix2 κ d)
    = ((∑ ρ : Fin 256, ppad q k rel h (512 * w + 0 + ρ) (512 * w + 0 + κ) * dy (512 * w + 0 + ρ) (h * 128 + d) : ℝ) : EReal) := by
  have e : dvh a Q KP KC DY B (ix2 κ d) = ∑ ρ : Fin 256, prob0 a Q KP KC B (ix2 ρ κ) * DY (ix2 ⟨ρ.val, by omega⟩ d) := by
    unfold dvh k0_pay39 k0_pay22
    generalize prob0 a Q KP KC B = s
    pointwise
  rw [e, sum_eq_coe Finset.univ _ _ (fun ρ _ => by rw [prob0_at W, W.hdy, ← EReal.coe_mul])]
  rfl

theorem dv1_at (κ : Fin 768) (d : Fin 128) : k0_pay45 (F := Ideal) (k0_pay22 DY) (prob1 a Q KP KC B) (ix2 κ d)
    = ((∑ ρ : Fin 256, ppad q k rel h (512 * w + 256 + ρ) (512 * w + 256 + κ) * dy (512 * w + 256 + ρ) (h * 128 + d) : ℝ) : EReal) := by
  have e : k0_pay45 (F := Ideal) (k0_pay22 DY) (prob1 a Q KP KC B) (ix2 κ d) = ∑ ρ : Fin 256, prob1 a Q KP KC B (ix2 ρ κ) * DY (ix2 ⟨256 + ρ.val, by omega⟩ d) := by
    unfold k0_pay45 k0_pay22
    generalize prob1 a Q KP KC B = s
    pointwise
  rw [e, sum_eq_coe Finset.univ _ _ (fun ρ _ => by rw [prob1_at W, W.hdy, ← EReal.coe_mul])]
  simp only [Nat.add_assoc]

omit W in
/-- The first half does not attend to the last 256 keys, -/
theorem far0 {m : ℕ} (hm : 768 ≤ m) (ρ : Fin 256) : 512 ≤ 512 * w + m → ¬ band (512 * w + 0 + ρ) (512 * w + m - 512) := by
  intro _; unfold band; omega
omit W in
/-- and the second not to the first 256. -/
theorem far1 {m : ℕ} (hm : m < 256) (ρ : Fin 256) : 512 ≤ 512 * w + m → ¬ band (512 * w + 256 + ρ) (512 * w + m - 512) := by
  intro _; unfold band; omega

theorem dk_at (ck : Vec Ideal S512x128 .f32) (n : Fin 512) (d : Fin 128) :
    dkOf a Q KP KC VP VC DY O B ck (ix2 n d) = (ck (ix2 n d) : EReal) + (partK q k v dy rel h w n d : EReal) := by
  have e : dkOf a Q KP KC VP VC DY O B ck (ix2 n d) = (ck (ix2 n d) : EReal) + if hn : n.val < 256 then dkh a Q KP KC VP VC DY O B (ix2 ⟨n.val, by omega⟩ d)
      else dkh a Q KP KC VP VC DY O B (ix2 ⟨256 + (n.val - 256), by omega⟩ d) + k0_pay44 (F := Ideal) (k0_pay21 Q) (dsr1 a Q KP KC VP VC DY O B) (ix2 ⟨n.val - 256, by omega⟩ d) := by
    unfold dkOf k0_pay47
    generalize dkh a Q KP KC VP VC DY O B = s
    generalize k0_pay44 (F := Ideal) (k0_pay21 Q) (dsr1 a Q KP KC VP VC DY O B) = s'
    pointwise
  rw [e, partK_split W]
  congr 1
  split_ifs with hn
  · rw [dk0_at W]
    congr 1
    have z : ∀ ρ : Fin 256, dpad q k v dy rel h (512 * w + 256 + ρ) (512 * w + n) = 0 := fun ρ => dpad_off q k v dy rel (far1 hn ρ)
    simp only [z, zero_mul, Finset.sum_const_zero, add_zero, Nat.add_zero]
  · rw [dk0_at W, dk1_at W, ← EReal.coe_add]
    congr 1
    have e1 : 512 * w + 0 + (256 + (n.val - 256)) = 512 * w + n.val := by omega
    have e2 : 512 * w + 256 + (n.val - 256) = 512 * w + n.val := by omega
    dsimp only
    rw [e1, e2]

theorem dv_at (cv : Vec Ideal S512x128 .f32) (n : Fin 512) (d : Fin 128) :
    dvOf a Q KP KC DY B cv (ix2 n d) = (cv (ix2 n d) : EReal) + (partV q k dy rel h w n d : EReal) := by
  have e : dvOf a Q KP KC DY B cv (ix2 n d) = (cv (ix2 n d) : EReal) + if hn : n.val < 256 then dvh a Q KP KC DY B (ix2 ⟨n.val, by omega⟩ d)
      else dvh a Q KP KC DY B (ix2 ⟨256 + (n.val - 256), by omega⟩ d) + k0_pay45 (F := Ideal) (k0_pay22 DY) (prob1 a Q KP KC B) (ix2 ⟨n.val - 256, by omega⟩ d) := by
    unfold dvOf k0_pay48
    generalize dvh a Q KP KC DY B = s
    generalize k0_pay45 (F := Ideal) (k0_pay22 DY) (prob1 a Q KP KC B) = s'
    pointwise
  rw [e, partV_split W]
  congr 1
  split_ifs with hn
  · rw [dv0_at W]
    congr 1
    have z : ∀ ρ : Fin 256, ppad q k rel h (512 * w + 256 + ρ) (512 * w + n) = 0 := fun ρ => ppad_off q k rel (far1 hn ρ)
    simp only [z, zero_mul, Finset.sum_const_zero, add_zero, Nat.add_zero]
  · rw [dv0_at W, dv1_at W, ← EReal.coe_add]
    congr 1
    have e1 : 512 * w + 0 + (256 + (n.val - 256)) = 512 * w + n.val := by omega
    have e2 : 512 * w + 256 + (n.val - 256) = 512 * w + n.val := by omega
    dsimp only
    rw [e1, e2]

theorem ck_at (n : Fin 512) (d : Fin 128) :
    ckOf a Q KP KC VP VC DY O B (ix2 n d) = (partK q k v dy rel h w (512 + n) d : EReal) := by
  have e : ckOf a Q KP KC VP VC DY O B (ix2 n d) = if hn : n.val < 256 then
        dkh a Q KP KC VP VC DY O B (ix2 ⟨512 + n.val, by omega⟩ d) + k0_pay44 (F := Ideal) (k0_pay21 Q) (dsr1 a Q KP KC VP VC DY O B) (ix2 ⟨256 + n.val, by omega⟩ d)
      else k0_pay44 (F := Ideal) (k0_pay21 Q) (dsr1 a Q KP KC VP VC DY O B) (ix2 ⟨512 + (n.val - 256), by omega⟩ d) := by
    unfold ckOf k0_pay49
    generalize dkh a Q KP KC VP VC DY O B = s
    generalize k0_pay44 (F := Ideal) (k0_pay21 Q) (dsr1 a Q KP KC VP VC DY O B) = s'
    pointwise
  rw [e, partK_split W]
  split_ifs with hn
  · rw [dk0_at W, dk1_at W, ← EReal.coe_add]
    congr 1
    have e1 : 512 * w + 0 + (512 + n.val) = 512 * w + (512 + n.val) := by omega
    have e2 : 512 * w + 256 + (256 + n.val) = 512 * w + (512 + n.val) := by omega
    dsimp only
    rw [e1, e2]
  · rw [dk1_at W]
    congr 1
    have z : ∀ ρ : Fin 256, dpad q k v dy rel h (512 * w + 0 + ρ) (512 * w + (512 + n)) = 0 := fun ρ => dpad_off q k v dy rel (far0 (by omega) ρ)
    have e2 : 512 * w + 256 + (512 + (n.val - 256)) = 512 * w + (512 + n.val) := by omega
    simp only [z, zero_mul, Finset.sum_const_zero, zero_add]
    rw [e2]

theorem cv_at (n : Fin 512) (d : Fin 128) :
    cvOf a Q KP KC DY B (ix2 n d) = (partV q k dy rel h w (512 + n) d : EReal) := by
  have e : cvOf a Q KP KC DY B (ix2 n d) = if hn : n.val < 256 then
        dvh a Q KP KC DY B (ix2 ⟨512 + n.val, by omega⟩ d) + k0_pay45 (F := Ideal) (k0_pay22 DY) (prob1 a Q KP KC B) (ix2 ⟨256 + n.val, by omega⟩ d)
      else k0_pay45 (F := Ideal) (k0_pay22 DY) (prob1 a Q KP KC B) (ix2 ⟨512 + (n.val - 256), by omega⟩ d) := by
    unfold cvOf k0_pay6 k0_pay46
    generalize dvh a Q KP KC DY B = s
    generalize k0_pay45 (F := Ideal) (k0_pay22 DY) (prob1 a Q KP KC B) = s'
    pointwise
  rw [e, partV_split W]
  split_ifs with hn
  · rw [dv0_at W, dv1_at W, ← EReal.coe_add]
    congr 1
    have e1 : 512 * w + 0 + (512 + n.val) = 512 * w + (512 + n.val) := by omega
    have e2 : 512 * w + 256 + (256 + n.val) = 512 * w + (512 + n.val) := by omega
    dsimp only
    rw [e1, e2]
  · rw [dv1_at W]
    congr 1
    have z : ∀ ρ : Fin 256, ppad q k rel h (512 * w + 0 + ρ) (512 * w + (512 + n)) = 0 := fun ρ => ppad_off q k rel (far0 (by omega) ρ)
    have e2 : 512 * w + 256 + (512 + (n.val - 256)) = 512 * w + (512 + n.val) := by omega
    simp only [z, zero_mul, Finset.sum_const_zero, zero_add]
    rw [e2]

/-! ## The sum of the score gradients -/

omit W in
/-- An entry after a half's rectangle of score gradients is stored. -/
theorem put_half (o : ℕ) (x : Vec Ideal S1x512x1024 .f32) (y : Vec Ideal S1x256x768 .f32) (r : Fin 512) (m : Fin 1024) :
    put (α := Ideal .f32) (s := S1x512x1024) x ![0, o, o] S1x256x768.size y (ix3 0 r m)
      = if hc : (o ≤ r.val ∧ r.val < o + 256) ∧ (o ≤ m.val ∧ m.val < o + 768) then y (ix3 0 ⟨r.val - o, by omega⟩ ⟨m.val - o, by omega⟩) else x (ix3 0 r m) := by
  unfold put
  by_cases hc : (o ≤ r.val ∧ r.val < o + 256) ∧ (o ≤ m.val ∧ m.val < o + 768)
  · have hh : ∀ a : Fin 3, (![0, o, o] : Fin 3 → ℕ) a ≤ ((ix3 0 r m : S1x512x1024.Idx) a).val ∧ ((ix3 0 r m : S1x512x1024.Idx) a).val < (![0, o, o] : Fin 3 → ℕ) a + S1x256x768.size a := by
      intro a
      match a with
      | ⟨0, _⟩ => exact ⟨le_refl 0, Nat.one_pos⟩
      | ⟨1, _⟩ => exact hc.1
      | ⟨2, _⟩ => exact hc.2
    rw [dif_pos hc, dif_pos hh]
    refine congrArg y ?_
    funext a; refine Fin.ext ?_
    match a with
    | ⟨0, _⟩ => rfl
    | ⟨1, _⟩ => rfl
    | ⟨2, _⟩ => rfl
  · have hh : ¬ ∀ a : Fin 3, (![0, o, o] : Fin 3 → ℕ) a ≤ ((ix3 0 r m : S1x512x1024.Idx) a).val ∧ ((ix3 0 r m : S1x512x1024.Idx) a).val < (![0, o, o] : Fin 3 → ℕ) a + S1x256x768.size a :=
      fun hall => hc ⟨hall 1, hall 2⟩
    rw [dif_neg hc, dif_neg hh]

theorem ds_at (D : Vec Ideal S1x512x1024 .f32) (f : ℕ → ℕ → ℝ) (hD : ∀ (r : Fin 512) (m : Fin 1024), D (ix3 0 r m) = (f r m : EReal)) (r : Fin 512) (m : Fin 1024) :
    dsOf a Q KP KC VP VC DY O B D (ix3 0 r m) = ((f r m + dpad q k v dy rel h (512 * w + r) (512 * w + m) : ℝ) : EReal) := by
  have e0 : ∀ (ρ : Fin 256) (κ : Fin 768), k0_pay37 (prob0 a Q KP KC B) (dp0 VP VC DY) (dl0 DY O) (window D ![0, 0, 0] S1x256x768.size inb_S1x512x1024_S1x256x768_0_0_0) (ix3 0 ρ κ)
      = ((f ρ κ + dpad q k v dy rel h (512 * w + ρ) (512 * w + κ) : ℝ) : EReal) := by
    intro ρ κ
    have hw : window D ![0, 0, 0] S1x256x768.size inb_S1x512x1024_S1x256x768_0_0_0 (ix3 0 ρ κ) = D (ix3 0 ⟨ρ.val, by omega⟩ ⟨κ.val, by omega⟩) :=
      congrArg D (by funext i; refine Fin.ext ?_; match i with | ⟨0, _⟩ => rfl | ⟨1, _⟩ => (show 0 + 1 * ρ.val = ρ.val; omega) | ⟨2, _⟩ => (show 0 + 1 * κ.val = κ.val; omega))
    have hs := dsc0_at W ρ κ
    rw [EReal.coe_add, ← hD ⟨ρ.val, by omega⟩ ⟨κ.val, by omega⟩, ← hw]
    refine Eq.trans ?_ (congrArg (fun x : EReal => _ + x) hs)
    unfold k0_pay37
    generalize k0_pay33 (prob0 a Q KP KC B) (dp0 VP VC DY) (dl0 DY O) = s
    generalize window D ![0, 0, 0] S1x256x768.size inb_S1x512x1024_S1x256x768_0_0_0 = x
    pointwise
  have e1 : ∀ (ρ : Fin 256) (κ : Fin 768), k0_pay43 (dsc1 a Q KP KC VP VC DY O B) (k0_pay42 (window D ![0, 256, 256] S1x256x768.size inb_S1x512x1024_S1x256x768_0_256_256)) (ix3 0 ρ κ)
      = (D (ix3 0 ⟨256 + ρ.val, by omega⟩ ⟨256 + κ.val, by omega⟩) : EReal) + (dpad q k v dy rel h (512 * w + (256 + ρ)) (512 * w + (256 + κ)) : EReal) := by
    intro ρ κ
    have hw : window D ![0, 256, 256] S1x256x768.size inb_S1x512x1024_S1x256x768_0_256_256 (ix3 0 ρ κ) = D (ix3 0 ⟨256 + ρ.val, by omega⟩ ⟨256 + κ.val, by omega⟩) :=
      congrArg D (by funext i; refine Fin.ext ?_; match i with | ⟨0, _⟩ => rfl | ⟨1, _⟩ => (show 256 + 1 * ρ.val = 256 + ρ.val; omega) | ⟨2, _⟩ => (show 256 + 1 * κ.val = 256 + κ.val; omega))
    have hs := dsc1_at W ρ κ
    rw [Nat.add_assoc, Nat.add_assoc] at hs
    rw [← hw]
    refine Eq.trans ?_ (congrArg (fun x : EReal => _ + x) hs)
    unfold k0_pay43 k0_pay42
    generalize dsc1 a Q KP KC VP VC DY O B = s
    generalize window D ![0, 256, 256] S1x256x768.size inb_S1x512x1024_S1x256x768_0_256_256 = x
    pointwise
  unfold dsOf
  refine (put_half 256 _ _ r m).trans ?_
  split_ifs with h1
  · refine (e1 ⟨r.val - 256, by omega⟩ ⟨m.val - 256, by omega⟩).trans ?_
    rw [hD, ← EReal.coe_add]
    dsimp only
    rw [show 256 + (r.val - 256) = r.val by omega, show 256 + (m.val - 256) = m.val by omega]
  · refine (put_half 0 _ _ r m).trans ?_
    split_ifs with h0
    · exact e0 ⟨r.val - 0, by omega⟩ ⟨m.val - 0, by omega⟩
    · rw [hD, dpad_off q k v dy rel (fun _ => by unfold band; omega), add_zero]

end Window

end Cert.KernelIdeal.Val

end
-- ==== Proof.Val.State.lean ====
/- The kernel's blocks in real numbers. -/
module

public import proofs.«01_k».proof.Proof.Val.Host
public import proofs.«01_k».proof.Proof.Val.Bias
public import proofs.«01_k».proof.Proof.Val.Grad
public import Idealize.ShloMosaic.Lib.Pipeline.ValueKit.Point
public import Idealize.ShloMosaic.Lib.Pipeline.ValueKit.Geometry

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo
open Cert.Val

variable (m : (ℓ : Loc nD τ sig) → Buf (Elt Ideal) ℓ) (c : Dev nD)

/-- The launch's memory on a device. -/
abbrev L0 : Valuation τ sig (Elt Ideal) := fun b => m (c, b)

/-- The second grid coordinate, -/
theorem coord1 : ∀ t : Fin grid0.N, (grid0.coords t 1).val = t.val % 9 := by decide +kernel
/-- and the block that each window takes at a point. -/
theorem index_q : ∀ t : Fin grid0.N, win0_0.index t = ![min (t.val % 9) 7, t.val / 9] := by decide +kernel
theorem index_kp : ∀ t : Fin grid0.N, win0_1.index t = ![min (t.val % 9) 7 - 1, t.val / 9] := by decide +kernel
theorem index_kc : ∀ t : Fin grid0.N, win0_2.index t = ![min (t.val % 9) 7, t.val / 9] := by decide +kernel
theorem index_vp : ∀ t : Fin grid0.N, win0_3.index t = ![min (t.val % 9) 7 - 1, t.val / 9] := by decide +kernel
theorem index_vc : ∀ t : Fin grid0.N, win0_4.index t = ![min (t.val % 9) 7, t.val / 9] := by decide +kernel
theorem index_row : ∀ t : Fin grid0.N, win0_5.index t = ![t.val / 9, 0, 0] := by decide +kernel
theorem index_dy : ∀ t : Fin grid0.N, win0_6.index t = ![min (t.val % 9) 7, t.val / 9] := by decide +kernel
theorem index_o : ∀ t : Fin grid0.N, win0_7.index t = ![min (t.val % 9) 7, t.val / 9] := by decide +kernel
theorem index_dq : ∀ t : Fin grid0.N, win0_8.index t = ![min (t.val % 9) 7, t.val / 9] := by decide +kernel
theorem index_dk : ∀ t : Fin grid0.N, win0_9.index t = ![t.val % 9 - 1, t.val / 9] := by decide +kernel
theorem index_dv : ∀ t : Fin grid0.N, win0_10.index t = ![t.val % 9 - 1, t.val / 9] := by decide +kernel
theorem index_ds : ∀ t : Fin grid0.N, win0_11.index t = ![t.val / 9, 0, 0] := by decide +kernel

theorem points (t : Fin cfg0.N) : t.val < 144 := t.isLt

/-! ## The input blocks -/

theorem blk_q (t : Fin cfg0.N) (r : Fin 512) (d : Fin 128) (hr : 512 * min (t.val % 9) 7 + r.val < 4096) (hd : t.val / 9 * 128 + d.val < 2048) :
    iblk m c 0 t (ix2 r d) = B62 (L0 m c) (ix2 ⟨512 * min (t.val % 9) 7 + r.val, hr⟩ ⟨t.val / 9 * 128 + d.val, hd⟩) := by
  blk_ext [iblk, index_q t]
theorem blk_kp (t : Fin cfg0.N) (r : Fin 512) (d : Fin 128) (hr : 512 * (min (t.val % 9) 7 - 1) + r.val < 4096) (hd : t.val / 9 * 128 + d.val < 2048) :
    iblk m c 1 t (ix2 r d) = B63 (L0 m c) (ix2 ⟨512 * (min (t.val % 9) 7 - 1) + r.val, hr⟩ ⟨t.val / 9 * 128 + d.val, hd⟩) := by
  blk_ext [iblk, index_kp t]
theorem blk_kc (t : Fin cfg0.N) (r : Fin 512) (d : Fin 128) (hr : 512 * min (t.val % 9) 7 + r.val < 4096) (hd : t.val / 9 * 128 + d.val < 2048) :
    iblk m c 2 t (ix2 r d) = B63 (L0 m c) (ix2 ⟨512 * min (t.val % 9) 7 + r.val, hr⟩ ⟨t.val / 9 * 128 + d.val, hd⟩) := by
  blk_ext [iblk, index_kc t]
theorem blk_vp (t : Fin cfg0.N) (r : Fin 512) (d : Fin 128) (hr : 512 * (min (t.val % 9) 7 - 1) + r.val < 4096) (hd : t.val / 9 * 128 + d.val < 2048) :
    iblk m c 3 t (ix2 r d) = B64 (L0 m c) (ix2 ⟨512 * (min (t.val % 9) 7 - 1) + r.val, hr⟩ ⟨t.val / 9 * 128 + d.val, hd⟩) := by
  blk_ext [iblk, index_vp t]
theorem blk_vc (t : Fin cfg0.N) (r : Fin 512) (d : Fin 128) (hr : 512 * min (t.val % 9) 7 + r.val < 4096) (hd : t.val / 9 * 128 + d.val < 2048) :
    iblk m c 4 t (ix2 r d) = B64 (L0 m c) (ix2 ⟨512 * min (t.val % 9) 7 + r.val, hr⟩ ⟨t.val / 9 * 128 + d.val, hd⟩) := by
  blk_ext [iblk, index_vc t]
theorem blk_dy (t : Fin cfg0.N) (r : Fin 512) (d : Fin 128) (hr : 512 * min (t.val % 9) 7 + r.val < 4096) (hd : t.val / 9 * 128 + d.val < 2048) :
    iblk m c 6 t (ix2 r d) = B65 (L0 m c) (ix2 ⟨512 * min (t.val % 9) 7 + r.val, hr⟩ ⟨t.val / 9 * 128 + d.val, hd⟩) := by
  blk_ext [iblk, index_dy t]
theorem blk_o (t : Fin cfg0.N) (r : Fin 512) (d : Fin 128) (hr : 512 * min (t.val % 9) 7 + r.val < 4096) (hd : t.val / 9 * 128 + d.val < 2048) :
    iblk m c 7 t (ix2 r d) = B66 (L0 m c) (ix2 ⟨512 * min (t.val % 9) 7 + r.val, hr⟩ ⟨t.val / 9 * 128 + d.val, hd⟩) := by
  blk_ext [iblk, index_o t]
theorem blk_row (t : Fin cfg0.N) (u : Fin 2048) (hh : t.val / 9 < 16) :
    iblk m c 5 t (ix3 0 0 u) = B7 (L0 m c) (ix3 ⟨t.val / 9, hh⟩ 0 u) := by
  blk_ext [iblk, index_row t]

/-! ## The launch in real numbers -/

variable (U0 : Valuation Cert.ReferenceIdeal.τ Cert.ReferenceIdeal.sig (Elt Ideal)) (q k v dy rel : ℕ → ℕ → ℝ)

/-- The kernel and the reference have the same arguments, and they are real. -/
structure Inputs : Prop where
  a0 : A0 (L0 m c) = Cert.ReferenceIdeal.Val.A0 U0
  a1 : A1 (L0 m c) = Cert.ReferenceIdeal.Val.A1 U0
  a2 : A2 (L0 m c) = Cert.ReferenceIdeal.Val.A2 U0
  a3 : A3 (L0 m c) = Cert.ReferenceIdeal.Val.A3 U0
  a4 : A4 (L0 m c) = Cert.ReferenceIdeal.Val.A4 U0
  args : Cert.ReferenceIdeal.Val.Args U0 q k v dy rel

/-- A cast is the identity on the ideal numbers. -/
theorem cast_at (x : FVec Ideal S4096x2048 .f32) (i : S4096x2048.Idx) : truncf .bf16 x bitsLt_bf16_f32 i = x i := rfl

variable {m c U0 q k v dy rel} (I : Inputs m c U0 q k v dy rel)
include I

/-- The bias of a head's band. -/
theorem bias_real (t : Fin cfg0.N) (r : Fin 512) (x : Fin 1024) : biasOf (F := Ideal) (iblk m c 5 t) (ix2 r x)
    = if r.val / 64 ≤ x.val / 64 ∧ x.val / 64 ≤ r.val / 64 + 8 then (rel (t.val / 9) (cls (512 + r) x) : EReal) else ⊥ := by
  have ht : t.val < 144 := t.isLt
  have hr := r.isLt; have hx := x.isLt
  have hh : t.val / 9 < 16 := by omega
  refine (bias_at _ (fun u => (rel (t.val / 9) (rowCls u) : EReal)) (fun u => ?_) r x).trans ?_
  · exact (blk_row m c t u hh).trans (row_at (fun h e => (congrFun I.a3 _).trans (I.args.rel h e)) ⟨t.val / 9, hh⟩ u)
  · unfold biasAt; dsimp only; rw [rowCls_eq r x]

/-- The blocks of a window of queries. -/
theorem blocks (t : Fin cfg0.N) (hw : t.val % 9 < 8) (B : Vec Ideal S512x1024 .f32)
    (hb : ∀ (r : Fin 512) (x : Fin 1024), B (ix2 r x) = if r.val / 64 ≤ x.val / 64 ∧ x.val / 64 ≤ r.val / 64 + 8 then (rel (t.val / 9) (cls (512 + r) x) : EReal) else ⊥) :
    Blocks q k v dy rel (t.val / 9) (t.val % 9) (BitVec.ofNat 32 (grid0.coords t 1).val) (iblk m c 0 t) (iblk m c 1 t) (iblk m c 2 t)
      (iblk m c 3 t) (iblk m c 4 t) (iblk m c 6 t) (iblk m c 7 t) B := by
  have ht : t.val < 144 := t.isLt
  have e7 : min (t.val % 9) 7 = t.val % 9 := by omega
  have hrow : ∀ r : Fin 512, 512 * min (t.val % 9) 7 + r.val < 4096 := fun r => by omega
  have hrow' : ∀ r : Fin 512, 512 * (min (t.val % 9) 7 - 1) + r.val < 4096 := fun r => by omega
  have hcol : ∀ d : Fin 128, t.val / 9 * 128 + d.val < 2048 := fun d => by omega
  refine ⟨hw, by rw [coord1 t], fun r d => ?_, fun r d => ?_, fun r d => ?_, fun r d => ?_, fun r d => ?_, fun r d => ?_, fun r d => ?_, hb⟩
  · refine (blk_q m c t r d (hrow r) (hcol d)).trans ?_
    rw [host_q, cast_at, I.a0, I.args.q]; dsimp only; rw [e7]
  · refine (blk_kp m c t r d (hrow' r) (hcol d)).trans ?_
    rw [host_k, cast_at, I.a1, I.args.k]; dsimp only; rw [e7]
  · refine (blk_kc m c t r d (hrow r) (hcol d)).trans ?_
    rw [host_k, cast_at, I.a1, I.args.k]; dsimp only; rw [e7]
  · refine (blk_vp m c t r d (hrow' r) (hcol d)).trans ?_
    rw [host_v, cast_at, I.a2, I.args.v]; dsimp only; rw [e7]
  · refine (blk_vc m c t r d (hrow r) (hcol d)).trans ?_
    rw [host_v, cast_at, I.a2, I.args.v]; dsimp only; rw [e7]
  · refine (blk_dy m c t r d (hrow r) (hcol d)).trans ?_
    rw [host_dy, cast_at, I.a4, I.args.dy]; dsimp only; rw [e7]
  · refine (blk_o m c t r d (hrow r) (hcol d)).trans ?_
    rw [host_o U0 I.a0 I.a1 I.a2 I.a3, cast_at]
    refine (Cert.ReferenceIdeal.Val.resO_eq I.args ⟨512 * min (t.val % 9) 7 + r.val, hrow r⟩ ⟨t.val / 9, by omega⟩ d).trans ?_
    dsimp only; rw [e7]

omit I

/-! ## What the points leave -/

section Carries
variable (q k v dy rel)
/-- What a window finds in the carry of dk, -/
def carK (h w n d : ℕ) : ℝ := if w = 0 then 0 else partK q k v dy rel h (w - 1) (512 + n) d
/-- and of dv. -/
def carV (h w n d : ℕ) : ℝ := if w = 0 then 0 else partV q k dy rel h (w - 1) (512 + n) d

/-- What a window of queries leaves. -/
structure Left (h w : ℕ) (s : St Ideal) : Prop where
  b : ∀ (r : Fin 512) (x : Fin 1024), s.b (ix2 r x) = if r.val / 64 ≤ x.val / 64 ∧ x.val / 64 ≤ r.val / 64 + 8 then (rel h (cls (512 + r) x) : EReal) else ⊥
  dq : ∀ (r : Fin 512) (d : Fin 128), s.dq (ix2 r d) = (gq q k v dy rel (512 * w + r) h d : EReal)
  dk : ∀ (n : Fin 512) (d : Fin 128), s.dk (ix2 n d) = ((carK q k v dy rel h w n d + partK q k v dy rel h w n d : ℝ) : EReal)
  dv : ∀ (n : Fin 512) (d : Fin 128), s.dv (ix2 n d) = ((carV q k dy rel h w n d + partV q k dy rel h w n d : ℝ) : EReal)
  ck : ∀ (n : Fin 512) (d : Fin 128), s.ck (ix2 n d) = (carK q k v dy rel h (w + 1) n d : EReal)
  cv : ∀ (n : Fin 512) (d : Fin 128), s.cv (ix2 n d) = (carV q k dy rel h (w + 1) n d : EReal)
  ds : ∀ (r : Fin 512) (x : Fin 1024), s.ds (ix3 0 r x) = (gs q k v dy rel (w + 1) h r x : EReal)
end Carries

include I

theorem window_left (t : Fin cfg0.N) (hw : t.val % 9 < 8) (B : Vec Ideal S512x1024 .f32) (K V : Vec Ideal S512x128 .f32) (D : Vec Ideal S1x512x1024 .f32)
    (hb : ∀ (r : Fin 512) (x : Fin 1024), B (ix2 r x) = if r.val / 64 ≤ x.val / 64 ∧ x.val / 64 ≤ r.val / 64 + 8 then (rel (t.val / 9) (cls (512 + r) x) : EReal) else ⊥)
    (hK : ∀ (n : Fin 512) (d : Fin 128), K (ix2 n d) = (carK q k v dy rel (t.val / 9) (t.val % 9) n d : EReal))
    (hV : ∀ (n : Fin 512) (d : Fin 128), V (ix2 n d) = (carV q k dy rel (t.val / 9) (t.val % 9) n d : EReal))
    (hD : ∀ (r : Fin 512) (x : Fin 1024), D (ix3 0 r x) = (gs q k v dy rel (t.val % 9) (t.val / 9) r x : EReal)) :
    Left q k v dy rel (t.val / 9) (t.val % 9) (windowAt m c t B K V D) := by
  have W := blocks I t hw B hb
  unfold windowAt
  constructor
  · exact hb
  · intro r d; dsimp only; exact dq_at W r d
  · intro n d; dsimp only; rw [dk_at W K n d, hK, ← EReal.coe_add]
  · intro n d; dsimp only; rw [dv_at W V n d, hV, ← EReal.coe_add]
  · intro n d; dsimp only; rw [ck_at W n d, carK, if_neg (Nat.succ_ne_zero _), Nat.add_sub_cancel]
  · intro n d; dsimp only; rw [cv_at W n d, carV, if_neg (Nat.succ_ne_zero _), Nat.add_sub_cancel]
  · intro r x; dsimp only
    rw [ds_at W D (fun r x => gs q k v dy rel (t.val % 9) (t.val / 9) r x) hD r x, gs, gs, Finset.sum_range_succ]

omit I in
theorem zero_K (n : Fin 512) (d : Fin 128) : k0_pay4 (F := Ideal) (ix2 n d) = ((0 : ℝ) : EReal) := by
  unfold k0_pay4; pointwise; simp
omit I in
theorem zero_V (n : Fin 512) (d : Fin 128) : k0_pay5 (F := Ideal) (ix2 n d) = ((0 : ℝ) : EReal) := by
  unfold k0_pay5; pointwise; simp
omit I in
theorem zero_S (r : Fin 512) (x : Fin 1024) : k0_pay3 (F := Ideal) (ix3 0 r x) = ((0 : ℝ) : EReal) := by
  unfold k0_pay3; pointwise; simp

/-- A head's first window. -/
theorem first_left (t : Fin cfg0.N) (h0 : t.val % 9 = 0) : Left q k v dy rel (t.val / 9) (t.val % 9) (stAt m c t.val t.isLt) := by
  rw [st_first m c t h0]
  refine window_left I t (by omega) _ _ _ _ (bias_real I t) (fun n d => ?_) (fun n d => ?_) (fun r x => ?_)
  · rw [zero_K, carK, if_pos h0]
  · rw [zero_V, carV, if_pos h0]
  · rw [zero_S, gs, h0, Finset.sum_range_zero]

/-- After each window of queries of each head. -/
theorem state_left : ∀ (n : ℕ) (hn : n < cfg0.N), n % 9 < 8 → Left q k v dy rel (n / 9) (n % 9) (stAt m c n hn) := by
  intro n
  induction n with
  | zero =>
    intro hn _
    exact first_left I ⟨0, hn⟩ rfl
  | succ n ih =>
    intro hn hw
    by_cases h0 : (n + 1) % 9 = 0
    · exact first_left I ⟨n + 1, hn⟩ h0
    · have L := ih (Nat.lt_of_succ_lt hn) (by omega)
      have e1 : n / 9 = (n + 1) / 9 := by omega
      have e2 : n % 9 + 1 = (n + 1) % 9 := by omega
      rw [st_mid m c ⟨n + 1, hn⟩ h0 (by show ¬ (n + 1) % 9 = 8; omega) _ rfl]
      refine window_left I ⟨n + 1, hn⟩ hw _ _ _ _ ?_ ?_ ?_ ?_
      · dsimp only; rw [← e1]; exact L.b
      · dsimp only; rw [← e1, ← e2]; exact L.ck
      · dsimp only; rw [← e1, ← e2]; exact L.cv
      · dsimp only; rw [← e1, ← e2]; exact L.ds

end Cert.KernelIdeal.Val

end
-- ==== Proof.Val.Final.lean ====
/- The arrays that the kernel leaves are the reference's results. -/
module

public import proofs.«01_k».proof.Proof.Val.State

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo
open Idealize.ShloMosaic.Pipeline (Dat Cfg Window)
open Cert.Val

/-! ## A key's gradient from the two windows that meet it -/

/-- A sum over the rows when only the rows of window `b` and the next are not zero. -/
theorem sum_rows (f : ℕ → ℝ) (b : ℕ) (hb : b < 8) (hf : ∀ t, ¬ (512 * b ≤ t ∧ t < 512 * b + 1024) → f t = 0) :
    ∑ t : Fin 4096, f t = (∑ r : Fin 512, f (512 * b + r)) + if b < 7 then ∑ r : Fin 512, f (512 * (b + 1) + r) else 0 := by
  have part : ∀ w, ∑ r : Fin 512, f (512 * w + r) = ∑ t ∈ Finset.Ico (512 * w) (512 * (w + 1)), f t := by
    intro w
    rw [Finset.sum_Ico_eq_sum_range, show 512 * (w + 1) - 512 * w = 512 by omega, ← Fin.sum_univ_eq_sum_range (fun i => f (512 * w + i))]
  rw [Fin.sum_univ_eq_sum_range f, part, part]
  by_cases h7 : b < 7
  · rw [if_pos h7, Finset.sum_Ico_consecutive f (by omega) (by omega)]
    refine (Finset.sum_subset (fun t ht => ?_) (fun t _ hn => hf t fun h => hn ?_)).symm
    · rw [Finset.mem_Ico] at ht; rw [Finset.mem_range]; omega
    · rw [Finset.mem_Ico]; omega
  · rw [if_neg h7, add_zero]
    refine (Finset.sum_subset (fun t ht => ?_) (fun t hr hn => hf t fun h => hn ?_)).symm
    · rw [Finset.mem_Ico] at ht; rw [Finset.mem_range]; omega
    · rw [Finset.mem_range] at hr; rw [Finset.mem_Ico]; omega

section
variable (q k v dy rel : ℕ → ℕ → ℝ)

theorem dpad_at (h t s : ℕ) : dpad q k v dy rel h t (s + 512) = dscore q k v dy rel h t s := by
  unfold dpad; rw [if_pos (by omega), Nat.add_sub_cancel]
theorem ppad_at (h t s : ℕ) : ppad q k rel h t (s + 512) = prob q k rel h t s := by
  unfold ppad; rw [if_pos (by omega), Nat.add_sub_cancel]

theorem gk_parts (h b n d : ℕ) (hb : b < 8) (hn : n < 512) :
    gk q k v dy rel (512 * b + n) h d = partK q k v dy rel h b (512 + n) d + if b < 7 then partK q k v dy rel h (b + 1) n d else 0 := by
  have s := sum_rows (fun t => dscore q k v dy rel h t (512 * b + n) * q t (h * 128 + d)) b hb (fun t ht => by
    rw [dscore_off q k v dy rel (fun hb => ht (band_rows hn hb)), zero_mul])
  unfold gk; rw [s]
  have e1 : ∀ r : ℕ, dpad q k v dy rel h (512 * b + r) (512 * b + (512 + n)) = dscore q k v dy rel h (512 * b + r) (512 * b + n) := fun r => by
    rw [← dpad_at]; congr 1; omega
  have e2 : ∀ r : ℕ, dpad q k v dy rel h (512 * (b + 1) + r) (512 * (b + 1) + n) = dscore q k v dy rel h (512 * (b + 1) + r) (512 * b + n) := fun r => by
    rw [← dpad_at]; congr 1; omega
  unfold partK; simp only [e1, e2]
  split_ifs <;> ring

theorem gv_parts (h b n d : ℕ) (hb : b < 8) (hn : n < 512) :
    gv q k dy rel (512 * b + n) h d = partV q k dy rel h b (512 + n) d + if b < 7 then partV q k dy rel h (b + 1) n d else 0 := by
  have s := sum_rows (fun t => prob q k rel h t (512 * b + n) * dy t (h * 128 + d)) b hb (fun t ht => by
    rw [prob_off q k rel (fun hb => ht (band_rows hn hb)), zero_mul])
  unfold gv; rw [s]
  have e1 : ∀ r : ℕ, ppad q k rel h (512 * b + r) (512 * b + (512 + n)) = prob q k rel h (512 * b + r) (512 * b + n) := fun r => by
    rw [← ppad_at]; congr 1; omega
  have e2 : ∀ r : ℕ, ppad q k rel h (512 * (b + 1) + r) (512 * (b + 1) + n) = prob q k rel h (512 * (b + 1) + r) (512 * b + n) := fun r => by
    rw [← ppad_at]; congr 1; omega
  unfold partV; simp only [e1, e2]
end

/-! ## What the points that write back leave -/

variable {m : (ℓ : Loc nD τ sig) → Buf (Elt Ideal) ℓ} {c : Dev nD} {U0 : Valuation Cert.ReferenceIdeal.τ Cert.ReferenceIdeal.sig (Elt Ideal)} {q k v dy rel : ℕ → ℕ → ℝ}
  (I : Inputs m c U0 q k v dy rel)
include I

/-- The last window of a head, at the point after it. -/
theorem last_left (t : Fin cfg0.N) (h8 : t.val % 9 = 8) : ∃ s : St Ideal, Left q k v dy rel (t.val / 9) 7 s ∧ stAt m c t.val t.isLt = { s with dk := s.ck, dv := s.cv } := by
  have L := state_left I (t.val - 1) (Nat.lt_of_le_of_lt (Nat.sub_le _ _) t.isLt) (by omega)
  rw [show (t.val - 1) / 9 = t.val / 9 by omega, show (t.val - 1) % 9 = 7 by omega] at L
  exact ⟨_, L, st_rest m c t h8 _ rfl⟩

theorem left_dq (t : Fin cfg0.N) (r : Fin 512) (d : Fin 128) :
    (stAt m c t.val t.isLt).dq (ix2 r d) = (gq q k v dy rel (512 * min (t.val % 9) 7 + r) (t.val / 9) d : EReal) := by
  by_cases h8 : t.val % 9 = 8
  · obtain ⟨s, L, e⟩ := last_left I t h8
    rw [e, h8]; exact L.dq r d
  · have L := state_left I t.val t.isLt (by omega)
    rw [show min (t.val % 9) 7 = t.val % 9 by omega]; exact L.dq r d

theorem left_dk (t : Fin cfg0.N) (h0 : t.val % 9 ≠ 0) (n : Fin 512) (d : Fin 128) :
    (stAt m c t.val t.isLt).dk (ix2 n d) = (gk q k v dy rel (512 * (t.val % 9 - 1) + n) (t.val / 9) d : EReal) := by
  rw [gk_parts q k v dy rel _ _ _ _ (by omega) n.isLt]
  by_cases h8 : t.val % 9 = 8
  · obtain ⟨s, L, e⟩ := last_left I t h8
    rw [e, h8, if_neg (by omega), add_zero]
    exact (L.ck n d).trans (by rw [carK, if_neg (by omega)])
  · have L := state_left I t.val t.isLt (by omega)
    rw [if_pos (by omega), show t.val % 9 - 1 + 1 = t.val % 9 by omega, L.dk n d, carK, if_neg h0]

theorem left_dv (t : Fin cfg0.N) (h0 : t.val % 9 ≠ 0) (n : Fin 512) (d : Fin 128) :
    (stAt m c t.val t.isLt).dv (ix2 n d) = (gv q k dy rel (512 * (t.val % 9 - 1) + n) (t.val / 9) d : EReal) := by
  rw [gv_parts q k dy rel _ _ _ _ (by omega) n.isLt]
  by_cases h8 : t.val % 9 = 8
  · obtain ⟨s, L, e⟩ := last_left I t h8
    rw [e, h8, if_neg (by omega), add_zero]
    exact (L.cv n d).trans (by rw [carV, if_neg (by omega)])
  · have L := state_left I t.val t.isLt (by omega)
    rw [if_pos (by omega), show t.val % 9 - 1 + 1 = t.val % 9 by omega, L.dv n d, carV, if_neg h0]

theorem left_ds (t : Fin cfg0.N) (h8 : t.val % 9 = 8) (r : Fin 512) (x : Fin 1024) :
    (stAt m c t.val t.isLt).ds (ix3 0 r x) = (gs q k v dy rel 8 (t.val / 9) r x : EReal) := by
  obtain ⟨s, L, e⟩ := last_left I t h8
  rw [e]; exact L.ds r x

/-! ## The arrays after the run -/

omit I in
/-- The blocks of dk and dv are written back at every window but a head's first. -/
theorem flush9 : ∀ t : Fin cfg0.N, (cfg0.win 9).flush t = true ↔ t.val % 9 ≠ 0 :=
  (by decide +kernel : ∀ t : Fin grid0.N, win0_9.flush t = true ↔ t.val % 9 ≠ 0)
omit I in
theorem flush10 : ∀ t : Fin cfg0.N, (cfg0.win 10).flush t = true ↔ t.val % 9 ≠ 0 :=
  (by decide +kernel : ∀ t : Fin grid0.N, win0_10.flush t = true ↔ t.val % 9 ≠ 0)

theorem arr_dq : (dats m 0 c).arrAt 8 cfg0.N = (Cert.ReferenceIdeal.Val.resQ U0 : FVec Ideal S4096x2048 .f32) := by
  refine (dats m 0 c).arrAt_eq_of_covers 8 _ (by decide +kernel) fun t hf y => ?_
  blk_simp
  rw [after0_8]
  obtain ⟨r, d, rfl⟩ : ∃ (r : Fin 512) (d : Fin 128), y = ix2 r d := ⟨y 0, y 1, by funext a; match a with | ⟨0, _⟩ => rfl | ⟨1, _⟩ => rfl⟩
  have ht : t.val < 144 := t.isLt
  have he : (win0_8.blk t).view.emb (ix2 r d) = ix2 (⟨512 * min (t.val % 9) 7 + r.val, by omega⟩ : Fin 4096) (⟨t.val / 9 * 128 + d.val, by omega⟩ : Fin 2048) := by
    blk_ext [index_dq t]
  rw [he]
  exact (left_dq I t r d).trans (Cert.ReferenceIdeal.Val.resQ_eq I.args ⟨512 * min (t.val % 9) 7 + r.val, by omega⟩ ⟨t.val / 9, by omega⟩ d).symm

theorem arr_dk : (dats m 0 c).arrAt 9 cfg0.N = (Cert.ReferenceIdeal.Val.resK U0 : FVec Ideal S4096x2048 .f32) := by
  refine (dats m 0 c).arrAt_eq_of_covers 9 _ (by decide +kernel) fun t hf y => ?_
  blk_simp
  rw [after0_9]
  obtain ⟨r, d, rfl⟩ : ∃ (r : Fin 512) (d : Fin 128), y = ix2 r d := ⟨y 0, y 1, by funext a; match a with | ⟨0, _⟩ => rfl | ⟨1, _⟩ => rfl⟩
  have ht : t.val < 144 := t.isLt
  have h0 : t.val % 9 ≠ 0 := (flush9 t).mp hf
  have he : (win0_9.blk t).view.emb (ix2 r d) = ix2 (⟨512 * (t.val % 9 - 1) + r.val, by omega⟩ : Fin 4096) (⟨t.val / 9 * 128 + d.val, by omega⟩ : Fin 2048) := by
    blk_ext [index_dk t]
  rw [he]
  exact (left_dk I t h0 r d).trans (Cert.ReferenceIdeal.Val.resK_eq I.args ⟨512 * (t.val % 9 - 1) + r.val, by omega⟩ ⟨t.val / 9, by omega⟩ d).symm

theorem arr_dv : (dats m 0 c).arrAt 10 cfg0.N = (Cert.ReferenceIdeal.Val.resV U0 : FVec Ideal S4096x2048 .f32) := by
  refine (dats m 0 c).arrAt_eq_of_covers 10 _ (by decide +kernel) fun t hf y => ?_
  blk_simp
  rw [after0_10]
  obtain ⟨r, d, rfl⟩ : ∃ (r : Fin 512) (d : Fin 128), y = ix2 r d := ⟨y 0, y 1, by funext a; match a with | ⟨0, _⟩ => rfl | ⟨1, _⟩ => rfl⟩
  have ht : t.val < 144 := t.isLt
  have h0 : t.val % 9 ≠ 0 := (flush10 t).mp hf
  have he : (win0_10.blk t).view.emb (ix2 r d) = ix2 (⟨512 * (t.val % 9 - 1) + r.val, by omega⟩ : Fin 4096) (⟨t.val / 9 * 128 + d.val, by omega⟩ : Fin 2048) := by
    blk_ext [index_dv t]
  rw [he]
  exact (left_dv I t h0 r d).trans (Cert.ReferenceIdeal.Val.resV_eq I.args ⟨512 * (t.val % 9 - 1) + r.val, by omega⟩ ⟨t.val / 9, by omega⟩ d).symm

theorem arr_ds : (dats m 0 c).arrAt 11 cfg0.N = (Cert.ReferenceIdeal.Val.resS U0 : FVec Ideal S16x512x1024 .f32) := by
  refine (dats m 0 c).arrAt_eq_of_covers 11 _ (by decide +kernel) fun t hf y => ?_
  blk_simp
  rw [after0_11]
  obtain ⟨z, r, x, rfl⟩ : ∃ (z : Fin 1) (r : Fin 512) (x : Fin 1024), y = ix3 z r x := ⟨y 0, y 1, y 2, by funext a; match a with | ⟨0, _⟩ => rfl | ⟨1, _⟩ => rfl | ⟨2, _⟩ => rfl⟩
  obtain rfl : z = 0 := Subsingleton.elim _ _
  have ht : t.val < 144 := t.isLt
  have he : (win0_11.blk t).view.emb (ix3 0 r x) = ix3 (⟨t.val / 9, by omega⟩ : Fin 16) r x := by
    blk_ext [index_ds t]
  rw [he]
  exact (left_ds I t ((flush0_11 t).mp hf) r x).trans (Cert.ReferenceIdeal.Val.resS_eq I.args ⟨t.val / 9, by omega⟩ r x).symm

end Cert.KernelIdeal.Val

end
-- ==== Proof.Val.Finite.lean ====
/- The precondition read back: the arguments are real numbers. -/
module

public import proofs.«01_k».proof.Proof.Val.Final
public import proofs.«01_k».proof.Proof.Gen.Pre_finite
public import Idealize.ShloMosaic.Lib.ReduceAll
public import Idealize.ShloMosaic.Lib.Pointwise

@[expose] public section

set_option maxRecDepth 16384

noncomputable section

namespace Cert.Val

open Idealize.ShloMosaic

/-- An extended real whose absolute value is less than ∞ is a real number. -/
theorem real_of_abs_lt (x : EReal) (h : max x (-x) < ⊤) : x = (x.toReal : EReal) := by
  refine (EReal.coe_toReal ?_ ?_).symm
  · rintro rfl; exact absurd h (by simp)
  · rintro rfl; exact absurd h (by simp)

theorem real_of_test (x : Ideal .f32) (h : FloatOps.cmpf .olt (FloatOps.hostAbsf x) (Scalar.ofBits (F := Ideal) .f32 0x7F800000#32) = 1#1) :
    x = ((x : EReal).toReal : EReal) := by
  have e : Scalar.ofBits (F := Ideal) .f32 0x7F800000#32 = (⊤ : EReal) := by
    simp [Scalar.ofBits, FloatOps.ofBits, Ideal.ofBits, Ideal.ieee]
  rw [e] at h
  refine real_of_abs_lt x ?_
  by_contra hn
  have e2 : FloatOps.cmpf .olt (FloatOps.hostAbsf x) (⊤ : Ideal .f32) = BitVec.ofBool (decide (max (x : EReal) (-x) < ⊤)) := rfl
  rw [e2, decide_eq_false hn] at h
  exact absurd h (by decide)

/-- The real numbers of an array. -/
def reals {A B : ℕ} (x : FVec Ideal ⟨2, ![A, B]⟩ .f32) (a b : ℕ) : ℝ := if h : a < A ∧ b < B then (x (ix2 ⟨a, h.1⟩ ⟨b, h.2⟩) : EReal).toReal else 0

theorem reals_eq {A B : ℕ} (x : FVec Ideal ⟨2, ![A, B]⟩ .f32) (h : ∀ i, x i = ((x i : EReal).toReal : EReal)) (a : Fin A) (b : Fin B) :
    x (ix2 a b) = (reals x a b : EReal) := by
  unfold reals; rw [dif_pos ⟨a.isLt, b.isLt⟩]; exact h _

end Cert.Val

namespace Cert.Pre_finite.Val

open Idealize.ShloMosaic Cert.Val Cert.Pre_finite Cert.Pre_finite.Facts Cert.Pre_finite.Gen

/-- An array that passes the test holds real numbers. -/
theorem all_real {s t : Shape} {axes : List (Fin s.rank)} [Subsingleton t.Idx] (x : FVec Ideal s .f32) (hb : S_.BroadcastsInDim s (![] : Fin 0 → Fin s.rank)) (init : IVec t 1)
    (h : s.ReducesTo axes t) (hu : 0 < t.numel) (j : t.Idx)
    (e : Host.reduce IntOp.andi (cmpf .olt (Host.absf x) (broadcastInDim s ![] hb (constant S_ .f32 0x7F800000#32))) init h hu j = 1#1) (i : s.Idx) :
    x i = ((x i : EReal).toReal : EReal) := by
  have e1 := Host.reduce_andi_all _ _ _ _ j e i
  refine real_of_test (x i) (Eq.trans ?_ e1)
  rfl

instance : Subsingleton S_.Idx := ⟨fun a b => funext fun i => i.elim0⟩

theorem decode (a0 a1 a2 : FVec Ideal S4096x2048 .f32) (a3 : FVec Ideal S16x320 .f32) (a4 : FVec Ideal S4096x2048 .f32)
    (h : fn (F := Ideal) a0 a1 a2 a3 a4 = fun _ => 1#1) :
    (∀ i, a0 i = ((a0 i : EReal).toReal : EReal)) ∧ (∀ i, a1 i = ((a1 i : EReal).toReal : EReal)) ∧ (∀ i, a2 i = ((a2 i : EReal).toReal : EReal))
      ∧ (∀ i, a3 i = ((a3 i : EReal).toReal : EReal)) ∧ (∀ i, a4 i = ((a4 i : EReal).toReal : EReal)) := by
  have h' := congrFun h (fun i => i.elim0)
  unfold fn fn_part1 at h'
  obtain ⟨h1, h4⟩ := IntOp.andi_eq_one.1 h'
  obtain ⟨h1, h3⟩ := IntOp.andi_eq_one.1 h1
  obtain ⟨h1, h2⟩ := IntOp.andi_eq_one.1 h1
  obtain ⟨h0, h1⟩ := IntOp.andi_eq_one.1 h1
  exact ⟨all_real a0 _ _ _ _ _ h0, all_real a1 _ _ _ _ _ h1, all_real a2 _ _ _ _ _ h2, all_real a3 _ _ _ _ _ h3, all_real a4 _ _ _ _ _ h4⟩

end Cert.Pre_finite.Val

end
-- ==== Proof.Val.Algebraic.lean ====
/- The two programs end with the same results. -/
module

public import proofs.«01_k».proof.Proof.Val.Finite
public import proofs.«01_k».proof.Defs

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.StableHlo
open Cert.Val

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have I : ∀ c : Dev nD, Inputs m c (launchContents m' c)
      (reals (A0 (L0 m c))) (reals (A1 (L0 m c))) (reals (A2 (L0 m c))) (reals (A4 (L0 m c))) (reals (A3 (L0 m c))) := by
    intro c
    obtain ⟨e0, e1, e2, e3, e4⟩ := hargs c
    obtain ⟨r0, r1, r2, r3, r4⟩ := Cert.Pre_finite.Val.decode _ _ _ _ _ (hpre c)
    exact ⟨e0.symm, e1.symm, e2.symm, e3.symm, e4.symm,
      ⟨fun t e => (congrFun e0 _).trans (reals_eq _ r0 t e), fun t e => (congrFun e1 _).trans (reals_eq _ r1 t e),
        fun t e => (congrFun e2 _).trans (reals_eq _ r2 t e), fun t e => (congrFun e3 _).trans (reals_eq _ r3 t e),
        fun t e => (congrFun e4 _).trans (reals_eq _ r4 t e)⟩⟩
  refine ⟨fun c => Cert.ReferenceIdeal.Val.resQ (launchContents m' c), fun c => Cert.ReferenceIdeal.Val.resK (launchContents m' c),
    fun c => Cert.ReferenceIdeal.Val.resV (launchContents m' c), fun c => Cert.ReferenceIdeal.Val.resS (launchContents m' c), ?_, ?_⟩
  · refine (θ_run defs _ _).mono (fun r h c => ?_) (Idealize.ShloMosaic.θ_run_and (run m g) (frame m g))
    exact ⟨((h.1 c).1 8).trans (arr_dq (I c)), ((h.1 c).1 9).trans (arr_dk (I c)), ((h.1 c).1 10).trans (arr_dv (I c)),
      ((h.1 c).1 11).trans (arr_ds (I c)), h.2.1 c⟩
  · exact Cert.ReferenceIdeal.Value.run m' g'

end Cert.KernelIdeal.Val

end
-- ==== Proof.Proj.Cols.lean ====
/- The columns of the shared keys' and values' projection: eight groups of 512. -/
module

public import Idealize.ShloMosaic.Lib.Pointwise

@[expose] public section

namespace Cert.Proj

/-- The group of a column, -/
abbrev grp (l : Fin 4096) : Fin 8 := ⟨l.val / 512, by omega⟩

/-- its place in the group, -/
abbrev lane (l : Fin 4096) : Fin 512 := ⟨l.val % 512, by omega⟩

/-- and the column at a place of a group. -/
abbrev col (g : Fin 8) (q : Fin 512) : Fin 4096 := ⟨g.val * 512 + q.val, by omega⟩

end Cert.Proj
-- ==== Proof.Proj.Qkv.lean ====
/- The first layer's combined projection. The call's result as one product, and the two programs' equal results. -/
module

public import proofs.«01_k».proof.Proof.Gen.QkvIdeal.Value
public import proofs.«01_k».proof.Proof.Gen.QkvRefIdeal.Run
public import proofs.«01_k».proof.Proof.Gen.QkvRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.QkvRefIdeal.Val

open Cert.QkvRefIdeal Cert.QkvRefIdeal.Gen Cert.Proj
open Idealize.ShloMosaic

/-- The reference's result, entry by entry. -/
theorem res_at (u : FVec Ideal S4096x2048 .f32) (w : FVec Ideal S2048x6160 .f32) (t : Fin 4096) (e : Fin 6144) :
    extractStridedSlice S4096x6144 ![0, 0] (Host.dotGeneral dot_S4096x2048_S2048x6160_S4096x6160_1_0_0_1_n_n none u w) slices_S4096x6160_S4096x6144_0_0 (ix2 t e)
      = ∑ l : Fin 2048, u (ix2 t l) * w (ix2 l ⟨e.val, by omega⟩) := by
  pointwise

end Cert.QkvRefIdeal.Val

namespace Cert.QkvIdeal.Val

open Cert.QkvIdeal Cert.QkvIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x768 .f32) (x : FVec Ideal S1024x2048 .bf16) (y : FVec Ideal S768x2048 .bf16) (j) :
    k0_pay2 acc x y j = acc j + ∑ k : Fin 2048, x (ix2 (j 0) k) * y (ix2 (j 1) k) := by
  pointwise [k0_pay2]

/-- The blocks that a grid point works on. -/
theorem idx : ∀ t : Fin cfg0.N, win0_0.index t = ![t.val / 8, 0]
    ∧ win0_1.index t = ![t.val % 8, 0]
    ∧ win0_2.index t = ![t.val / 8, t.val % 8] := (by decide +kernel : ∀ t : Fin grid0.N, _)

/-- What a point leaves in the result's buffer. -/
theorem out_eq (t : Fin cfg0.N) : outsAt0 m c t = k0_pay2 k0_pay1 (iblk m c 0 t) (X0_1 m c t) := by
  unfold outsAt0
  frame_out

/-- The arrays as the call finds them. -/
abbrev X : FVec Ideal S4096x2048 .bf16 := V m c main_v0
abbrev Y : FVec Ideal S6160x2048 .bf16 := V m c main_v2

/-- The weight's block lies inside the array, so that all of it is read. -/
theorem weight (t : Fin cfg0.N) (j : S768x2048.Idx) (i : S6160x2048.Idx) (h0 : (i 0).val = t.val % 8 * 768 + (j 0).val) (h1 : (i 1).val = (j 1).val) :
    (X0_1 m c t : S768x2048.Idx → EReal) j = Y m c i := by
  unfold X0_1 Pipeline.Window.fill
  rw [dif_pos (moved0_1 t j)]
  blk_point [iblk, idx t]

/-- The result is the product over the whole contraction at once. -/
theorem final : (dats m 0 c).arrAt 2 (cfgs 0).N
    = fun i : S4096x6144.Idx => ∑ l : Fin 2048, X m c (ix2 (i 0) l) * Y m c (ix2 ⟨(i 1).val, (i 1).isLt.trans (by decide)⟩ l) := by
  refine (dats m 0 c).arrAt_eq_of_covers 2 _ (by decide +kernel) fun t hf y => ?_
  blk_simp
  rw [after0_2, out_eq m c t, hpay, hzero, zero_add]
  refine @Finset.sum_congr _ EReal _ _ _ _ _ rfl fun k _ => congrArg₂ (fun a b : EReal => a * b) ?_ ?_
  · blk_point [iblk, idx t]
  · exact weight m c t _ _ (by simp [idx t]) (by simp)

variable (V0 : Valuation τ sig (Elt Ideal))

/-- The arguments as arrays of the ideal numbers, -/
abbrev A0 : FVec Ideal S4096x2048 .f32 := V0 (Proc.devRef .tc main_arg0)
abbrev A1 : FVec Ideal S2048x6160 .f32 := V0 (Proc.devRef .tc main_arg1)

/-- the host's operations before the call, -/
abbrev ops : List (HloOp τ sig (Elt Ideal)) := List.flatten [hostOps0]

/-- and the call's inputs after them. -/
theorem host_x : (after ops V0 (Proc.devRef .tc main_v0) : FVec Ideal S4096x2048 .bf16) = truncf .bf16 (A0 V0) bitsLt_bf16_f32 := by
  unfold_abbrev_sides
  after_reads_simp
theorem host_y : (after ops V0 (Proc.devRef .tc main_v2) : FVec Ideal S6160x2048 .bf16) = truncf .bf16 (transpose S6160x2048 [1, 0] (A1 V0) transposes_S2048x6160_S6160x2048_1_0) bitsLt_bf16_f32 := by
  unfold_abbrev_sides
  after_reads_simp

theorem algebraic : Cert.algebraic_QkvIdeal_QkvRefIdeal (hQkvIdeal := Cert.QkvIdeal.Gen.facts)
    (hQkvRefIdeal := Cert.QkvRefIdeal.Gen.facts) := by
  pair_intro
  · run_from Cert.QkvIdeal.Value.run_blocks m g
  · run_from Cert.QkvRefIdeal.Value.run m' g'
    refine Eq.trans ?_ (final m c).symm
    have hx : X m c = truncf .bf16 (A0 (fun b => m (c, b))) bitsLt_bf16_f32 := host_x _
    have hy : Y m c = truncf .bf16 (transpose S6160x2048 [1, 0] (A1 (fun b => m (c, b))) transposes_S2048x6160_S6160x2048_1_0) bitsLt_bf16_f32 := host_y _
    rw [hx, hy]
    funext i
    rw [eq_ix2 i]
    exact (Cert.QkvRefIdeal.Val.res_at _ _ _ _).trans (by pointwise)

end Cert.QkvIdeal.Val

end
-- ==== Proof.Proj.Out.lean ====
/- An attention's output projection, with the residual. The call's result as one product, and the two programs' equal results. -/
module

public import proofs.«01_k».proof.Proof.Gen.OutIdeal.Value
public import proofs.«01_k».proof.Proof.Gen.OutRefIdeal.Run
public import proofs.«01_k».proof.Proof.Gen.OutRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.OutRefIdeal.Val

open Cert.OutRefIdeal Cert.OutRefIdeal.Gen Cert.Proj
open Idealize.ShloMosaic

/-- The reference's result, entry by entry. -/
theorem res_at (h o : FVec Ideal S4096x2048 .f32) (w : FVec Ideal S2048x2048 .f32) (t : Fin 4096) (e : Fin 2048) :
    addf h (Host.dotGeneral dot_S4096x2048_S2048x2048_S4096x2048_1_0_0_1_n_n none o w) (ix2 t e)
      = h (ix2 t e) + ∑ l : Fin 2048, o (ix2 t l) * w (ix2 l e) := by
  pointwise

end Cert.OutRefIdeal.Val

namespace Cert.OutIdeal.Val

open Cert.OutIdeal Cert.OutIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x2048 .bf16) (y : FVec Ideal S2048x1024 .bf16) (j) :
    k0_pay2 acc x y j = acc j + ∑ k : Fin 2048, x (ix2 (j 0) k) * y (ix2 k (j 1)) := by
  pointwise [k0_pay2]

/-- The blocks that a grid point works on. -/
theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] := (by decide +kernel : ∀ t : Fin grid0.N, _)

/-- The residual's block is added at the end. -/
theorem hend (x y : FVec Ideal S1024x1024 .f32) (j) : k0_pay3 x y j = x j + y j := by pointwise [k0_pay3]

/-- What a point leaves in the result's buffer. -/
theorem out_eq (t : Fin cfg0.N) : outsAt0 m c t = k0_pay3 (k0_pay2 k0_pay1 (iblk m c 0 t) (iblk m c 1 t)) (iblk m c 2 t) := by
  unfold outsAt0
  frame_out

/-- The arrays as the call finds them. -/
abbrev X : FVec Ideal S4096x2048 .bf16 := V m c main_v0
abbrev Y : FVec Ideal S2048x2048 .bf16 := V m c main_v1
abbrev H : FVec Ideal S4096x2048 .f32 := V m c main_arg0

/-- The result is the product over the whole contraction at once. -/
theorem final : (dats m 0 c).arrAt 3 (cfgs 0).N
    = fun i : S4096x2048.Idx => (∑ l : Fin 2048, X m c (ix2 (i 0) l) * Y m c (ix2 l (i 1))) + H m c i := by
  refine (dats m 0 c).arrAt_eq_of_covers 3 _ (by decide +kernel) fun t hf y => ?_
  blk_simp
  rw [after0_3, out_eq m c t, hend, hpay, hzero, zero_add]
  refine congrArg₂ (fun a b : EReal => a + b) ?_ ?_
  · blk_point [iblk, idx t]
  · blk_point [iblk, idx t]

variable (V0 : Valuation τ sig (Elt Ideal))

/-- The arguments as arrays of the ideal numbers, -/
abbrev A0 : FVec Ideal S4096x2048 .f32 := V0 (Proc.devRef .tc main_arg0)
abbrev A1 : FVec Ideal S4096x2048 .f32 := V0 (Proc.devRef .tc main_arg1)
abbrev A2 : FVec Ideal S2048x2048 .f32 := V0 (Proc.devRef .tc main_arg2)

/-- the host's operations before the call, -/
abbrev ops : List (HloOp τ sig (Elt Ideal)) := List.flatten [hostOps0]

/-- and the call's inputs after them. -/
theorem host_x : (after ops V0 (Proc.devRef .tc main_v0) : FVec Ideal S4096x2048 .bf16) = truncf .bf16 (A1 V0) bitsLt_bf16_f32 := by
  unfold_abbrev_sides
  after_reads_simp
theorem host_y : (after ops V0 (Proc.devRef .tc main_v1) : FVec Ideal S2048x2048 .bf16) = truncf .bf16 (A2 V0) bitsLt_bf16_f32 := by
  unfold_abbrev_sides
  after_reads_simp
theorem host_h : (after ops V0 (Proc.devRef .tc main_arg0) : FVec Ideal S4096x2048 .f32) = (A0 V0) := by
  unfold_abbrev_sides
  after_reads_simp

theorem algebraic : Cert.algebraic_OutIdeal_OutRefIdeal (hOutIdeal := Cert.OutIdeal.Gen.facts)
    (hOutRefIdeal := Cert.OutRefIdeal.Gen.facts) := by
  pair_intro
  · run_from Cert.OutIdeal.Value.run_blocks m g
  · run_from Cert.OutRefIdeal.Value.run m' g'
    refine Eq.trans ?_ (final m c).symm
    have hx : X m c = truncf .bf16 (A1 (fun b => m (c, b))) bitsLt_bf16_f32 := host_x _
    have hy : Y m c = truncf .bf16 (A2 (fun b => m (c, b))) bitsLt_bf16_f32 := host_y _
    have hh : H m c = (A0 (fun b => m (c, b))) := host_h _
    rw [hx, hy, hh]
    funext i
    rw [eq_ix2 i]
    exact (Cert.OutRefIdeal.Val.res_at _ _ _ _ _).trans (add_comm _ _)

end Cert.OutIdeal.Val

end
-- ==== Proof.Proj.Kv.lean ====
/- The shared keys' and values' projection. The call's result as one product, and the two programs' equal results. -/
module

public import proofs.«01_k».proof.Proof.Gen.KvIdeal.Value
public import proofs.«01_k».proof.Proof.Gen.KvRefIdeal.Run
public import proofs.«01_k».proof.Proof.Gen.KvRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.KvRefIdeal.Val

open Cert.KvRefIdeal Cert.KvRefIdeal.Gen Cert.Proj
open Idealize.ShloMosaic

/-- The reference's result, entry by entry. -/
theorem res_at (u : FVec Ideal S4096x2048 .f32) (w : FVec Ideal S8x2048x512 .f32) (t : Fin 4096) (e : Fin 4096) :
    Host.dotGeneral dot_S4096x2048_S2048x4096_S4096x4096_1_0_0_1_n_n none u (shapeCast _ (transpose S2048x8x512 [1, 0, 2] w transposes_S8x2048x512_S2048x8x512_1_0_2) shapeCasts_S2048x8x512_S2048x4096) (ix2 t e)
      = ∑ l : Fin 2048, u (ix2 t l) * w (ix3 (grp e) l (lane e)) := by
  pointwise

end Cert.KvRefIdeal.Val

namespace Cert.KvIdeal.Val

open Cert.KvIdeal Cert.KvIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x512 .f32) (x : FVec Ideal S1024x2048 .bf16) (y : FVec Ideal S1x2048x512 .bf16) (j) :
    k0_pay2 acc x y j = acc j + ∑ k : Fin 2048, x (ix2 (j 0) k) * y (ix3 0 k (j 1)) := by
  pointwise [k0_pay2]

/-- The blocks that a grid point works on. -/
theorem idx : ∀ t : Fin cfg0.N, win0_0.index t = ![t.val / 8, 0]
    ∧ win0_1.index t = ![t.val % 8, 0, 0]
    ∧ win0_2.index t = ![t.val / 8, t.val % 8] := (by decide +kernel : ∀ t : Fin grid0.N, _)

/-- What a point leaves in the result's buffer. -/
theorem out_eq (t : Fin cfg0.N) : outsAt0 m c t = k0_pay2 k0_pay1 (iblk m c 0 t) (iblk m c 1 t) := by
  unfold outsAt0
  frame_out

/-- The arrays as the call finds them. -/
abbrev X : FVec Ideal S4096x2048 .bf16 := V m c main_v0
abbrev Y : FVec Ideal S8x2048x512 .bf16 := V m c main_v1

/-- The result is the product over the whole contraction at once. -/
theorem final : (dats m 0 c).arrAt 2 (cfgs 0).N
    = fun i : S4096x4096.Idx => ∑ l : Fin 2048, X m c (ix2 (i 0) l) * Y m c (ix3 (grp (i 1)) l (lane (i 1))) := by
  refine (dats m 0 c).arrAt_eq_of_covers 2 _ (by decide +kernel) fun t hf y => ?_
  blk_simp
  rw [after0_2, out_eq m c t, hpay, hzero, zero_add]
  blk_point [iblk, idx t, grp, lane]

variable (V0 : Valuation τ sig (Elt Ideal))

/-- The arguments as arrays of the ideal numbers, -/
abbrev A0 : FVec Ideal S4096x2048 .f32 := V0 (Proc.devRef .tc main_arg0)
abbrev A1 : FVec Ideal S8x2048x512 .f32 := V0 (Proc.devRef .tc main_arg1)

/-- the host's operations before the call, -/
abbrev ops : List (HloOp τ sig (Elt Ideal)) := List.flatten [hostOps0]

/-- and the call's inputs after them. -/
theorem host_x : (after ops V0 (Proc.devRef .tc main_v0) : FVec Ideal S4096x2048 .bf16) = truncf .bf16 (A0 V0) bitsLt_bf16_f32 := by
  unfold_abbrev_sides
  after_reads_simp
theorem host_y : (after ops V0 (Proc.devRef .tc main_v1) : FVec Ideal S8x2048x512 .bf16) = truncf .bf16 (A1 V0) bitsLt_bf16_f32 := by
  unfold_abbrev_sides
  after_reads_simp

theorem algebraic : Cert.algebraic_KvIdeal_KvRefIdeal (hKvIdeal := Cert.KvIdeal.Gen.facts)
    (hKvRefIdeal := Cert.KvRefIdeal.Gen.facts) := by
  pair_intro
  · run_from Cert.KvIdeal.Value.run_blocks m g
  · run_from Cert.KvRefIdeal.Value.run m' g'
    refine Eq.trans ?_ (final m c).symm
    have hx : X m c = truncf .bf16 (A0 (fun b => m (c, b))) bitsLt_bf16_f32 := host_x _
    have hy : Y m c = truncf .bf16 (A1 (fun b => m (c, b))) bitsLt_bf16_f32 := host_y _
    rw [hx, hy]
    funext i
    rw [eq_ix2 i]
    exact Cert.KvRefIdeal.Val.res_at _ _ _ _

end Cert.KvIdeal.Val

end
-- ==== Proof.Proj.Query.lean ====
/- The queries' projection. The call's result as one product, and the two programs' equal results. -/
module

public import proofs.«01_k».proof.Proof.Gen.QueryIdeal.Value
public import proofs.«01_k».proof.Proof.Gen.QueryRefIdeal.Run
public import proofs.«01_k».proof.Proof.Gen.QueryRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.QueryRefIdeal.Val

open Cert.QueryRefIdeal Cert.QueryRefIdeal.Gen Cert.Proj
open Idealize.ShloMosaic

/-- The reference's result, entry by entry. -/
theorem res_at (u : FVec Ideal S4096x2048 .f32) (w : FVec Ideal S2048x2048 .f32) (t : Fin 4096) (e : Fin 2048) :
    Host.dotGeneral dot_S4096x2048_S2048x2048_S4096x2048_1_0_0_1_n_n none u w (ix2 t e)
      = ∑ l : Fin 2048, u (ix2 t l) * w (ix2 l e) := by
  pointwise

end Cert.QueryRefIdeal.Val

namespace Cert.QueryIdeal.Val

open Cert.QueryIdeal Cert.QueryIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x2048 .bf16) (y : FVec Ideal S2048x1024 .bf16) (j) :
    k0_pay2 acc x y j = acc j + ∑ k : Fin 2048, x (ix2 (j 0) k) * y (ix2 k (j 1)) := by
  pointwise [k0_pay2]

/-- The blocks that a grid point works on. -/
theorem idx : ∀ t : Fin cfg0.N, win0_0.index t = ![t.val / 2, 0]
    ∧ win0_1.index t = ![0, t.val % 2]
    ∧ win0_2.index t = ![t.val / 2, t.val % 2] := (by decide +kernel : ∀ t : Fin grid0.N, _)

/-- What a point leaves in the result's buffer. -/
theorem out_eq (t : Fin cfg0.N) : outsAt0 m c t = k0_pay2 k0_pay1 (iblk m c 0 t) (iblk m c 1 t) := by
  unfold outsAt0
  frame_out

/-- The arrays as the call finds them. -/
abbrev X : FVec Ideal S4096x2048 .bf16 := V m c main_v0
abbrev Y : FVec Ideal S2048x2048 .bf16 := V m c main_v1

/-- The result is the product over the whole contraction at once. -/
theorem final : (dats m 0 c).arrAt 2 (cfgs 0).N
    = fun i : S4096x2048.Idx => ∑ l : Fin 2048, X m c (ix2 (i 0) l) * Y m c (ix2 l (i 1)) := by
  refine (dats m 0 c).arrAt_eq_of_covers 2 _ (by decide +kernel) fun t hf y => ?_
  blk_simp
  rw [after0_2, out_eq m c t, hpay, hzero, zero_add]
  blk_point [iblk, idx t]

variable (V0 : Valuation τ sig (Elt Ideal))

/-- The arguments as arrays of the ideal numbers, -/
abbrev A0 : FVec Ideal S4096x2048 .f32 := V0 (Proc.devRef .tc main_arg0)
abbrev A1 : FVec Ideal S2048x2048 .f32 := V0 (Proc.devRef .tc main_arg1)

/-- the host's operations before the call, -/
abbrev ops : List (HloOp τ sig (Elt Ideal)) := List.flatten [hostOps0]

/-- and the call's inputs after them. -/
theorem host_x : (after ops V0 (Proc.devRef .tc main_v0) : FVec Ideal S4096x2048 .bf16) = truncf .bf16 (A0 V0) bitsLt_bf16_f32 := by
  unfold_abbrev_sides
  after_reads_simp
theorem host_y : (after ops V0 (Proc.devRef .tc main_v1) : FVec Ideal S2048x2048 .bf16) = truncf .bf16 (A1 V0) bitsLt_bf16_f32 := by
  unfold_abbrev_sides
  after_reads_simp

theorem algebraic : Cert.algebraic_QueryIdeal_QueryRefIdeal (hQueryIdeal := Cert.QueryIdeal.Gen.facts)
    (hQueryRefIdeal := Cert.QueryRefIdeal.Gen.facts) := by
  pair_intro
  · run_from Cert.QueryIdeal.Value.run_blocks m g
  · run_from Cert.QueryRefIdeal.Value.run m' g'
    refine Eq.trans ?_ (final m c).symm
    have hx : X m c = truncf .bf16 (A0 (fun b => m (c, b))) bitsLt_bf16_f32 := host_x _
    have hy : Y m c = truncf .bf16 (A1 (fun b => m (c, b))) bitsLt_bf16_f32 := host_y _
    rw [hx, hy]
    funext i
    rw [eq_ix2 i]
    exact Cert.QueryRefIdeal.Val.res_at _ _ _ _

end Cert.QueryIdeal.Val

end
-- ==== Proof.Proj.OutDx.lean ====
/- The gradient of an attention's output projection in its input. The call's result as one product, and the two programs' equal results. -/
module

public import proofs.«01_k».proof.Proof.Gen.OutDxIdeal.Value
public import proofs.«01_k».proof.Proof.Gen.OutDxRefIdeal.Run
public import proofs.«01_k».proof.Proof.Gen.OutDxRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.OutDxRefIdeal.Val

open Cert.OutDxRefIdeal Cert.OutDxRefIdeal.Gen Cert.Proj
open Idealize.ShloMosaic

/-- The reference's result, entry by entry. -/
theorem res_at (w : FVec Ideal S2048x2048 .f32) (dy : FVec Ideal S4096x2048 .f32) (t : Fin 4096) (e : Fin 2048) :
    Host.dotGeneral dot_S4096x2048_S2048x2048_S4096x2048_1_1_0_0_n_n none dy w (ix2 t e)
      = ∑ l : Fin 2048, dy (ix2 t l) * w (ix2 e l) := by
  pointwise

end Cert.OutDxRefIdeal.Val

namespace Cert.OutDxIdeal.Val

open Cert.OutDxIdeal Cert.OutDxIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x2048 .bf16) (y : FVec Ideal S1024x2048 .bf16) (j) :
    k0_pay2 acc x y j = acc j + ∑ k : Fin 2048, x (ix2 (j 0) k) * y (ix2 (j 1) k) := by
  pointwise [k0_pay2]

/-- The blocks that a grid point works on. -/
theorem idx : ∀ t : Fin cfg0.N, win0_0.index t = ![t.val / 2, 0]
    ∧ win0_1.index t = ![t.val % 2, 0]
    ∧ win0_2.index t = ![t.val / 2, t.val % 2] := (by decide +kernel : ∀ t : Fin grid0.N, _)

/-- The result is rounded. -/
theorem hend (x : FVec Ideal S1024x1024 .f32) (j) : (k0_pay3 (F := Ideal) x j : EReal) = (x j : EReal) := by pointwise [k0_pay3]

/-- What a point leaves in the result's buffer. -/
theorem out_eq (t : Fin cfg0.N) : outsAt0 m c t = k0_pay3 (k0_pay2 k0_pay1 (iblk m c 0 t) (iblk m c 1 t)) := by
  unfold outsAt0
  frame_out

/-- The arrays as the call finds them. -/
abbrev X : FVec Ideal S4096x2048 .bf16 := V m c main_v0
abbrev Y : FVec Ideal S2048x2048 .bf16 := V m c main_v1

/-- The result is the product over the whole contraction at once. -/
theorem final : (dats m 0 c).arrAt 2 (cfgs 0).N
    = fun i : S4096x2048.Idx => ∑ l : Fin 2048, X m c (ix2 (i 0) l) * Y m c (ix2 (i 1) l) := by
  refine (dats m 0 c).arrAt_eq_of_covers 2 _ (by decide +kernel) fun t hf y => ?_
  blk_simp
  rw [after0_2, out_eq m c t, hend, hpay, hzero, zero_add]
  blk_point [iblk, idx t]

variable (V0 : Valuation τ sig (Elt Ideal))

/-- The arguments as arrays of the ideal numbers, -/
abbrev A0 : FVec Ideal S2048x2048 .f32 := V0 (Proc.devRef .tc main_arg0)
abbrev A1 : FVec Ideal S4096x2048 .f32 := V0 (Proc.devRef .tc main_arg1)

/-- the host's operations before the call, -/
abbrev ops : List (HloOp τ sig (Elt Ideal)) := List.flatten [hostOps0]

/-- and the call's inputs after them. -/
theorem host_x : (after ops V0 (Proc.devRef .tc main_v0) : FVec Ideal S4096x2048 .bf16) = truncf .bf16 (A1 V0) bitsLt_bf16_f32 := by
  unfold_abbrev_sides
  after_reads_simp
theorem host_y : (after ops V0 (Proc.devRef .tc main_v1) : FVec Ideal S2048x2048 .bf16) = truncf .bf16 (A0 V0) bitsLt_bf16_f32 := by
  unfold_abbrev_sides
  after_reads_simp

theorem algebraic : Cert.algebraic_OutDxIdeal_OutDxRefIdeal (hOutDxIdeal := Cert.OutDxIdeal.Gen.facts)
    (hOutDxRefIdeal := Cert.OutDxRefIdeal.Gen.facts) := by
  pair_intro
  · run_from Cert.OutDxIdeal.Value.run_blocks m g
  · run_from Cert.OutDxRefIdeal.Value.run m' g'
    refine Eq.trans ?_ (final m c).symm
    have hx : X m c = truncf .bf16 (A1 (fun b => m (c, b))) bitsLt_bf16_f32 := host_x _
    have hy : Y m c = truncf .bf16 (A0 (fun b => m (c, b))) bitsLt_bf16_f32 := host_y _
    rw [hx, hy]
    funext i
    rw [eq_ix2 i]
    exact Cert.OutDxRefIdeal.Val.res_at _ _ _ _

end Cert.OutDxIdeal.Val

end
-- ==== Proof.Proj.OutDw.lean ====
/- The gradient of a square projection's weight. The call's result as one product, and the two programs' equal results. -/
module

public import proofs.«01_k».proof.Proof.Gen.OutDwIdeal.Value
public import proofs.«01_k».proof.Proof.Gen.OutDwRefIdeal.Run
public import proofs.«01_k».proof.Proof.Gen.OutDwRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.OutDwRefIdeal.Val

open Cert.OutDwRefIdeal Cert.OutDwRefIdeal.Gen Cert.Proj
open Idealize.ShloMosaic

/-- The reference's result, entry by entry. -/
theorem res_at (o dy : FVec Ideal S4096x2048 .f32) (d e : Fin 2048) :
    transpose S2048x2048 [1, 0] (Host.dotGeneral dot_S4096x2048_S4096x2048_S2048x2048_0_0_1_1_n_n none dy o) transposes_S2048x2048_S2048x2048_1_0 (ix2 d e)
      = ∑ t : Fin 4096, dy (ix2 t e) * o (ix2 t d) := by
  pointwise

end Cert.OutDwRefIdeal.Val

namespace Cert.OutDwIdeal.Val

open Cert.OutDwIdeal Cert.OutDwIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S2048x1024 .bf16) (y : FVec Ideal S2048x1024 .bf16) (j) :
    k0_pay2 acc x y j = acc j + ∑ k : Fin 2048, x (ix2 k (j 0)) * y (ix2 k (j 1)) := by
  pointwise [k0_pay2]

/-- The blocks that a grid point works on. -/
theorem idx : ∀ t : Fin cfg0.N, win0_0.index t = ![t.val % 2, t.val / 4]
    ∧ win0_1.index t = ![t.val % 2, t.val / 2 % 2]
    ∧ win0_2.index t = ![t.val / 4, t.val / 2 % 2] := (by decide +kernel : ∀ t : Fin grid0.N, _)

/-- At a run's end the staging buffer holds what the accumulator holds. -/
theorem out_eq (t : Fin cfg0.N) (h : t.val % 2 = 1) : (outsAt0 m c t.val t.isLt).1 = (outsAt0 m c t.val t.isLt).2 := by
  rw [outsAt0_B m c t (by omega) (by omega)]
  frame_out

/-- The arrays as the call finds them. -/
abbrev X : FVec Ideal S4096x2048 .bf16 := V m c main_v0
abbrev Y : FVec Ideal S4096x2048 .bf16 := V m c main_v1

/-- The result is the product over the whole contraction at once. -/
theorem final : (dats m 0 c).arrAt 2 (cfgs 0).N
    = fun i : S2048x2048.Idx => ∑ l : Fin 4096, X m c (ix2 l (i 0)) * Y m c (ix2 l (i 1)) := by
  refine (dats m 0 c).arrAt_eq_of_covers 2 _ (by decide +kernel) fun t hf y => ?_
  blk_simp
  have ht := (flush0_2 t).mp hf
  rw [after0_2, out_eq m c t ht, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole _).read_unread])
    t ht _, zero_add]
  refine Fin.sum_mul_add_congr fun s k hl => ?_
  blk_point [iblk, idx t, idx ⟨_, Pipeline.run_point_lt_of_flush t ht s⟩]

variable (V0 : Valuation τ sig (Elt Ideal))

/-- The arguments as arrays of the ideal numbers, -/
abbrev A0 : FVec Ideal S4096x2048 .f32 := V0 (Proc.devRef .tc main_arg0)
abbrev A1 : FVec Ideal S4096x2048 .f32 := V0 (Proc.devRef .tc main_arg1)

/-- the host's operations before the call, -/
abbrev ops : List (HloOp τ sig (Elt Ideal)) := List.flatten [hostOps0]

/-- and the call's inputs after them. -/
theorem host_x : (after ops V0 (Proc.devRef .tc main_v0) : FVec Ideal S4096x2048 .bf16) = truncf .bf16 (A0 V0) bitsLt_bf16_f32 := by
  unfold_abbrev_sides
  after_reads_simp
theorem host_y : (after ops V0 (Proc.devRef .tc main_v1) : FVec Ideal S4096x2048 .bf16) = truncf .bf16 (A1 V0) bitsLt_bf16_f32 := by
  unfold_abbrev_sides
  after_reads_simp

theorem algebraic : Cert.algebraic_OutDwIdeal_OutDwRefIdeal (hOutDwIdeal := Cert.OutDwIdeal.Gen.facts)
    (hOutDwRefIdeal := Cert.OutDwRefIdeal.Gen.facts) := by
  pair_intro
  · run_from Cert.OutDwIdeal.Value.run_blocks m g
  · run_from Cert.OutDwRefIdeal.Value.run m' g'
    refine Eq.trans ?_ (final m c).symm
    have hx : X m c = truncf .bf16 (A0 (fun b => m (c, b))) bitsLt_bf16_f32 := host_x _
    have hy : Y m c = truncf .bf16 (A1 (fun b => m (c, b))) bitsLt_bf16_f32 := host_y _
    rw [hx, hy]
    funext i
    rw [eq_ix2 i]
    exact (Cert.OutDwRefIdeal.Val.res_at _ _ _ _).trans (Finset.sum_congr rfl fun t _ => mul_comm _ _)

end Cert.OutDwIdeal.Val

end
-- ==== Proof.Proj.QueryDx.lean ====
/- The gradient of the queries' projection in its input. The call's result as one product, and the two programs' equal results. -/
module

public import proofs.«01_k».proof.Proof.Gen.QueryDxIdeal.Value
public import proofs.«01_k».proof.Proof.Gen.QueryDxRefIdeal.Run
public import proofs.«01_k».proof.Proof.Gen.QueryDxRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.QueryDxRefIdeal.Val

open Cert.QueryDxRefIdeal Cert.QueryDxRefIdeal.Gen Cert.Proj
open Idealize.ShloMosaic

/-- The reference's result, entry by entry. -/
theorem res_at (w : FVec Ideal S2048x2048 .f32) (dy : FVec Ideal S4096x2048 .f32) (t : Fin 4096) (e : Fin 2048) :
    Host.dotGeneral dot_S4096x2048_S2048x2048_S4096x2048_1_1_0_0_n_n none dy w (ix2 t e)
      = ∑ l : Fin 2048, dy (ix2 t l) * w (ix2 e l) := by
  pointwise

end Cert.QueryDxRefIdeal.Val

namespace Cert.QueryDxIdeal.Val

open Cert.QueryDxIdeal Cert.QueryDxIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x2048 .bf16) (y : FVec Ideal S1024x2048 .bf16) (j) :
    k0_pay2 acc x y j = acc j + ∑ k : Fin 2048, x (ix2 (j 0) k) * y (ix2 (j 1) k) := by
  pointwise [k0_pay2]

/-- The blocks that a grid point works on. -/
theorem idx : ∀ t : Fin cfg0.N, win0_0.index t = ![t.val / 2, 0]
    ∧ win0_1.index t = ![t.val % 2, 0]
    ∧ win0_2.index t = ![t.val / 2, t.val % 2] := (by decide +kernel : ∀ t : Fin grid0.N, _)

/-- What a point leaves in the result's buffer. -/
theorem out_eq (t : Fin cfg0.N) : outsAt0 m c t = k0_pay2 k0_pay1 (iblk m c 0 t) (iblk m c 1 t) := by
  unfold outsAt0
  frame_out

/-- The arrays as the call finds them. -/
abbrev X : FVec Ideal S4096x2048 .bf16 := V m c main_v0
abbrev Y : FVec Ideal S2048x2048 .bf16 := V m c main_v1

/-- The result is the product over the whole contraction at once. -/
theorem final : (dats m 0 c).arrAt 2 (cfgs 0).N
    = fun i : S4096x2048.Idx => ∑ l : Fin 2048, X m c (ix2 (i 0) l) * Y m c (ix2 (i 1) l) := by
  refine (dats m 0 c).arrAt_eq_of_covers 2 _ (by decide +kernel) fun t hf y => ?_
  blk_simp
  rw [after0_2, out_eq m c t, hpay, hzero, zero_add]
  blk_point [iblk, idx t]

variable (V0 : Valuation τ sig (Elt Ideal))

/-- The arguments as arrays of the ideal numbers, -/
abbrev A0 : FVec Ideal S2048x2048 .f32 := V0 (Proc.devRef .tc main_arg0)
abbrev A1 : FVec Ideal S4096x2048 .f32 := V0 (Proc.devRef .tc main_arg1)

/-- the host's operations before the call, -/
abbrev ops : List (HloOp τ sig (Elt Ideal)) := List.flatten [hostOps0]

/-- and the call's inputs after them. -/
theorem host_x : (after ops V0 (Proc.devRef .tc main_v0) : FVec Ideal S4096x2048 .bf16) = truncf .bf16 (A1 V0) bitsLt_bf16_f32 := by
  unfold_abbrev_sides
  after_reads_simp
theorem host_y : (after ops V0 (Proc.devRef .tc main_v1) : FVec Ideal S2048x2048 .bf16) = truncf .bf16 (A0 V0) bitsLt_bf16_f32 := by
  unfold_abbrev_sides
  after_reads_simp

theorem algebraic : Cert.algebraic_QueryDxIdeal_QueryDxRefIdeal (hQueryDxIdeal := Cert.QueryDxIdeal.Gen.facts)
    (hQueryDxRefIdeal := Cert.QueryDxRefIdeal.Gen.facts) := by
  pair_intro
  · run_from Cert.QueryDxIdeal.Value.run_blocks m g
  · run_from Cert.QueryDxRefIdeal.Value.run m' g'
    refine Eq.trans ?_ (final m c).symm
    have hx : X m c = truncf .bf16 (A1 (fun b => m (c, b))) bitsLt_bf16_f32 := host_x _
    have hy : Y m c = truncf .bf16 (A0 (fun b => m (c, b))) bitsLt_bf16_f32 := host_y _
    rw [hx, hy]
    funext i
    rw [eq_ix2 i]
    exact Cert.QueryDxRefIdeal.Val.res_at _ _ _ _

end Cert.QueryDxIdeal.Val

end
-- ==== Proof.Proj.KvDw.lean ====
/- The gradient of the shared projection's weight. The call's result as one product, and the two programs' equal results. -/
module

public import proofs.«01_k».proof.Proof.Gen.KvDwIdeal.Value
public import proofs.«01_k».proof.Proof.Gen.KvDwRefIdeal.Run
public import proofs.«01_k».proof.Proof.Gen.KvDwRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.KvDwRefIdeal.Val

open Cert.KvDwRefIdeal Cert.KvDwRefIdeal.Gen Cert.Proj
open Idealize.ShloMosaic

/-- The reference's result, entry by entry. -/
theorem res_at (n : FVec Ideal S4096x2048 .f32) (dy : FVec Ideal S4096x4096 .f32) (g : Fin 8) (d : Fin 2048) (q : Fin 512) :
    transpose S8x2048x512 [1, 0, 2] (shapeCast _ (transpose S2048x4096 [1, 0] (Host.dotGeneral dot_S4096x4096_S4096x2048_S4096x2048_0_0_1_1_n_n none dy n) transposes_S4096x2048_S2048x4096_1_0) shapeCasts_S2048x4096_S2048x8x512) transposes_S2048x8x512_S8x2048x512_1_0_2 (ix3 g d q)
      = ∑ t : Fin 4096, dy (ix2 t (col g q)) * n (ix2 t d) := by
  pointwise

end Cert.KvDwRefIdeal.Val

namespace Cert.KvDwIdeal.Val

open Cert.KvDwIdeal Cert.KvDwIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x512 .f32) (x : FVec Ideal S2048x1024 .bf16) (y : FVec Ideal S2048x512 .bf16) (j) :
    k0_pay2 acc x y j = acc j + ∑ k : Fin 2048, x (ix2 k (j 0)) * y (ix2 k (j 1)) := by
  pointwise [k0_pay2]

/-- The blocks that a grid point works on. -/
theorem idx : ∀ t : Fin cfg0.N, win0_0.index t = ![t.val % 2, t.val / 16]
    ∧ win0_1.index t = ![t.val % 2, t.val / 2 % 8]
    ∧ win0_2.index t = ![t.val / 2 % 8, t.val / 16, 0] := (by decide +kernel : ∀ t : Fin grid0.N, _)

/-- The result's block has the group's axis in front. -/
theorem hend (x : FVec Ideal S1024x512 .f32) (j) : k0_pay3 x j = x (ix2 (j 1) (j 2)) := by pointwise [k0_pay3]

/-- At a run's end the staging buffer holds what the accumulator holds. -/
theorem out_eq (t : Fin cfg0.N) (h : t.val % 2 = 1) : (outsAt0 m c t.val t.isLt).1 = k0_pay3 (outsAt0 m c t.val t.isLt).2 := by
  rw [outsAt0_B m c t (by omega) (by omega)]
  frame_out

/-- The arrays as the call finds them. -/
abbrev X : FVec Ideal S4096x2048 .bf16 := V m c main_v0
abbrev Y : FVec Ideal S4096x4096 .bf16 := V m c main_v1

/-- The result is the product over the whole contraction at once. -/
theorem final : (dats m 0 c).arrAt 2 (cfgs 0).N
    = fun i : S8x2048x512.Idx => ∑ l : Fin 4096, X m c (ix2 l (i 1)) * Y m c (ix2 l (col (i 0) (i 2))) := by
  refine (dats m 0 c).arrAt_eq_of_covers 2 _ (by decide +kernel) fun t hf y => ?_
  blk_simp
  have ht := (flush0_2 t).mp hf
  rw [after0_2, out_eq m c t ht, hend, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole _).read_unread])
    t ht _, zero_add]
  refine Fin.sum_mul_add_congr fun s k hl => ?_
  blk_point [iblk, idx t, col, idx ⟨_, Pipeline.run_point_lt_of_flush t ht s⟩]

variable (V0 : Valuation τ sig (Elt Ideal))

/-- The arguments as arrays of the ideal numbers, -/
abbrev A0 : FVec Ideal S4096x2048 .f32 := V0 (Proc.devRef .tc main_arg0)
abbrev A1 : FVec Ideal S4096x4096 .f32 := V0 (Proc.devRef .tc main_arg1)

/-- the host's operations before the call, -/
abbrev ops : List (HloOp τ sig (Elt Ideal)) := List.flatten [hostOps0]

/-- and the call's inputs after them. -/
theorem host_x : (after ops V0 (Proc.devRef .tc main_v0) : FVec Ideal S4096x2048 .bf16) = truncf .bf16 (A0 V0) bitsLt_bf16_f32 := by
  unfold_abbrev_sides
  after_reads_simp
theorem host_y : (after ops V0 (Proc.devRef .tc main_v1) : FVec Ideal S4096x4096 .bf16) = truncf .bf16 (A1 V0) bitsLt_bf16_f32 := by
  unfold_abbrev_sides
  after_reads_simp

theorem algebraic : Cert.algebraic_KvDwIdeal_KvDwRefIdeal (hKvDwIdeal := Cert.KvDwIdeal.Gen.facts)
    (hKvDwRefIdeal := Cert.KvDwRefIdeal.Gen.facts) := by
  pair_intro
  · run_from Cert.KvDwIdeal.Value.run_blocks m g
  · run_from Cert.KvDwRefIdeal.Value.run m' g'
    refine Eq.trans ?_ (final m c).symm
    have hx : X m c = truncf .bf16 (A0 (fun b => m (c, b))) bitsLt_bf16_f32 := host_x _
    have hy : Y m c = truncf .bf16 (A1 (fun b => m (c, b))) bitsLt_bf16_f32 := host_y _
    rw [hx, hy]
    funext i
    rw [eq_ix3 i]
    exact (Cert.KvDwRefIdeal.Val.res_at _ _ _ _ _).trans (Finset.sum_congr rfl fun t _ => mul_comm _ _)

end Cert.KvDwIdeal.Val

end
-- ==== Proof.Proj.KvDx.lean ====
/- The gradient of the shared projection in its input. The call's result as one product, and the two programs' equal results. -/
module

public import proofs.«01_k».proof.Proof.Gen.KvDxIdeal.Value
public import proofs.«01_k».proof.Proof.Gen.KvDxRefIdeal.Run
public import proofs.«01_k».proof.Proof.Gen.KvDxRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.KvDxRefIdeal.Val

open Cert.KvDxRefIdeal Cert.KvDxRefIdeal.Gen Cert.Proj
open Idealize.ShloMosaic

/-- The reference's result, entry by entry. -/
theorem res_at (w : FVec Ideal S8x2048x512 .f32) (dy : FVec Ideal S4096x4096 .f32) (t : Fin 4096) (e : Fin 2048) :
    Host.dotGeneral dot_S4096x4096_S2048x4096_S4096x2048_1_1_0_0_n_n none dy (shapeCast _ (transpose S2048x8x512 [1, 0, 2] w transposes_S8x2048x512_S2048x8x512_1_0_2) shapeCasts_S2048x8x512_S2048x4096) (ix2 t e)
      = ∑ l : Fin 4096, dy (ix2 t l) * w (ix3 (grp l) e (lane l)) := by
  pointwise

end Cert.KvDxRefIdeal.Val

namespace Cert.KvDxIdeal.Val

open Cert.KvDxIdeal Cert.KvDxIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x512 .bf16) (y : FVec Ideal S1x1024x512 .bf16) (j) :
    k0_pay2 acc x y j = acc j + ∑ k : Fin 512, x (ix2 (j 0) k) * y (ix3 0 (j 1) k) := by
  pointwise [k0_pay2]

/-- The blocks that a grid point works on. -/
theorem idx : ∀ t : Fin cfg0.N, win0_0.index t = ![t.val / 16, t.val % 8]
    ∧ win0_1.index t = ![t.val % 8, t.val / 8 % 2, 0]
    ∧ win0_2.index t = ![t.val / 16, t.val / 8 % 2] := (by decide +kernel : ∀ t : Fin grid0.N, _)

/-- At a run's end the staging buffer holds what the accumulator holds. -/
theorem out_eq (t : Fin cfg0.N) (h : t.val % 8 = 7) : (outsAt0 m c t.val t.isLt).1 = (outsAt0 m c t.val t.isLt).2 := by
  rw [outsAt0_C m c t (by omega) (by omega)]
  frame_out

/-- The arrays as the call finds them. -/
abbrev X : FVec Ideal S4096x4096 .bf16 := V m c main_v0
abbrev Y : FVec Ideal S8x2048x512 .bf16 := V m c main_v1

/-- The result is the product over the whole contraction at once. -/
theorem final : (dats m 0 c).arrAt 2 (cfgs 0).N
    = fun i : S4096x2048.Idx => ∑ l : Fin 4096, X m c (ix2 (i 0) l) * Y m c (ix3 (grp l) (i 1) (lane l)) := by
  refine (dats m 0 c).arrAt_eq_of_covers 2 _ (by decide +kernel) fun t hf y => ?_
  blk_simp
  have ht := (flush0_2 t).mp hf
  rw [after0_2, out_eq m c t ht, Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, (Memref.isWhole_whole _).read_unread]
      · rw [outsAt0_B m c t h h1]; frame_out; rw [hpay, (Memref.isWhole_whole _).read_unread])
    t ht _, zero_add]
  refine Fin.sum_mul_add_congr fun s k hl => ?_
  blk_point [iblk, idx t, grp, lane, idx ⟨_, Pipeline.run_point_lt_of_flush t ht s⟩]

variable (V0 : Valuation τ sig (Elt Ideal))

/-- The arguments as arrays of the ideal numbers, -/
abbrev A0 : FVec Ideal S8x2048x512 .f32 := V0 (Proc.devRef .tc main_arg0)
abbrev A1 : FVec Ideal S4096x4096 .f32 := V0 (Proc.devRef .tc main_arg1)

/-- the host's operations before the call, -/
abbrev ops : List (HloOp τ sig (Elt Ideal)) := List.flatten [hostOps0]

/-- and the call's inputs after them. -/
theorem host_x : (after ops V0 (Proc.devRef .tc main_v0) : FVec Ideal S4096x4096 .bf16) = truncf .bf16 (A1 V0) bitsLt_bf16_f32 := by
  unfold_abbrev_sides
  after_reads_simp
theorem host_y : (after ops V0 (Proc.devRef .tc main_v1) : FVec Ideal S8x2048x512 .bf16) = truncf .bf16 (A0 V0) bitsLt_bf16_f32 := by
  unfold_abbrev_sides
  after_reads_simp

theorem algebraic : Cert.algebraic_KvDxIdeal_KvDxRefIdeal (hKvDxIdeal := Cert.KvDxIdeal.Gen.facts)
    (hKvDxRefIdeal := Cert.KvDxRefIdeal.Gen.facts) := by
  pair_intro
  · run_from Cert.KvDxIdeal.Value.run_blocks m g
  · run_from Cert.KvDxRefIdeal.Value.run m' g'
    refine Eq.trans ?_ (final m c).symm
    have hx : X m c = truncf .bf16 (A1 (fun b => m (c, b))) bitsLt_bf16_f32 := host_x _
    have hy : Y m c = truncf .bf16 (A0 (fun b => m (c, b))) bitsLt_bf16_f32 := host_y _
    rw [hx, hy]
    funext i
    rw [eq_ix2 i]
    exact Cert.KvDxRefIdeal.Val.res_at _ _ _ _

end Cert.KvDxIdeal.Val

end
-- ==== Proof.Proj.QkvDw.lean ====
/- The gradient of the first layer's combined weight, its q, k and v columns. The call's result as one product, and the two programs' equal results. -/
module

public import proofs.«01_k».proof.Proof.Gen.QkvDwIdeal.Value
public import proofs.«01_k».proof.Proof.Gen.QkvDwRefIdeal.Run
public import proofs.«01_k».proof.Proof.Gen.QkvDwRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.QkvDwRefIdeal.Val

open Cert.QkvDwRefIdeal Cert.QkvDwRefIdeal.Gen Cert.Proj
open Idealize.ShloMosaic

/-- The reference's result, entry by entry. -/
theorem res_at (u : FVec Ideal S4096x2048 .f32) (dy : FVec Ideal S4096x6144 .f32) (d : Fin 6144) (e : Fin 2048) :
    transpose S6144x2048 [1, 0] (extractStridedSlice S2048x6144 ![0, 0] (transpose S2048x6160 [1, 0] (Host.dotGeneral dot_S4096x6160_S4096x2048_S6160x2048_0_0_1_1_n_n none (pad S4096x6160 ![0, 0] ![0, 16] ![0, 0] dy (constant S_ .f32 0x00000000#32) pads_S4096x6144_S4096x6160_000_0160 h_S_) u) transposes_S6160x2048_S2048x6160_1_0) slices_S2048x6160_S2048x6144_0_0) transposes_S2048x6144_S6144x2048_1_0 (ix2 d e)
      = ∑ t : Fin 4096, dy (ix2 t d) * u (ix2 t e) := by
  pointwise

end Cert.QkvDwRefIdeal.Val

namespace Cert.QkvDwIdeal.Val

open Cert.QkvDwIdeal Cert.QkvDwIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S768x1024 .f32) (x : FVec Ideal S2048x768 .bf16) (y : FVec Ideal S2048x1024 .bf16) (j) :
    k0_pay2 acc x y j = acc j + ∑ k : Fin 2048, x (ix2 k (j 0)) * y (ix2 k (j 1)) := by
  pointwise [k0_pay2]

/-- The blocks that a grid point works on. -/
theorem idx : ∀ t : Fin cfg0.N, win0_0.index t = ![t.val % 2, t.val / 4]
    ∧ win0_1.index t = ![t.val % 2, t.val / 2 % 2]
    ∧ win0_2.index t = ![t.val / 4, t.val / 2 % 2] := (by decide +kernel : ∀ t : Fin grid0.N, _)

/-- At a run's end the staging buffer holds what the accumulator holds. -/
theorem out_eq (t : Fin cfg0.N) (h : t.val % 2 = 1) : (outsAt0 m c t.val t.isLt).1 = (outsAt0 m c t.val t.isLt).2 := by
  rw [outsAt0_B m c t (by omega) (by omega)]
  frame_out

/-- The arrays as the call finds them. -/
abbrev X : FVec Ideal S4096x6144 .bf16 := V m c main_v0
abbrev Y : FVec Ideal S4096x2048 .bf16 := V m c main_v1

/-- The result is the product over the whole contraction at once. -/
theorem final : (dats m 0 c).arrAt 2 (cfgs 0).N
    = fun i : S6144x2048.Idx => ∑ l : Fin 4096, X m c (ix2 l (i 0)) * Y m c (ix2 l (i 1)) := by
  refine (dats m 0 c).arrAt_eq_of_covers 2 _ (by decide +kernel) fun t hf y => ?_
  blk_simp
  have ht := (flush0_2 t).mp hf
  rw [after0_2, out_eq m c t ht, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole _).read_unread])
    t ht _, zero_add]
  refine Fin.sum_mul_add_congr fun s k hl => ?_
  blk_point [iblk, idx t, idx ⟨_, Pipeline.run_point_lt_of_flush t ht s⟩]

variable (V0 : Valuation τ sig (Elt Ideal))

/-- The arguments as arrays of the ideal numbers, -/
abbrev A0 : FVec Ideal S4096x2048 .f32 := V0 (Proc.devRef .tc main_arg0)
abbrev A1 : FVec Ideal S4096x6144 .f32 := V0 (Proc.devRef .tc main_arg1)

/-- the host's operations before the call, -/
abbrev ops : List (HloOp τ sig (Elt Ideal)) := List.flatten [hostOps0]

/-- and the call's inputs after them. -/
theorem host_x : (after ops V0 (Proc.devRef .tc main_v0) : FVec Ideal S4096x6144 .bf16) = truncf .bf16 (A1 V0) bitsLt_bf16_f32 := by
  unfold_abbrev_sides
  after_reads_simp
theorem host_y : (after ops V0 (Proc.devRef .tc main_v1) : FVec Ideal S4096x2048 .bf16) = truncf .bf16 (A0 V0) bitsLt_bf16_f32 := by
  unfold_abbrev_sides
  after_reads_simp

theorem algebraic : Cert.algebraic_QkvDwIdeal_QkvDwRefIdeal (hQkvDwIdeal := Cert.QkvDwIdeal.Gen.facts)
    (hQkvDwRefIdeal := Cert.QkvDwRefIdeal.Gen.facts) := by
  pair_intro
  · run_from Cert.QkvDwIdeal.Value.run_blocks m g
  · run_from Cert.QkvDwRefIdeal.Value.run m' g'
    refine Eq.trans ?_ (final m c).symm
    have hx : X m c = truncf .bf16 (A1 (fun b => m (c, b))) bitsLt_bf16_f32 := host_x _
    have hy : Y m c = truncf .bf16 (A0 (fun b => m (c, b))) bitsLt_bf16_f32 := host_y _
    rw [hx, hy]
    funext i
    rw [eq_ix2 i]
    exact Cert.QkvDwRefIdeal.Val.res_at _ _ _ _

end Cert.QkvDwIdeal.Val

end
-- ==== Proof.Proj.QkvDx.lean ====
/- The gradient of the first layer's combined projection in its input. The call's result as one product, and the two programs' equal results. -/
module

public import proofs.«01_k».proof.Proof.Gen.QkvDxIdeal.Value
public import proofs.«01_k».proof.Proof.Gen.QkvDxRefIdeal.Run
public import proofs.«01_k».proof.Proof.Gen.QkvDxRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.QkvDxRefIdeal.Val

open Cert.QkvDxRefIdeal Cert.QkvDxRefIdeal.Gen Cert.Proj
open Idealize.ShloMosaic

/-- The reference's result, entry by entry. -/
theorem res_at (w : FVec Ideal S2048x6160 .f32) (dy : FVec Ideal S4096x6144 .f32) (t : Fin 4096) (e : Fin 2048) :
    Host.dotGeneral dot_S4096x6160_S2048x6160_S4096x2048_1_1_0_0_n_n none (pad S4096x6160 ![0, 0] ![0, 16] ![0, 0] dy (constant S_ .f32 0x00000000#32) pads_S4096x6144_S4096x6160_000_0160 h_S_) w (ix2 t e)
      = ∑ l : Fin 6144, dy (ix2 t l) * w (ix2 e ⟨l.val, by omega⟩) := by
  have e1 : Host.dotGeneral dot_S4096x6160_S2048x6160_S4096x2048_1_1_0_0_n_n none (pad S4096x6160 ![0, 0] ![0, 16] ![0, 0] dy (constant S_ .f32 0x00000000#32) pads_S4096x6144_S4096x6160_000_0160 h_S_) w (ix2 t e)
      = ∑ l : Fin (6144 + 16), (if h : l.val < 6144 then dy (ix2 t ⟨l.val, h⟩) else (0 : EReal)) * w (ix2 e l) := by
    pointwise
  rw [e1, Fin.sum_univ_add]
  refine (congrArg₂ (fun a b : EReal => a + b) (Finset.sum_congr rfl fun l _ => ?_) (Finset.sum_eq_zero fun l _ => ?_)).trans (add_zero _)
  · rw [dif_pos (show (Fin.castAdd 16 l).val < 6144 from l.isLt)]; rfl
  · rw [dif_neg (show ¬ (Fin.natAdd 6144 l).val < 6144 from by simp), zero_mul]

end Cert.QkvDxRefIdeal.Val

namespace Cert.QkvDxIdeal.Val

open Cert.QkvDxIdeal Cert.QkvDxIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x1536 .bf16) (y : FVec Ideal S1536x1024 .bf16) (j) :
    k0_pay2 acc x y j = acc j + ∑ k : Fin 1536, x (ix2 (j 0) k) * y (ix2 k (j 1)) := by
  pointwise [k0_pay2]

/-- The blocks that a grid point works on. -/
theorem idx : ∀ t : Fin cfg0.N, win0_0.index t = ![t.val / 8, t.val % 4]
    ∧ win0_1.index t = ![t.val % 4, t.val / 4 % 2]
    ∧ win0_2.index t = ![t.val / 8, t.val / 4 % 2] := (by decide +kernel : ∀ t : Fin grid0.N, _)

/-- At a run's end the staging buffer holds what the accumulator holds. -/
theorem out_eq (t : Fin cfg0.N) (h : t.val % 4 = 3) : (outsAt0 m c t.val t.isLt).1 = (outsAt0 m c t.val t.isLt).2 := by
  rw [outsAt0_C m c t (by omega) (by omega)]
  frame_out

/-- The arrays as the call finds them. -/
abbrev X : FVec Ideal S4096x6144 .bf16 := V m c main_v0
abbrev Y : FVec Ideal S6160x2048 .bf16 := V m c main_v2

/-- The weight's block lies inside the array, so that all of it is read. -/
theorem weight (t : Fin cfg0.N) (j : S1536x1024.Idx) (i : S6160x2048.Idx) (h0 : (i 0).val = t.val % 4 * 1536 + (j 0).val) (h1 : (i 1).val = t.val / 4 % 2 * 1024 + (j 1).val) :
    (X0_1 m c t : S1536x1024.Idx → EReal) j = Y m c i := by
  unfold X0_1 Pipeline.Window.fill
  rw [dif_pos (moved0_1 t j)]
  blk_point [iblk, idx t]

/-- The result is the product over the whole contraction at once. -/
theorem final : (dats m 0 c).arrAt 2 (cfgs 0).N
    = fun i : S4096x2048.Idx => ∑ l : Fin 6144, X m c (ix2 (i 0) l) * Y m c (ix2 ⟨l.val, by omega⟩ (i 1)) := by
  refine (dats m 0 c).arrAt_eq_of_covers 2 _ (by decide +kernel) fun t hf y => ?_
  blk_simp
  have ht := (flush0_2 t).mp hf
  rw [after0_2, out_eq m c t ht, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay, (Memref.isWhole_whole _).read_unread]
      · rw [outsAt0_B m c t h h1]; frame_out; rw [hpay, (Memref.isWhole_whole _).read_unread])
    t ht _, zero_add]
  refine Fin.sum_mul_add_congr fun s k hl => ?_
  refine congrArg₂ (fun a b : EReal => a * b) ?_ ?_
  · blk_point [iblk, idx t, idx ⟨_, Pipeline.run_point_lt_of_flush t ht s⟩]
  · refine weight m c _ _ _ ?_ ?_
    · show s.val * 1536 + k.val = (4 * (t.val / 4) + s.val) % 4 * 1536 + k.val
      have := s.isLt; omega
    · show win0_2.index t 1 * 1024 + 1 * (y 1).val = (4 * (t.val / 4) + s.val) / 4 % 2 * 1024 + (y 1).val
      rw [(idx t).2.2]; show t.val / 4 % 2 * 1024 + 1 * (y 1).val = _
      have := s.isLt; omega

variable (V0 : Valuation τ sig (Elt Ideal))

/-- The arguments as arrays of the ideal numbers, -/
abbrev A0 : FVec Ideal S2048x6160 .f32 := V0 (Proc.devRef .tc main_arg0)
abbrev A1 : FVec Ideal S4096x6144 .f32 := V0 (Proc.devRef .tc main_arg1)

/-- the host's operations before the call, -/
abbrev ops : List (HloOp τ sig (Elt Ideal)) := List.flatten [hostOps0]

/-- and the call's inputs after them. -/
theorem host_x : (after ops V0 (Proc.devRef .tc main_v0) : FVec Ideal S4096x6144 .bf16) = truncf .bf16 (A1 V0) bitsLt_bf16_f32 := by
  unfold_abbrev_sides
  after_reads_simp
theorem host_y : (after ops V0 (Proc.devRef .tc main_v2) : FVec Ideal S6160x2048 .bf16) = truncf .bf16 (transpose S6160x2048 [1, 0] (A0 V0) transposes_S2048x6160_S6160x2048_1_0) bitsLt_bf16_f32 := by
  unfold_abbrev_sides
  after_reads_simp

theorem algebraic : Cert.algebraic_QkvDxIdeal_QkvDxRefIdeal (hQkvDxIdeal := Cert.QkvDxIdeal.Gen.facts)
    (hQkvDxRefIdeal := Cert.QkvDxRefIdeal.Gen.facts) := by
  pair_intro
  · run_from Cert.QkvDxIdeal.Value.run_blocks m g
  · run_from Cert.QkvDxRefIdeal.Value.run m' g'
    refine Eq.trans ?_ (final m c).symm
    have hx : X m c = truncf .bf16 (A1 (fun b => m (c, b))) bitsLt_bf16_f32 := host_x _
    have hy : Y m c = truncf .bf16 (transpose S6160x2048 [1, 0] (A0 (fun b => m (c, b))) transposes_S2048x6160_S6160x2048_1_0) bitsLt_bf16_f32 := host_y _
    rw [hx, hy]
    funext i
    rw [eq_ix2 i]
    exact (Cert.QkvDxRefIdeal.Val.res_at _ _ _ _).trans (by pointwise)

end Cert.QkvDxIdeal.Val

end
-- ==== Proof.Proj.Fz.lean ====
/- The gates' projection. The call's result as one product, and the two programs' equal results. -/
module

public import proofs.«01_k».proof.Proof.Gen.FzIdeal.Value
public import proofs.«01_k».proof.Proof.Gen.FzRefIdeal.Run
public import proofs.«01_k».proof.Proof.Gen.FzRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.FzRefIdeal.Val

open Cert.FzRefIdeal Cert.FzRefIdeal.Gen Cert.Proj
open Idealize.ShloMosaic

/-- The reference's result, entry by entry. -/
theorem res_at (u : FVec Ideal S4096x2048 .f32) (w : FVec Ideal S2048x6160 .f32) (t : Fin 4096) (e : Fin 128) :
    pad S4096x128 ![0, 0] ![0, 112] ![0, 0] (extractStridedSlice S4096x16 ![0, 6144] (Host.dotGeneral dot_S4096x2048_S2048x6160_S4096x6160_1_0_0_1_n_n none u w) slices_S4096x6160_S4096x16_0_6144) (sitofp .f32 (constantI S_ 32 0#32)) pads_S4096x16_S4096x128_000_01120 h_S_ (ix2 t e)
      = if h : e.val < 16 then ∑ l : Fin 2048, u (ix2 t l) * w (ix2 l ⟨6144 + e.val, by omega⟩) else (0 : EReal) := by
  pointwise
  split_ifs with h
  · rfl
  · exact show (((0#32 : BitVec 32).toInt : ℝ) : EReal) = 0 by norm_num

end Cert.FzRefIdeal.Val

namespace Cert.FzIdeal.Val

open Cert.FzIdeal Cert.FzIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x128 .f32) (x : FVec Ideal S1024x2048 .bf16) (y : FVec Ideal S128x2048 .bf16) (j) :
    k0_pay2 acc x y j = acc j + ∑ k : Fin 2048, x (ix2 (j 0) k) * y (ix2 (j 1) k) := by
  pointwise [k0_pay2]

/-- The blocks that a grid point works on. -/
theorem idx : ∀ t : Fin cfg0.N, win0_0.index t = ![t.val, 0]
    ∧ win0_1.index t = ![0, 0]
    ∧ win0_2.index t = ![t.val, 0] := (by decide +kernel : ∀ t : Fin grid0.N, _)

/-- What a point leaves in the result's buffer. -/
theorem out_eq (t : Fin cfg0.N) : outsAt0 m c t = k0_pay2 k0_pay1 (iblk m c 0 t) (iblk m c 1 t) := by
  unfold outsAt0
  frame_out

/-- The arrays as the call finds them. -/
abbrev X : FVec Ideal S4096x2048 .bf16 := V m c main_v0
abbrev Y : FVec Ideal S128x2048 .bf16 := V m c main_v4

/-- The result is the product over the whole contraction at once. -/
theorem final : (dats m 0 c).arrAt 2 (cfgs 0).N
    = fun i : S4096x128.Idx => ∑ l : Fin 2048, X m c (ix2 (i 0) l) * Y m c (ix2 (i 1) l) := by
  refine (dats m 0 c).arrAt_eq_of_covers 2 _ (by decide +kernel) fun t hf y => ?_
  blk_simp
  rw [after0_2, out_eq m c t, hpay, hzero, zero_add]
  blk_point [iblk, idx t]

variable (V0 : Valuation τ sig (Elt Ideal))

/-- The arguments as arrays of the ideal numbers, -/
abbrev A0 : FVec Ideal S4096x2048 .f32 := V0 (Proc.devRef .tc main_arg0)
abbrev A1 : FVec Ideal S2048x6160 .f32 := V0 (Proc.devRef .tc main_arg1)

/-- the host's operations before the call, -/
abbrev ops : List (HloOp τ sig (Elt Ideal)) := List.flatten [hostOps0, hostOps0_1]

/-- and the call's inputs after them. -/
theorem host_x : (after ops V0 (Proc.devRef .tc main_v0) : FVec Ideal S4096x2048 .bf16) = truncf .bf16 (A0 V0) bitsLt_bf16_f32 := by
  unfold_abbrev_sides
  after_reads_simp
theorem host_y : (after ops V0 (Proc.devRef .tc main_v4) : FVec Ideal S128x2048 .bf16) = pad S128x2048 ![0, 0] ![112, 0] ![0, 0] (extractStridedSlice S16x2048 ![6144, 0] (truncf .bf16 (transpose S6160x2048 [1, 0] (A1 V0) transposes_S2048x6160_S6160x2048_1_0) bitsLt_bf16_f32) slices_S6160x2048_S16x2048_6144_0) (sitofp .bf16 (constantI S_ 32 0#32)) pads_S16x2048_S128x2048_01120_000 h_S_ := by
  unfold_abbrev_sides
  after_reads_simp
  rfl

/-- The gates' weight, one row per lane: zero past the sixteenth. -/
theorem weight_at (w : FVec Ideal S2048x6160 .f32) (l : Fin 128) (e : Fin 2048) :
    (pad S128x2048 ![0, 0] ![112, 0] ![0, 0] (extractStridedSlice S16x2048 ![6144, 0] (truncf .bf16 (transpose S6160x2048 [1, 0] w transposes_S2048x6160_S6160x2048_1_0) bitsLt_bf16_f32) slices_S6160x2048_S16x2048_6144_0) (sitofp .bf16 (constantI S_ 32 0#32)) pads_S16x2048_S128x2048_01120_000 h_S_ : FVec Ideal S128x2048 .bf16) (ix2 l e) = if h : l.val < 16 then w (ix2 e ⟨6144 + l.val, by omega⟩) else (0 : EReal) := by
  pointwise
  split_ifs with h
  · rfl
  · exact show (((0#32 : BitVec 32).toInt : ℝ) : EReal) = 0 by norm_num

theorem algebraic : Cert.algebraic_FzIdeal_FzRefIdeal (hFzIdeal := Cert.FzIdeal.Gen.facts)
    (hFzRefIdeal := Cert.FzRefIdeal.Gen.facts) := by
  pair_intro
  · run_from Cert.FzIdeal.Value.run_blocks m g
  · run_from Cert.FzRefIdeal.Value.run m' g'
    refine Eq.trans ?_ (final m c).symm
    have hx : X m c = truncf .bf16 (A0 (fun b => m (c, b))) bitsLt_bf16_f32 := host_x _
    have hy : Y m c = pad S128x2048 ![0, 0] ![112, 0] ![0, 0] (extractStridedSlice S16x2048 ![6144, 0] (truncf .bf16 (transpose S6160x2048 [1, 0] (A1 (fun b => m (c, b))) transposes_S2048x6160_S6160x2048_1_0) bitsLt_bf16_f32) slices_S6160x2048_S16x2048_6144_0) (sitofp .bf16 (constantI S_ 32 0#32)) pads_S16x2048_S128x2048_01120_000 h_S_ := host_y _
    rw [hx, hy]
    funext i
    rw [eq_ix2 i]
    exact (by
      refine (Cert.FzRefIdeal.Val.res_at _ _ _ _).trans ?_
      symm
      refine (Finset.sum_congr rfl fun l _ => congrArg₂ (fun a b : EReal => a * b) rfl (weight_at _ _ _)).trans ?_
      symm
      by_cases h : (i 1).val < 16
      · refine (dif_pos h).trans ?_
        symm
        refine Finset.sum_congr rfl fun l _ => ?_
        exact congrArg₂ (fun a b : EReal => a * b) rfl (dif_pos h)
      · exact (dif_neg h).trans (Finset.sum_eq_zero fun l _ => (congrArg₂ (fun a b : EReal => a * b) rfl (dif_neg h)).trans (mul_zero _)).symm)

end Cert.FzIdeal.Val

end
-- ==== Proof.Proj.FzDw.lean ====
/- The gradient of the gates' weight. The call's result as one product, and the two programs' equal results. -/
module

public import proofs.«01_k».proof.Proof.Gen.FzDwIdeal.Value
public import proofs.«01_k».proof.Proof.Gen.FzDwRefIdeal.Run
public import proofs.«01_k».proof.Proof.Gen.FzDwRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.FzDwRefIdeal.Val

open Cert.FzDwRefIdeal Cert.FzDwRefIdeal.Gen Cert.Proj
open Idealize.ShloMosaic

/-- The reference's result, entry by entry. -/
theorem res_at (u : FVec Ideal S4096x2048 .f32) (z : FVec Ideal S4096x16 .f32) (d : Fin 128) (e : Fin 2048) :
    pad S128x2048 ![0, 0] ![112, 0] ![0, 0] (transpose S16x2048 [1, 0] (extractStridedSlice S2048x16 ![0, 6144] (transpose S2048x6160 [1, 0] (Host.dotGeneral dot_S4096x6160_S4096x2048_S6160x2048_0_0_1_1_n_n none (pad S4096x6160 ![0, 6144] ![0, 0] ![0, 0] z (constant S_ .f32 0x00000000#32) pads_S4096x16_S4096x6160_000_614400 h_S_) u) transposes_S6160x2048_S2048x6160_1_0) slices_S2048x6160_S2048x16_0_6144) transposes_S2048x16_S16x2048_1_0) (sitofp .f32 (constantI S_ 32 0#32)) pads_S16x2048_S128x2048_01120_000 h_S_ (ix2 d e)
      = if h : d.val < 16 then ∑ t : Fin 4096, z (ix2 t ⟨d.val, h⟩) * u (ix2 t e) else (0 : EReal) := by
  pointwise
  by_cases h : d.val < 16
  · simp only [dif_pos h]
  · simp only [dif_neg h]
    exact show (((0#32 : BitVec 32).toInt : ℝ) : EReal) = 0 by norm_num

end Cert.FzDwRefIdeal.Val

namespace Cert.FzDwIdeal.Val

open Cert.FzDwIdeal Cert.FzDwIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S128x1024 .f32) (x : FVec Ideal S2048x128 .bf16) (y : FVec Ideal S2048x1024 .bf16) (j) :
    k0_pay2 acc x y j = acc j + ∑ k : Fin 2048, x (ix2 k (j 0)) * y (ix2 k (j 1)) := by
  pointwise [k0_pay2]

/-- The blocks that a grid point works on. -/
theorem idx : ∀ t : Fin cfg0.N, win0_0.index t = ![t.val % 2, 0]
    ∧ win0_1.index t = ![t.val % 2, t.val / 2]
    ∧ win0_2.index t = ![0, t.val / 2] := (by decide +kernel : ∀ t : Fin grid0.N, _)

/-- At a run's end the staging buffer holds what the accumulator holds. -/
theorem out_eq (t : Fin cfg0.N) (h : t.val % 2 = 1) : (outsAt0 m c t.val t.isLt).1 = (outsAt0 m c t.val t.isLt).2 := by
  rw [outsAt0_B m c t (by omega) (by omega)]
  frame_out

/-- The arrays as the call finds them. -/
abbrev X : FVec Ideal S4096x128 .bf16 := V m c main_v1
abbrev Y : FVec Ideal S4096x2048 .bf16 := V m c main_v2

/-- The result is the product over the whole contraction at once. -/
theorem final : (dats m 0 c).arrAt 2 (cfgs 0).N
    = fun i : S128x2048.Idx => ∑ l : Fin 4096, X m c (ix2 l (i 0)) * Y m c (ix2 l (i 1)) := by
  refine (dats m 0 c).arrAt_eq_of_covers 2 _ (by decide +kernel) fun t hf y => ?_
  blk_simp
  have ht := (flush0_2 t).mp hf
  rw [after0_2, out_eq m c t ht, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole _).read_unread])
    t ht _, zero_add]
  refine Fin.sum_mul_add_congr fun s k hl => ?_
  blk_point [iblk, idx t, idx ⟨_, Pipeline.run_point_lt_of_flush t ht s⟩]

variable (V0 : Valuation τ sig (Elt Ideal))

/-- The arguments as arrays of the ideal numbers, -/
abbrev A0 : FVec Ideal S4096x2048 .f32 := V0 (Proc.devRef .tc main_arg0)
abbrev A1 : FVec Ideal S4096x16 .f32 := V0 (Proc.devRef .tc main_arg1)

/-- the host's operations before the call, -/
abbrev ops : List (HloOp τ sig (Elt Ideal)) := List.flatten [hostOps0, hostOps0_1, hostOps0_2]

/-- and the call's inputs after them. -/
theorem host_x : (after ops V0 (Proc.devRef .tc main_v1) : FVec Ideal S4096x128 .bf16) = truncf .bf16 (pad S4096x128 ![0, 0] ![0, 112] ![0, 0] (A1 V0) (sitofp .f32 (constantI S_ 32 0#32)) pads_S4096x16_S4096x128_000_01120 h_S_) bitsLt_bf16_f32 := by
  unfold_abbrev_sides
  after_reads_simp
  rfl
theorem host_y : (after ops V0 (Proc.devRef .tc main_v2) : FVec Ideal S4096x2048 .bf16) = truncf .bf16 (A0 V0) bitsLt_bf16_f32 := by
  unfold_abbrev_sides
  after_reads_simp

/-- The gates' gradient, one column per lane: zero past the sixteenth. -/
theorem lanes_at (z : FVec Ideal S4096x16 .f32) (t : Fin 4096) (l : Fin 128) :
    (truncf .bf16 (pad S4096x128 ![0, 0] ![0, 112] ![0, 0] z (sitofp .f32 (constantI S_ 32 0#32)) pads_S4096x16_S4096x128_000_01120 h_S_) bitsLt_bf16_f32 : FVec Ideal S4096x128 .bf16) (ix2 t l) = if h : l.val < 16 then z (ix2 t ⟨l.val, h⟩) else (0 : EReal) := by
  pointwise
  split_ifs with h
  · rfl
  · exact show (((0#32 : BitVec 32).toInt : ℝ) : EReal) = 0 by norm_num

theorem algebraic : Cert.algebraic_FzDwIdeal_FzDwRefIdeal (hFzDwIdeal := Cert.FzDwIdeal.Gen.facts)
    (hFzDwRefIdeal := Cert.FzDwRefIdeal.Gen.facts) := by
  pair_intro
  · run_from Cert.FzDwIdeal.Value.run_blocks m g
  · run_from Cert.FzDwRefIdeal.Value.run m' g'
    refine Eq.trans ?_ (final m c).symm
    have hx : X m c = truncf .bf16 (pad S4096x128 ![0, 0] ![0, 112] ![0, 0] (A1 (fun b => m (c, b))) (sitofp .f32 (constantI S_ 32 0#32)) pads_S4096x16_S4096x128_000_01120 h_S_) bitsLt_bf16_f32 := host_x _
    have hy : Y m c = truncf .bf16 (A0 (fun b => m (c, b))) bitsLt_bf16_f32 := host_y _
    rw [hx, hy]
    funext i
    rw [eq_ix2 i]
    exact (by
      refine (Cert.FzDwRefIdeal.Val.res_at _ _ _ _).trans ?_
      symm
      refine (Finset.sum_congr rfl fun l _ => congrArg₂ (fun a b : EReal => a * b) (lanes_at _ _ _) rfl).trans ?_
      symm
      by_cases h : (i 0).val < 16
      · refine (dif_pos h).trans ?_
        symm
        refine Finset.sum_congr rfl fun l _ => ?_
        exact congrArg₂ (fun a b : EReal => a * b) (dif_pos h) rfl
      · exact (dif_neg h).trans (Finset.sum_eq_zero fun l _ => (congrArg₂ (fun a b : EReal => a * b) (dif_neg h) rfl).trans (zero_mul _)).symm)

end Cert.FzDwIdeal.Val

end
-- ==== Proof.Proj.FzDx.lean ====
/- The gradient of the gates' projection in its input, added to what the q, k and v columns gave. The call's result as one product, and the two programs' equal results. -/
module

public import proofs.«01_k».proof.Proof.Gen.FzDxIdeal.Value
public import proofs.«01_k».proof.Proof.Gen.FzDxRefIdeal.Run
public import proofs.«01_k».proof.Proof.Gen.FzDxRefIdeal
public import proofs.«01_k».proof.Proof.Proj.Cols
public import proofs.«01_k».proof.Defs
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.FzDxRefIdeal.Val

open Cert.FzDxRefIdeal Cert.FzDxRefIdeal.Gen Cert.Proj
open Idealize.ShloMosaic

/-- The reference's result, entry by entry. -/
theorem res_at (h : FVec Ideal S4096x2048 .f32) (w : FVec Ideal S2048x6160 .f32) (z : FVec Ideal S4096x16 .f32) (t : Fin 4096) (e : Fin 2048) :
    addf h (Host.dotGeneral dot_S4096x6160_S2048x6160_S4096x2048_1_1_0_0_n_n none (pad S4096x6160 ![0, 6144] ![0, 0] ![0, 0] z (constant S_ .f32 0x00000000#32) pads_S4096x16_S4096x6160_000_614400 h_S_) w) (ix2 t e)
      = h (ix2 t e) + ∑ l : Fin 16, z (ix2 t l) * w (ix2 e ⟨6144 + l.val, by omega⟩) := by
  have e1 : addf h (Host.dotGeneral dot_S4096x6160_S2048x6160_S4096x2048_1_1_0_0_n_n none (pad S4096x6160 ![0, 6144] ![0, 0] ![0, 0] z (constant S_ .f32 0x00000000#32) pads_S4096x16_S4096x6160_000_614400 h_S_) w) (ix2 t e)
      = h (ix2 t e) + ∑ l : Fin 6160, (if h : 6144 ≤ l.val ∧ l.val - 6144 < 16 then z (ix2 t ⟨l.val - 6144, h.2⟩) else (0 : EReal)) * w (ix2 e l) := by
    pointwise
  rw [e1]
  refine congrArg (fun a : EReal => h (ix2 t e) + a) ((Fin.sum_univ_add (a := 6144) (b := 16) _).trans ((congrArg₂ (fun a b : EReal => a + b) (Finset.sum_eq_zero fun l _ => ?_) (Finset.sum_congr rfl fun l _ => ?_)).trans (zero_add _)))
  · rw [dif_neg (fun hc => absurd hc.1 (by simp)), zero_mul]
  · rw [dif_pos ⟨by simp, by simp⟩]
    exact congrArg (fun a : Fin 16 => z (ix2 t a) * _) (Fin.ext (show 6144 + l.val - 6144 = l.val by omega))

end Cert.FzDxRefIdeal.Val

namespace Cert.FzDxIdeal.Val

open Cert.FzDxIdeal Cert.FzDxIdeal.Gen Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The accumulator starts at zero, -/
theorem hzero (j) : k0_pay1 (F := Ideal) j = 0 := by pointwise [k0_pay1]

/-- and a step adds a product of two blocks. -/
theorem hpay (acc : FVec Ideal S1024x1024 .f32) (x : FVec Ideal S1024x128 .bf16) (y : FVec Ideal S128x1024 .bf16) (j) :
    k0_pay2 acc x y j = acc j + ∑ k : Fin 128, x (ix2 (j 0) k) * y (ix2 k (j 1)) := by
  pointwise [k0_pay2]

/-- The blocks that a grid point works on. -/
theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] := (by decide +kernel : ∀ t : Fin grid0.N, _)

/-- What the other columns gave is added at the end. -/
theorem hend (x y : FVec Ideal S1024x1024 .f32) (j) : k0_pay3 x y j = x j + y j := by pointwise [k0_pay3]

/-- What a point leaves in the result's buffer. -/
theorem out_eq (t : Fin cfg0.N) : outsAt0 m c t = k0_pay3 (k0_pay2 k0_pay1 (iblk m c 0 t) (iblk m c 1 t)) (iblk m c 2 t) := by
  unfold outsAt0
  frame_out

/-- The arrays as the call finds them. -/
abbrev X : FVec Ideal S4096x128 .bf16 := V m c main_v1
abbrev Y : FVec Ideal S128x2048 .bf16 := V m c main_v5
abbrev H : FVec Ideal S4096x2048 .f32 := V m c main_arg0

/-- The result is the product over the whole contraction at once. -/
theorem final : (dats m 0 c).arrAt 3 (cfgs 0).N
    = fun i : S4096x2048.Idx => (∑ l : Fin 128, X m c (ix2 (i 0) l) * Y m c (ix2 l (i 1))) + H m c i := by
  refine (dats m 0 c).arrAt_eq_of_covers 3 _ (by decide +kernel) fun t hf y => ?_
  blk_simp
  rw [after0_3, out_eq m c t, hend, hpay, hzero, zero_add]
  refine congrArg₂ (fun a b : EReal => a + b) ?_ ?_
  · blk_point [iblk, idx t]
  · blk_point [iblk, idx t]

variable (V0 : Valuation τ sig (Elt Ideal))

/-- The arguments as arrays of the ideal numbers, -/
abbrev A0 : FVec Ideal S4096x2048 .f32 := V0 (Proc.devRef .tc main_arg0)
abbrev A1 : FVec Ideal S2048x6160 .f32 := V0 (Proc.devRef .tc main_arg1)
abbrev A2 : FVec Ideal S4096x16 .f32 := V0 (Proc.devRef .tc main_arg2)

/-- the host's operations before the call, -/
abbrev ops : List (HloOp τ sig (Elt Ideal)) := List.flatten [hostOps0, hostOps0_1, hostOps0_2, hostOps0_3]

/-- and the call's inputs after them. -/
theorem host_x : (after ops V0 (Proc.devRef .tc main_v1) : FVec Ideal S4096x128 .bf16) = truncf .bf16 (pad S4096x128 ![0, 0] ![0, 112] ![0, 0] (A2 V0) (sitofp .f32 (constantI S_ 32 0#32)) pads_S4096x16_S4096x128_000_01120 h_S_) bitsLt_bf16_f32 := by
  unfold_abbrev_sides
  after_reads_simp
  rfl
theorem host_y : (after ops V0 (Proc.devRef .tc main_v5) : FVec Ideal S128x2048 .bf16) = pad S128x2048 ![0, 0] ![112, 0] ![0, 0] (extractStridedSlice S16x2048 ![6144, 0] (truncf .bf16 (transpose S6160x2048 [1, 0] (A1 V0) transposes_S2048x6160_S6160x2048_1_0) bitsLt_bf16_f32) slices_S6160x2048_S16x2048_6144_0) (sitofp .bf16 (constantI S_ 32 0#32)) pads_S16x2048_S128x2048_01120_000 h_S_ := by
  unfold_abbrev_sides
  after_reads_simp
  rfl
theorem host_h : (after ops V0 (Proc.devRef .tc main_arg0) : FVec Ideal S4096x2048 .f32) = (A0 V0) := by
  unfold_abbrev_sides
  after_reads_simp

/-- The gates' gradient, one column per lane: zero past the sixteenth. -/
theorem lanes_at (z : FVec Ideal S4096x16 .f32) (t : Fin 4096) (l : Fin 128) :
    (truncf .bf16 (pad S4096x128 ![0, 0] ![0, 112] ![0, 0] z (sitofp .f32 (constantI S_ 32 0#32)) pads_S4096x16_S4096x128_000_01120 h_S_) bitsLt_bf16_f32 : FVec Ideal S4096x128 .bf16) (ix2 t l) = if h : l.val < 16 then z (ix2 t ⟨l.val, h⟩) else (0 : EReal) := by
  pointwise
  split_ifs with h
  · rfl
  · exact show (((0#32 : BitVec 32).toInt : ℝ) : EReal) = 0 by norm_num

/-- The gates' weight, one row per lane: zero past the sixteenth. -/
theorem weight_at (w : FVec Ideal S2048x6160 .f32) (l : Fin 128) (e : Fin 2048) :
    (pad S128x2048 ![0, 0] ![112, 0] ![0, 0] (extractStridedSlice S16x2048 ![6144, 0] (truncf .bf16 (transpose S6160x2048 [1, 0] w transposes_S2048x6160_S6160x2048_1_0) bitsLt_bf16_f32) slices_S6160x2048_S16x2048_6144_0) (sitofp .bf16 (constantI S_ 32 0#32)) pads_S16x2048_S128x2048_01120_000 h_S_ : FVec Ideal S128x2048 .bf16) (ix2 l e) = if h : l.val < 16 then w (ix2 e ⟨6144 + l.val, by omega⟩) else (0 : EReal) := by
  pointwise
  split_ifs with h
  · rfl
  · exact show (((0#32 : BitVec 32).toInt : ℝ) : EReal) = 0 by norm_num

theorem algebraic : Cert.algebraic_FzDxIdeal_FzDxRefIdeal (hFzDxIdeal := Cert.FzDxIdeal.Gen.facts)
    (hFzDxRefIdeal := Cert.FzDxRefIdeal.Gen.facts) := by
  pair_intro
  · run_from Cert.FzDxIdeal.Value.run_blocks m g
  · run_from Cert.FzDxRefIdeal.Value.run m' g'
    refine Eq.trans ?_ (final m c).symm
    have hx : X m c = truncf .bf16 (pad S4096x128 ![0, 0] ![0, 112] ![0, 0] (A2 (fun b => m (c, b))) (sitofp .f32 (constantI S_ 32 0#32)) pads_S4096x16_S4096x128_000_01120 h_S_) bitsLt_bf16_f32 := host_x _
    have hy : Y m c = pad S128x2048 ![0, 0] ![112, 0] ![0, 0] (extractStridedSlice S16x2048 ![6144, 0] (truncf .bf16 (transpose S6160x2048 [1, 0] (A1 (fun b => m (c, b))) transposes_S2048x6160_S6160x2048_1_0) bitsLt_bf16_f32) slices_S6160x2048_S16x2048_6144_0) (sitofp .bf16 (constantI S_ 32 0#32)) pads_S16x2048_S128x2048_01120_000 h_S_ := host_y _
    have hh : H m c = (A0 (fun b => m (c, b))) := host_h _
    rw [hx, hy, hh]
    funext i
    rw [eq_ix2 i]
    exact (by
      refine (Cert.FzDxRefIdeal.Val.res_at _ _ _ _ _).trans ((add_comm _ _).trans (congrArg (fun a : EReal => a + _) ?_))
      symm
      refine (Finset.sum_congr rfl fun l _ => congrArg₂ (fun a b : EReal => a * b) (lanes_at _ _ _) (weight_at _ _ _)).trans ?_
      refine ((Fin.sum_univ_add (a := 16) (b := 112) _).trans (congrArg₂ (fun a b : EReal => a + b) (Finset.sum_congr rfl fun l _ => ?_) (Finset.sum_eq_zero fun l _ => ?_))).trans (add_zero _)
      · rw [dif_pos (show (Fin.castAdd 112 l).val < 16 from l.isLt), dif_pos (show (Fin.castAdd 112 l).val < 16 from l.isLt)]; rfl
      · rw [dif_neg (show ¬ (Fin.natAdd 16 l).val < 16 from by simp), zero_mul])

end Cert.FzDxIdeal.Val

end
-- ==== Proof.Att.Window.lean ====
/- What the stores of the forward attention's body leave: the bias of a head, made at its first window, and the output's two halves. -/
module

public import proofs.«01_k».proof.Proof.Gen.AttIdeal.Value
public import proofs.«01_k».proof.Proof.Val.Soft
public import proofs.«01_k».proof.Proof.Val.Bias
public import Idealize.ShloMosaic.Lib.Pipeline.ValueKit
public import Idealize.ShloMosaic.Lib.Pointwise

@[expose] public section

set_option maxRecDepth 16384

noncomputable section

namespace Cert.AttIdeal.Val

open Cert.AttIdeal Cert.AttIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

open Cert.KernelIdeal.Run (prob0 prob1 biasOf biasPieces)

/-- One half's output: its probabilities, rounded, times its stretch of the values. -/
def half0 (a : BitVec 32) (q kp kc vp vc : Vec Ideal S512x128 .bf16) (b : Vec Ideal S512x1024 .f32) : Vec Ideal S256x128 .bf16 :=
  truncf .bf16 (matmul dot_S256x768_S768x128_S256x128_1_0_0_1_n_n none (truncf .bf16 (prob0 a q kp kc b : FVec Ideal S256x768 .f32) bitsLt_bf16_f32)
    (extractStridedSlice S768x128 ![0, 0] (k0_pay20 vp vc) slices_S1024x128_o0_0_S768x128) (constant S256x128 .f32 0x00000000#32)) bitsLt_bf16_f32
def half1 (a : BitVec 32) (q kp kc vp vc : Vec Ideal S512x128 .bf16) (b : Vec Ideal S512x1024 .f32) : Vec Ideal S256x128 .bf16 :=
  truncf .bf16 (matmul dot_S256x768_S768x128_S256x128_1_0_0_1_n_n none (truncf .bf16 (prob1 a q kp kc b : FVec Ideal S256x768 .f32) bitsLt_bf16_f32)
    (extractStridedSlice S768x128 ![256, 0] (k0_pay20 vp vc) slices_S1024x128_o256_0_S768x128) (constant S256x128 .f32 0x00000000#32)) bitsLt_bf16_f32

/-- The two halves, in the order of their stores from the last on. -/
def halves (a : BitVec 32) (q kp kc vp vc : Vec Ideal S512x128 .bf16) (b : Vec Ideal S512x1024 .f32) : List (View.Piece (Elt Ideal) S512x128 .bf16) :=
  [⟨Rect.unit ![256, 0] S256x128.size inb_S512x128_S256x128_256_0, half1 a q kp kc vp vc b⟩,
    ⟨Rect.unit ![0, 0] S256x128.size inb_S512x128_S256x128_0_0, half0 a q kp kc vp vc b⟩]

theorem biasOf_eq (g : Vec Ideal S1x1x2048 .f32) : biasOf g = View.canon (biasPieces g) := by
  funext y
  exact View.read_writes_junk_apply_eq_canon _ _ _

/-- A part of the bias read back after the stores. -/
theorem read_bias {L : List (View.Piece (Elt Ideal) S512x1024 .f32)} (g : Vec Ideal S1x1x2048 .f32) (r : LoadRect S512x1024) (hL : L = biasPieces g) :
    (View.whole (sig := sig) cc0_scratch0).readCov L r = fun j => biasOf g (r.idx j) := by
  rw [View.readCov_eq_canon', hL, biasOf_eq]
  rfl

/-- A head's first window makes the head's bias, -/
theorem first_bias (t : Fin cfg0.N) (h : t.val % 8 = 0) : (outsAt0 m c t.val t.isLt).2 = biasOf (iblk m c 5 t) := by
  rw [outsAt0_A m c t h, biasOf_eq]
  frame_out
  rfl
/-- and every window's output is its two halves over the head's bias. -/
theorem first_out (t : Fin cfg0.N) (h : t.val % 8 = 0) : (outsAt0 m c t.val t.isLt).1
    = View.canon (halves (BitVec.ofNat 32 (grid0.coords t 1).val) (iblk m c 0 t) (iblk m c 1 t) (iblk m c 2 t) (iblk m c 3 t) (iblk m c 4 t) (biasOf (iblk m c 5 t))) := by
  rw [outsAt0_A m c t h]
  frame_out
  rw [read_bias (iblk m c 5 t), read_bias (iblk m c 5 t)]
  · rw [← biasOf_eq]
    generalize biasOf (iblk m c 5 t) = b
    rfl
  · rfl
  · rfl
theorem next_out (t : Fin cfg0.N) (h : ¬ t.val % 8 = 0) : (outsAt0 m c t.val t.isLt).1
    = View.canon (halves (BitVec.ofNat 32 (grid0.coords t 1).val) (iblk m c 0 t) (iblk m c 1 t) (iblk m c 2 t) (iblk m c 3 t) (iblk m c 4 t) (outsAt0 m c (t.val - 1) (by have := t.isLt; omega)).2) := by
  rw [outsAt0_B m c t h]
  frame_out
  rw [(Memref.isWhole_whole _).read_unread]
  rfl
theorem next_bias (t : Fin cfg0.N) (h : ¬ t.val % 8 = 0) : (outsAt0 m c t.val t.isLt).2 = (outsAt0 m c (t.val - 1) (by have := t.isLt; omega)).2 := by
  rw [outsAt0_B m c t h]
  rfl

end Cert.AttIdeal.Val
-- ==== Proof.Att.Value.lean ====
/- The forward attention's result: every entry is the values weighted by the reference's probabilities. -/
module

public import proofs.«01_k».proof.Proof.Att.Window
public import proofs.«01_k».proof.Proof.Val.Host
public import Idealize.ShloMosaic.Lib.StableHlo.RunRead
public import Idealize.ShloMosaic.Lib.Pipeline.ValueKit.Point
public import Idealize.ShloMosaic.Lib.Pipeline.ValueKit.Geometry

@[expose] public section

set_option maxRecDepth 16384

noncomputable section

namespace Cert.AttIdeal.Val

open Cert.AttIdeal Cert.AttIdeal.Gen Cert.AttIdeal.Value
open Idealize.ShloMosaic Idealize.ShloMosaic.TcCoe Idealize.SL.Sem Idealize.ShloMosaic.StableHlo
open Cert.Val
open Cert.KernelIdeal.Run (prob0 prob1 biasOf)
open Cert.KernelIdeal.Val (Blocks keyRow keyRow_eq prob0_at prob1_at bias_at biasAt)

/-! ## One window of queries -/

section Window
variable (q k rel : ℕ → ℕ → ℝ) (V : ℕ → ℕ → EReal)

/-- The output: the values, which need not be real, weighted by the probabilities. -/
def attn (h t e : ℕ) : EReal := ∑ s : Fin 4096, V s e * (prob q k rel h t s : EReal)

/-- A row's sum over its stretch of padded keys is its sum over all keys. -/
theorem attn_stretch (h e o : ℕ) (ho : 256 ∣ o) (ho' : o + 768 ≤ 4608) (K : Fin 768 → ℕ) (hK : ∀ κ, 512 ≤ o + κ.val → K κ = o + κ.val - 512) (ρ : Fin 256) :
    (∑ κ : Fin 768, (ppad q k rel h (o + ρ) (o + κ) : EReal) * V (K κ) e) = attn q k rel V h (o + ρ) e := by
  unfold attn
  rw [← sum_stretch o (fun s => V s e * (prob q k rel h (o + ρ) s : EReal))
    (fun s _ hs => band_stretch ho ρ.isLt (by by_contra hc; exact hs (by simp [prob_off q k rel hc]))) ho']
  refine Finset.sum_congr rfl fun κ _ => ?_
  unfold ppad
  split_ifs with h1
  · rw [hK κ h1, mul_comm]
  · simp

/-- What window `w` of head `h` is given: rows of the arguments, and the band's bias. -/
structure Seen (h w : ℕ) (a : BitVec 32) (Q KP KC VP VC : Vec Ideal S512x128 .bf16) (B : Vec Ideal S512x1024 .f32) : Prop where
  hw : w < 8
  ha : a = BitVec.ofNat 32 w
  hq : ∀ (r : Fin 512) (d : Fin 128), Q (ix2 r d) = (q (512 * w + r) (h * 128 + d) : EReal)
  hkp : ∀ (r : Fin 512) (d : Fin 128), KP (ix2 r d) = (k (512 * (w - 1) + r) (h * 128 + d) : EReal)
  hkc : ∀ (r : Fin 512) (d : Fin 128), KC (ix2 r d) = (k (512 * w + r) (h * 128 + d) : EReal)
  hvp : ∀ (r : Fin 512) (d : Fin 128), VP (ix2 r d) = V (512 * (w - 1) + r) (h * 128 + d)
  hvc : ∀ (r : Fin 512) (d : Fin 128), VC (ix2 r d) = V (512 * w + r) (h * 128 + d)
  hb : ∀ (r : Fin 512) (x : Fin 1024), B (ix2 r x) = if r.val / 64 ≤ x.val / 64 ∧ x.val / 64 ≤ r.val / 64 + 8 then (rel h (cls (512 + r) x) : EReal) else ⊥

variable {q k rel V} {h w : ℕ} {a : BitVec 32} {Q KP KC VP VC : Vec Ideal S512x128 .bf16} {B : Vec Ideal S512x1024 .f32}
  (W : Seen q k rel V h w a Q KP KC VP VC B)
include W

/-- The probabilities read neither the values nor the output's gradient: the backward pass's lemmas hold of them with zeros there. -/
theorem Seen.blocks : Blocks q k (fun _ _ => 0) (fun _ _ => 0) rel h w a Q KP KC (fun _ => ((0 : ℝ) : EReal)) (fun _ => ((0 : ℝ) : EReal)) (fun _ => ((0 : ℝ) : EReal))
    (fun i => (out q k (fun _ _ => 0) rel h (512 * w + (i 0).val) (i 1).val : EReal)) B :=
  ⟨W.hw, W.ha, W.hq, W.hkp, W.hkc, fun _ _ => rfl, fun _ _ => rfl, fun _ _ => rfl, fun _ _ => rfl, W.hb⟩

theorem values_at (x : Fin 1024) (d : Fin 128) : k0_pay20 (F := Ideal) VP VC (ix2 x d) = V (keyRow w x) (h * 128 + d) := by
  have e : k0_pay20 (F := Ideal) VP VC (ix2 x d) = if hm : x.val < 512 then VP (ix2 ⟨x.val, hm⟩ d) else VC (ix2 ⟨x.val - 512, by omega⟩ d) := by
    unfold k0_pay20; pointwise
  rw [e]; unfold keyRow
  split_ifs with hm
  · exact W.hvp _ _
  · refine (W.hvc _ _).trans ?_
    rw [show 512 * w + (x.val - 512) = 512 * w + x.val - 512 by omega]

theorem half0_at (ρ : Fin 256) (d : Fin 128) : half0 a Q KP KC VP VC B (ix2 ρ d) = attn q k rel V h (512 * w + 0 + ρ) (h * 128 + d) := by
  have e : half0 a Q KP KC VP VC B (ix2 ρ d) = ∑ κ : Fin 768, prob0 a Q KP KC B (ix2 ρ κ) * k0_pay20 (F := Ideal) VP VC (ix2 ⟨κ.val, by omega⟩ d) := by
    unfold half0
    generalize (prob0 a Q KP KC B : FVec Ideal S256x768 .f32) = p
    generalize k0_pay20 (F := Ideal) VP VC = x
    pointwise
  rw [e]
  refine (Finset.sum_congr rfl fun κ _ => congrArg₂ (fun x y : EReal => x * y) (prob0_at W.blocks ρ κ) (values_at W _ d)).trans ?_
  have := W.hw
  exact attn_stretch q k rel V h _ (512 * w + 0) ⟨2 * w, by omega⟩ (by omega) (fun κ => keyRow w κ.val) (fun κ hκ => (keyRow_eq (by omega)).trans (by omega)) ρ

theorem half1_at (ρ : Fin 256) (d : Fin 128) : half1 a Q KP KC VP VC B (ix2 ρ d) = attn q k rel V h (512 * w + 256 + ρ) (h * 128 + d) := by
  have e : half1 a Q KP KC VP VC B (ix2 ρ d) = ∑ κ : Fin 768, prob1 a Q KP KC B (ix2 ρ κ) * k0_pay20 (F := Ideal) VP VC (ix2 ⟨256 + κ.val, by omega⟩ d) := by
    unfold half1
    generalize (prob1 a Q KP KC B : FVec Ideal S256x768 .f32) = p
    generalize k0_pay20 (F := Ideal) VP VC = x
    pointwise
  rw [e]
  refine (Finset.sum_congr rfl fun κ _ => congrArg₂ (fun x y : EReal => x * y) (prob1_at W.blocks ρ κ) (values_at W _ d)).trans ?_
  have := W.hw
  exact attn_stretch q k rel V h _ (512 * w + 256) ⟨2 * w + 1, by omega⟩ (by omega) (fun κ => keyRow w (256 + κ.val)) (fun κ hκ => (keyRow_eq (by omega)).trans (by omega)) ρ

/-- The two halves are the window's block of the output. -/
theorem halves_at (r : Fin 512) (d : Fin 128) : View.canon (halves a Q KP KC VP VC B) (ix2 r d) = attn q k rel V h (512 * w + r) (h * 128 + d) := by
  have key : View.PiecesOf (Val := Elt Ideal) (s := S512x128) (e := .bf16) (fun y => attn q k rel V h (512 * w + (y 0).val) (h * 128 + (y 1).val)) (halves a Q KP KC VP VC B) := by
    refine ⟨fun y => ?_, fun y => ?_, trivial⟩
    all_goals obtain ⟨ρ, d, rfl⟩ : ∃ (ρ : Fin 256) (d : Fin 128), y = ix2 ρ d := ⟨y 0, y 1, by funext a; match a with | ⟨0, _⟩ => rfl | ⟨1, _⟩ => rfl⟩
    · exact (half1_at W ρ d).trans (congrArg₂ (attn q k rel V h) (by show _ = 512 * w + (256 + 1 * ρ.val); omega) (by show _ = h * 128 + (0 + 1 * d.val); omega))
    · exact (half0_at W ρ d).trans (congrArg₂ (attn q k rel V h) (by show _ = 512 * w + (0 + 1 * ρ.val); omega) (by show _ = h * 128 + (0 + 1 * d.val); omega))
  have hc := View.canon_append_of_piecesOf (Val := Elt Ideal) _ [] _ key (ix2 r d)
    (View.cover_of_tiledL (halves a Q KP KC VP VC B) S256x128.size (by sl_kernel_rfl) _)
  rw [List.append_nil] at hc
  exact hc

end Window

/-! ## The call's inputs -/

section Host
variable (V0 : Valuation τ sig (Elt Ideal))

/-- The arguments as arrays of the ideal numbers. -/
abbrev A0 : FVec Ideal S4096x2048 .f32 := V0 (Proc.devRef .tc main_arg0)
abbrev A1 : FVec Ideal S4096x2048 .f32 := V0 (Proc.devRef .tc main_arg1)
abbrev A2 : FVec Ideal S4096x2048 .f32 := V0 (Proc.devRef .tc main_arg2)
abbrev A3 : FVec Ideal S16x320 .f32 := V0 (Proc.devRef .tc main_arg3)

/-- The host's operations before the call, -/
abbrev ops : List (HloOp τ sig (Elt Ideal)) := List.flatten [hostOps0]

/-- and the call's four inputs after them. -/
abbrev B8 : FVec Ideal S4096x2048 .bf16 := after ops V0 (Proc.devRef .tc main_v8)
abbrev B9 : FVec Ideal S4096x2048 .bf16 := after ops V0 (Proc.devRef .tc main_v9)
abbrev B10 : FVec Ideal S4096x2048 .bf16 := after ops V0 (Proc.devRef .tc main_v10)
abbrev B7 : FVec Ideal S16x1x2048 .f32 := after ops V0 (Proc.devRef .tc main_v7)

theorem host_q : B8 V0 = truncf .bf16 (A0 V0) bitsLt_bf16_f32 := by
  unfold_abbrev_sides
  after_reads_simp
theorem host_k : B9 V0 = truncf .bf16 (A1 V0) bitsLt_bf16_f32 := by
  unfold_abbrev_sides
  after_reads_simp
theorem host_v : B10 V0 = truncf .bf16 (A2 V0) bitsLt_bf16_f32 := by
  unfold_abbrev_sides
  after_reads_simp

/-- The row's columns of the bias table, as words. -/
abbrev rowWords : IVec S2048 32 :=
  select (cmpi .slt (fun i => lit0 (S2048.rowMajor i)) (broadcastInDim S2048 ![] bcast_S_S2048 (constantI S_ 32 0#32)))
    (addi (fun i => lit0 (S2048.rowMajor i)) (broadcastInDim S2048 ![] bcast_S_S2048 (constantI S_ 32 320#32)))
    (fun i => lit0 (S2048.rowMajor i))

theorem host_row : B7 V0 = shapeCast S16x1x2048 (Host.gather gather_S16x320_S2048x1_S16x2048_0_1_n_n_1_1_161 (A3 V0)
    (broadcastInDim S2048x1 ![0] bcast_S2048_S2048x1_0 rowWords)) shapeCasts_S16x2048_S16x1x2048 := by
  unfold_abbrev_sides
  after_reads_simp
  rfl

end Host

open Cert.KernelIdeal.Val (rowCls rowCls_lt rowCls_eq)

set_option maxHeartbeats 2000000 in
theorem row_word : ∀ u : Fin 2048, lit0 u = BitVec.ofNat 32 (rowCls u) := by decide +kernel

theorem row_index (u : Fin 2048) : (broadcastInDim S2048x1 ![0] bcast_S2048_S2048x1_0 rowWords) (ix2 u 0) = BitVec.ofNat 32 (rowCls u) := by
  have e : ∀ x : IVec S2048 32, (broadcastInDim S2048x1 ![0] bcast_S2048_S2048x1_0 (select (cmpi .slt x (broadcastInDim S2048 ![] bcast_S_S2048 (constantI S_ 32 0#32)))
      (addi x (broadcastInDim S2048 ![] bcast_S_S2048 (constantI S_ 32 320#32))) x)) (ix2 u 0)
      = Scalar.select (IntOp.cmpi .slt (x (ix1 u)) 0#32) (IntOp.addi (x (ix1 u)) 320#32) (x (ix1 u)) := by
    intro x; pointwise
  have hu : S2048.rowMajor (ix1 u) = u := Fin.ext (Shape.rowMajor_val_one _)
  refine (e _).trans ?_
  rw [hu, row_word u, cls_nonneg ⟨rowCls u, rowCls_lt u⟩]
  rfl

theorem row_at {V0 : Valuation τ sig (Elt Ideal)} {rel : ℕ → ℕ → ℝ} (hrel : ∀ (h : Fin 16) (e : Fin 320), A3 V0 (ix2 h e) = (rel h e : EReal)) (h : Fin 16) (u : Fin 2048) :
    B7 V0 (ix3 h 0 u) = (rel h (rowCls u) : EReal) := by
  rw [host_row]
  have e : ∀ x : FVec Ideal S16x2048 .f32, shapeCast S16x1x2048 x shapeCasts_S16x2048_S16x1x2048 (ix3 h 0 u) = x (ix2 h u) := by
    intro x; pointwise
  rw [e]
  refine (gather_columns (by omega) _ _ _ h u).trans ?_
  refine Eq.trans ?_ (hrel h ⟨rowCls u, rowCls_lt u⟩)
  congr 2
  refine Fin.ext ?_
  show min (_ : BitVec 32).toInt.toNat (320 - 1) = rowCls u
  rw [row_index u]
  exact cls_toNat ⟨rowCls u, rowCls_lt u⟩

/-! ## The blocks -/

variable (m : (ℓ : Loc nD τ sig) → Buf (Elt Ideal) ℓ) (c : Dev nD)

/-- The launch's memory on a device. -/
abbrev L0 : Valuation τ sig (Elt Ideal) := fun b => m (c, b)

/-- The second grid coordinate, and the block that each window takes at a point. -/
theorem coord1 : ∀ t : Fin grid0.N, (grid0.coords t 1).val = t.val % 8 := by decide +kernel
theorem index_own : ∀ t : Fin grid0.N, win0_0.index t = ![t.val % 8, t.val / 8] ∧ win0_2.index t = ![t.val % 8, t.val / 8]
    ∧ win0_4.index t = ![t.val % 8, t.val / 8] ∧ win0_6.index t = ![t.val % 8, t.val / 8] := by decide +kernel
theorem index_before : ∀ t : Fin grid0.N, win0_1.index t = ![t.val % 8 - 1, t.val / 8] ∧ win0_3.index t = ![t.val % 8 - 1, t.val / 8] := by decide +kernel
theorem index_row : ∀ t : Fin grid0.N, win0_5.index t = ![t.val / 8, 0, 0] := by decide +kernel

theorem points (t : Fin cfg0.N) : t.val < 128 := t.isLt

theorem blk_q (t : Fin cfg0.N) (r : Fin 512) (d : Fin 128) (hr : 512 * (t.val % 8) + r.val < 4096) (hd : t.val / 8 * 128 + d.val < 2048) :
    iblk m c 0 t (ix2 r d) = B8 (L0 m c) (ix2 ⟨512 * (t.val % 8) + r.val, hr⟩ ⟨t.val / 8 * 128 + d.val, hd⟩) := by
  blk_ext [iblk, index_own t]
theorem blk_kp (t : Fin cfg0.N) (r : Fin 512) (d : Fin 128) (hr : 512 * (t.val % 8 - 1) + r.val < 4096) (hd : t.val / 8 * 128 + d.val < 2048) :
    iblk m c 1 t (ix2 r d) = B9 (L0 m c) (ix2 ⟨512 * (t.val % 8 - 1) + r.val, hr⟩ ⟨t.val / 8 * 128 + d.val, hd⟩) := by
  blk_ext [iblk, index_before t]
theorem blk_kc (t : Fin cfg0.N) (r : Fin 512) (d : Fin 128) (hr : 512 * (t.val % 8) + r.val < 4096) (hd : t.val / 8 * 128 + d.val < 2048) :
    iblk m c 2 t (ix2 r d) = B9 (L0 m c) (ix2 ⟨512 * (t.val % 8) + r.val, hr⟩ ⟨t.val / 8 * 128 + d.val, hd⟩) := by
  blk_ext [iblk, index_own t]
theorem blk_vp (t : Fin cfg0.N) (r : Fin 512) (d : Fin 128) (hr : 512 * (t.val % 8 - 1) + r.val < 4096) (hd : t.val / 8 * 128 + d.val < 2048) :
    iblk m c 3 t (ix2 r d) = B10 (L0 m c) (ix2 ⟨512 * (t.val % 8 - 1) + r.val, hr⟩ ⟨t.val / 8 * 128 + d.val, hd⟩) := by
  blk_ext [iblk, index_before t]
theorem blk_vc (t : Fin cfg0.N) (r : Fin 512) (d : Fin 128) (hr : 512 * (t.val % 8) + r.val < 4096) (hd : t.val / 8 * 128 + d.val < 2048) :
    iblk m c 4 t (ix2 r d) = B10 (L0 m c) (ix2 ⟨512 * (t.val % 8) + r.val, hr⟩ ⟨t.val / 8 * 128 + d.val, hd⟩) := by
  blk_ext [iblk, index_own t]
theorem blk_row (t : Fin cfg0.N) (u : Fin 2048) (hh : t.val / 8 < 16) :
    iblk m c 5 t (ix3 0 0 u) = B7 (L0 m c) (ix3 ⟨t.val / 8, hh⟩ 0 u) := by
  blk_ext [iblk, index_row t]

/-! ## The launch -/

variable (q k rel : ℕ → ℕ → ℝ) (V : ℕ → ℕ → EReal)

/-- The queries, the keys and the bias table are real numbers; the values need not be. -/
structure Given : Prop where
  q : ∀ (t : Fin 4096) (e : Fin 2048), A0 (L0 m c) (ix2 t e) = (q t e : EReal)
  k : ∀ (t : Fin 4096) (e : Fin 2048), A1 (L0 m c) (ix2 t e) = (k t e : EReal)
  v : ∀ (t : Fin 4096) (e : Fin 2048), A2 (L0 m c) (ix2 t e) = V t e
  rel : ∀ (h : Fin 16) (e : Fin 320), A3 (L0 m c) (ix2 h e) = (rel h e : EReal)

/-- The bias that a head's points find. -/
def Band (h : ℕ) (B : Vec Ideal S512x1024 .f32) : Prop :=
  ∀ (r : Fin 512) (x : Fin 1024), B (ix2 r x) = if r.val / 64 ≤ x.val / 64 ∧ x.val / 64 ≤ r.val / 64 + 8 then (rel h (cls (512 + r) x) : EReal) else ⊥

variable {m c q k rel V} (I : Given m c q k rel V)
include I

theorem bias_real (t : Fin cfg0.N) : Band rel (t.val / 8) (biasOf (F := Ideal) (iblk m c 5 t)) := by
  intro r x
  have hr := r.isLt; have hx := x.isLt
  have hh : t.val / 8 < 16 := by have := points t; omega
  refine (bias_at _ (fun u => (rel (t.val / 8) (rowCls u) : EReal)) (fun u => ?_) r x).trans ?_
  · exact (blk_row m c t u hh).trans (row_at I.rel ⟨t.val / 8, hh⟩ u)
  · unfold biasAt; dsimp only; rw [rowCls_eq r x]

/-- Every point of a head leaves the head's bias. -/
theorem band (n : ℕ) (hn : n < cfg0.N) : Band rel (n / 8) (outsAt0 m c n hn).2 := by
  induction n with
  | zero => exact (first_bias m c ⟨0, hn⟩ rfl) ▸ bias_real I ⟨0, hn⟩
  | succ n ih =>
    by_cases h : (n + 1) % 8 = 0
    · exact (first_bias m c ⟨n + 1, hn⟩ h) ▸ bias_real I ⟨n + 1, hn⟩
    · have e := next_bias m c ⟨n + 1, hn⟩ h
      have i := ih (Nat.lt_of_succ_lt hn)
      rw [show n / 8 = (n + 1) / 8 by omega] at i
      exact e ▸ i

theorem seen (t : Fin cfg0.N) (B : Vec Ideal S512x1024 .f32) (hb : Band rel (t.val / 8) B) :
    Seen q k rel V (t.val / 8) (t.val % 8) (BitVec.ofNat 32 (grid0.coords t 1).val) (iblk m c 0 t) (iblk m c 1 t) (iblk m c 2 t) (iblk m c 3 t) (iblk m c 4 t) B := by
  have ht := points t
  have hrow : ∀ r : Fin 512, 512 * (t.val % 8) + r.val < 4096 := fun r => by omega
  have hrow' : ∀ r : Fin 512, 512 * (t.val % 8 - 1) + r.val < 4096 := fun r => by omega
  have hcol : ∀ d : Fin 128, t.val / 8 * 128 + d.val < 2048 := fun d => by omega
  refine ⟨by omega, by rw [coord1 t], fun r d => ?_, fun r d => ?_, fun r d => ?_, fun r d => ?_, fun r d => ?_, hb⟩
  · refine (blk_q m c t r d (hrow r) (hcol d)).trans ?_
    rw [host_q]; exact I.q _ _
  · refine (blk_kp m c t r d (hrow' r) (hcol d)).trans ?_
    rw [host_k]; exact I.k _ _
  · refine (blk_kc m c t r d (hrow r) (hcol d)).trans ?_
    rw [host_k]; exact I.k _ _
  · refine (blk_vp m c t r d (hrow' r) (hcol d)).trans ?_
    rw [host_v]; exact I.v _ _
  · refine (blk_vc m c t r d (hrow r) (hcol d)).trans ?_
    rw [host_v]; exact I.v _ _

/-- What a point leaves in the output's buffer. -/
theorem out_at (t : Fin cfg0.N) (r : Fin 512) (d : Fin 128) :
    (outsAt0 m c t.val t.isLt).1 (ix2 r d) = attn q k rel V (t.val / 8) (512 * (t.val % 8) + r) (t.val / 8 * 128 + d) := by
  by_cases h : t.val % 8 = 0
  · rw [first_out m c t h]
    exact halves_at (seen I t _ (bias_real I t)) r d
  · rw [next_out m c t h]
    have hb := band I (t.val - 1) (by have := t.isLt; omega)
    rw [show (t.val - 1) / 8 = t.val / 8 by omega] at hb
    exact halves_at (seen I t _ hb) r d

/-- The call's result. -/
theorem arr_out : (dats m 0 c).arrAt 6 cfg0.N = fun i : S4096x2048.Idx => attn q k rel V ((i 1).val / 128) (i 0).val (i 1).val := by
  refine (dats m 0 c).arrAt_eq_of_covers 6 _ (by decide +kernel) fun t hf y => ?_
  blk_simp
  rw [after0_6]
  obtain ⟨r, d, rfl⟩ : ∃ (r : Fin 512) (d : Fin 128), y = ix2 r d := ⟨y 0, y 1, by funext a; match a with | ⟨0, _⟩ => rfl | ⟨1, _⟩ => rfl⟩
  have ht := points t
  rw [(index_own t).2.2.2]
  refine (out_at I t r d).trans ?_
  show _ = attn q k rel V ((t.val / 8 * 128 + d.val) / 128) (t.val % 8 * 512 + r.val) (t.val / 8 * 128 + d.val)
  rw [show (t.val / 8 * 128 + d.val) / 128 = t.val / 8 by omega, Nat.mul_comm (t.val % 8) 512]

end Cert.AttIdeal.Val

end
-- ==== Proof.Att.Ref.lean ====
/- The reference of the forward attention at real queries, keys and biases, and values of any kind. -/
module

public import proofs.«01_k».proof.Proof.Gen.AttRefIdeal.Run
public import proofs.«01_k».proof.Proof.Val.RefOut

@[expose] public section

set_option maxRecDepth 16384

noncomputable section

namespace Cert.AttRefIdeal.Val

open Cert.AttRefIdeal Cert.AttRefIdeal.Gen
open Idealize.ShloMosaic Idealize.ShloMosaic.TcCoe Idealize.SL.Sem Idealize.ShloMosaic.StableHlo
open Cert.Val

/-- The backward pass's reference has the same probabilities; its arguments can be given arrays. -/
theorem exists_args (x0 x1 x2 : FVec Ideal S4096x2048 .f32) (x3 : FVec Ideal S16x320 .f32) (x4 : FVec Ideal S4096x2048 .f32) :
    ∃ U0 : Valuation Cert.ReferenceIdeal.τ Cert.ReferenceIdeal.sig (Elt Ideal), Cert.ReferenceIdeal.Val.A0 U0 = x0 ∧ Cert.ReferenceIdeal.Val.A1 U0 = x1
      ∧ Cert.ReferenceIdeal.Val.A2 U0 = x2 ∧ Cert.ReferenceIdeal.Val.A3 U0 = x3 ∧ Cert.ReferenceIdeal.Val.A4 U0 = x4 := by
  refine ⟨Function.update (Function.update (Function.update (Function.update (Function.update
    (fun b _ => (Elt.inhabited Ideal _).default) (Proc.devRef .tc Cert.ReferenceIdeal.main_arg4) x4) (Proc.devRef .tc Cert.ReferenceIdeal.main_arg3) x3) (Proc.devRef .tc Cert.ReferenceIdeal.main_arg2) x2)
    (Proc.devRef .tc Cert.ReferenceIdeal.main_arg1) x1) (Proc.devRef .tc Cert.ReferenceIdeal.main_arg0) x0, ?_, ?_, ?_, ?_, ?_⟩
  · exact Function.update_self ..
  · exact (Function.update_of_ne (by decide) ..).trans (Function.update_self ..)
  · exact (Function.update_of_ne (by decide) ..).trans ((Function.update_of_ne (by decide) ..).trans (Function.update_self ..))
  · exact (Function.update_of_ne (by decide) ..).trans ((Function.update_of_ne (by decide) ..).trans ((Function.update_of_ne (by decide) ..).trans
      (Function.update_self ..)))
  · exact (Function.update_of_ne (by decide) ..).trans ((Function.update_of_ne (by decide) ..).trans ((Function.update_of_ne (by decide) ..).trans
      ((Function.update_of_ne (by decide) ..).trans (Function.update_self ..))))

/-- The result, over the backward pass's probabilities. -/
theorem res_eq (m : (ℓ : Loc nD τ sig) → Buf (Elt Ideal) ℓ) (c : Dev nD)
    (x0 x1 x2 : FVec Ideal S4096x2048 .f32) (x3 : FVec Ideal S16x320 .f32)
    (e0 : m ((c.tc : Thread nD τ).loc Cert.AttRefIdeal.main_arg0) = x0) (e1 : m ((c.tc : Thread nD τ).loc Cert.AttRefIdeal.main_arg1) = x1)
    (e2 : m ((c.tc : Thread nD τ).loc Cert.AttRefIdeal.main_arg2) = x2) (e3 : m ((c.tc : Thread nD τ).loc Cert.AttRefIdeal.main_arg3) = x3)
    (U0 : Valuation Cert.ReferenceIdeal.τ Cert.ReferenceIdeal.sig (Elt Ideal)) (h0 : Cert.ReferenceIdeal.Val.A0 U0 = x0)
    (h1 : Cert.ReferenceIdeal.Val.A1 U0 = x1) (h3 : Cert.ReferenceIdeal.Val.A3 U0 = x3) :
    Value.res_main_v54 m c = (truncf .bf16 (shapeCast S4096x2048 (transpose S4096x16x128 [2, 0, 1] (Host.dotGeneral (F := Ideal) (φ₁ := .f32) (φ₂ := .f32) dot_S4096x16x128_S16x4096x4096_S16x128x4096_0_2_2_1_1_0 none
      (shapeCast S4096x16x128 x2 shapeCasts_S4096x2048_S4096x16x128) (Cert.ReferenceIdeal.Val.R64 U0)) transposes_S16x128x4096_S4096x16x128_2_0_1) shapeCasts_S4096x16x128_S4096x2048) bitsLt_bf16_f32 : FVec Ideal S4096x2048 .bf16) := by
  unfold Value.res_main_v54
  rw [e0, e1, e2, e3]
  unfold Cert.ReferenceIdeal.Val.R64 Cert.ReferenceIdeal.Value.res_main_v64
    Cert.ReferenceIdeal.Value.res_main_v62 Cert.ReferenceIdeal.Value.res_main_v60 Cert.ReferenceIdeal.Value.res_main_v40
    Cert.ReferenceIdeal.Value.res_main_v39_0 Cert.ReferenceIdeal.Value.res_main_v18
    Cert.ReferenceIdeal.Value.res_main_v17
  unfold Cert.ReferenceIdeal.Val.A0 at h0
  unfold Cert.ReferenceIdeal.Val.A1 at h1
  unfold Cert.ReferenceIdeal.Val.A3 at h3
  rw [h0, h1, h3]
  rfl

/-- At real queries, keys and biases the result is the values weighted by the probabilities. -/
theorem res_at (m : (ℓ : Loc nD τ sig) → Buf (Elt Ideal) ℓ) (c : Dev nD)
    (x0 x1 x2 : FVec Ideal S4096x2048 .f32) (x3 : FVec Ideal S16x320 .f32)
    (e0 : m ((c.tc : Thread nD τ).loc Cert.AttRefIdeal.main_arg0) = x0) (e1 : m ((c.tc : Thread nD τ).loc Cert.AttRefIdeal.main_arg1) = x1)
    (e2 : m ((c.tc : Thread nD τ).loc Cert.AttRefIdeal.main_arg2) = x2) (e3 : m ((c.tc : Thread nD τ).loc Cert.AttRefIdeal.main_arg3) = x3)
    {q k rel : ℕ → ℕ → ℝ} (hq : ∀ (t : Fin 4096) (e : Fin 2048), x0 (ix2 t e) = (q t e : EReal)) (hk : ∀ (t : Fin 4096) (e : Fin 2048), x1 (ix2 t e) = (k t e : EReal))
    (hrel : ∀ (h : Fin 16) (e : Fin 320), x3 (ix2 h e) = (rel h e : EReal)) (t : Fin 4096) (h : Fin 16) (d : Fin 128) :
    (Value.res_main_v54 m c : FVec Ideal S4096x2048 .bf16) (ix2 t ⟨h.val * 128 + d.val, by omega⟩)
      = (∑ s : Fin 4096, x2 (ix2 s ⟨h.val * 128 + d.val, by omega⟩) * (prob q k rel h t s : EReal) : EReal) := by
  obtain ⟨U0, h0, h1, h2, h3, h4⟩ := exists_args x0 x1 (fun _ => ((0 : ℝ) : EReal)) x3 (fun _ => ((0 : ℝ) : EReal))
  have H : Cert.ReferenceIdeal.Val.Args U0 q k (fun _ _ => 0) (fun _ _ => 0) rel :=
    ⟨fun t e => (congrFun h0 _).trans (hq t e), fun t e => (congrFun h1 _).trans (hk t e), fun t e => congrFun h2 _,
      fun a e => (congrFun h3 _).trans (hrel a e), fun t e => congrFun h4 _⟩
  rw [res_eq m c x0 x1 x2 x3 e0 e1 e2 e3 U0 h0 h1 h3]
  refine Eq.trans ?_ (Finset.sum_congr (M := EReal) rfl fun s _ => congrArg (fun p : EReal => x2 (ix2 s ⟨h.val * 128 + d.val, by omega⟩) * p) (Cert.ReferenceIdeal.Val.probs H h t s))
  generalize Cert.ReferenceIdeal.Val.R64 U0 = p
  pointwise

end Cert.AttRefIdeal.Val

end
-- ==== Proof.Att.Algebraic.lean ====
/- The forward attention's kernel and its reference, run from equal arguments with real queries, keys and biases, end with equal results. -/
module

public import proofs.«01_k».proof.Proof.Att.Value
public import proofs.«01_k».proof.Proof.Att.Ref
public import proofs.«01_k».proof.Proof.Val.Finite
public import proofs.«01_k».proof.Proof.Gen.Pre_real_scores
public import proofs.«01_k».proof.Defs
public import Idealize.ShloMosaic.Lib.ReduceAll

@[expose] public section

set_option maxRecDepth 16384

noncomputable section

namespace Cert.Pre_real_scores.Val

open Idealize.ShloMosaic Cert.Val Cert.Pre_real_scores Cert.Pre_real_scores.Facts Cert.Pre_real_scores.Gen

/-- The precondition read back: the queries, the keys and the bias table are real numbers. -/
theorem decode (a0 a1 a2 : FVec Ideal S4096x2048 .f32) (a3 : FVec Ideal S16x320 .f32) (h : fn (F := Ideal) a0 a1 a2 a3 = fun _ => 1#1) :
    (∀ i, a0 i = ((a0 i : EReal).toReal : EReal)) ∧ (∀ i, a1 i = ((a1 i : EReal).toReal : EReal)) ∧ (∀ i, a3 i = ((a3 i : EReal).toReal : EReal)) := by
  have h' := congrFun h (fun i => i.elim0)
  unfold fn at h'
  obtain ⟨h1, h3⟩ := IntOp.andi_eq_one.1 h'
  obtain ⟨h0, h1⟩ := IntOp.andi_eq_one.1 h1
  exact ⟨Cert.Pre_finite.Val.all_real a0 _ _ _ _ _ h0, Cert.Pre_finite.Val.all_real a1 _ _ _ _ _ h1, Cert.Pre_finite.Val.all_real a3 _ _ _ _ _ h3⟩

end Cert.Pre_real_scores.Val

namespace Cert.AttIdeal.Val

open Cert.AttIdeal Cert.AttIdeal.Gen Cert.AttIdeal.Value
open Idealize.ShloMosaic Idealize.ShloMosaic.TcCoe Idealize.SL.Sem Idealize.ShloMosaic.StableHlo
open Cert.Val

/-- An array's entries by their numbers. -/
def entries (x : FVec Ideal S4096x2048 .f32) (a b : ℕ) : EReal := if h : a < 4096 ∧ b < 2048 then x (ix2 ⟨a, h.1⟩ ⟨b, h.2⟩) else 0

theorem entries_eq (x : FVec Ideal S4096x2048 .f32) (a : Fin 4096) (b : Fin 2048) : x (ix2 a b) = entries x a b := by
  unfold entries
  rw [dif_pos ⟨a.isLt, b.isLt⟩]

theorem algebraic : Cert.algebraic_AttIdeal_AttRefIdeal_pre_real_scores (hAttIdeal := Cert.AttIdeal.Gen.facts)
    (hAttRefIdeal := Cert.AttRefIdeal.Gen.facts) (hPre_real_scores := Cert.Pre_real_scores.Gen.facts) := by
  intro m g m' g' hpre hargs
  have I : ∀ c : Dev nD, Given m c (reals (A0 (L0 m c))) (reals (A1 (L0 m c))) (reals (A3 (L0 m c))) (entries (A2 (L0 m c))) := by
    intro c
    obtain ⟨r0, r1, r3⟩ := Cert.Pre_real_scores.Val.decode _ _ _ _ (hpre c)
    exact ⟨fun t e => reals_eq _ r0 t e, fun t e => reals_eq _ r1 t e, fun t e => entries_eq _ t e, fun t e => reals_eq _ r3 t e⟩
  refine ⟨fun c => Cert.AttRefIdeal.Value.res_main_v54 m' c, ?_, Cert.AttRefIdeal.Value.run m' g'⟩
  refine (θ_run defs _ _).mono (fun r h c => ⟨(h c).1.trans ((arr_out (I c)).trans ?_), (h c).2⟩) (run_blocks m g)
  obtain ⟨e0, e1, e2, e3⟩ := hargs c
  funext i
  have h1 : (i 1).val < 2048 := (i 1 : Fin 2048).isLt
  have hi : i = ix2 (i 0 : Fin 4096) ⟨(i 1).val / 128 * 128 + (i 1).val % 128, by omega⟩ := by
    funext a
    match a with
    | ⟨0, _⟩ => rfl
    | ⟨1, _⟩ => exact Fin.ext (by show (i 1).val = (i 1).val / 128 * 128 + (i 1).val % 128; omega)
  refine Eq.trans ?_ ((Cert.AttRefIdeal.Val.res_at m' c _ _ _ _ e0 e1 e2 e3 (I c).q (I c).k (I c).rel (i 0)
    ⟨(i 1).val / 128, by omega⟩ ⟨(i 1).val % 128, Nat.mod_lt _ (by omega)⟩).symm.trans
    (congrArg (Cert.AttRefIdeal.Value.res_main_v54 m' c : FVec Ideal S4096x2048 .bf16) hi.symm))
  unfold attn
  refine Finset.sum_congr (M := EReal) rfl fun s _ => congrArg (fun x : EReal => x * _) ?_
  refine Eq.trans ?_ (entries_eq _ _ _).symm
  show entries (A2 (L0 m c)) s.val (i 1).val = entries (A2 (L0 m c)) s.val ((i 1).val / 128 * 128 + (i 1).val % 128)
  rw [Nat.div_add_mod']

end Cert.AttIdeal.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run.Region
public import proofs.«01_k».proof.Proof.Gen.Pre_finite
public import proofs.«01_k».proof.Proof.RunK.Region
public import proofs.«01_k».proof.Proof.Mlp.AlgUp
public import proofs.«01_k».proof.Proof.Mlp.AlgDown
public import proofs.«01_k».proof.Proof.Mlp.AlgDw2
public import proofs.«01_k».proof.Proof.Mlp.AlgDpre
public import proofs.«01_k».proof.Proof.Mlp.AlgDw1
public import proofs.«01_k».proof.Proof.Mlp.AlgDn
public import proofs.«01_k».proof.Proof.Val.Algebraic
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Proj.Qkv
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Proj.Out
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Proj.Kv
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Proj.Query
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Proj.OutDx
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Proj.OutDw
public import proofs.«01_k».proof.Proof.Gen.QueryDx
public import proofs.«01_k».proof.Proof.Gen.QueryDx.Frame
public import proofs.«01_k».proof.Proof.Gen.QueryDxIdeal
public import proofs.«01_k».proof.Proof.Gen.QueryDxIdeal.Frame
public import proofs.«01_k».proof.Proof.Proj.QueryDx
public import proofs.«01_k».proof.Proof.Gen.KvDw
public import proofs.«01_k».proof.Proof.Gen.KvDw.Frame
public import proofs.«01_k».proof.Proof.Gen.KvDwIdeal
public import proofs.«01_k».proof.Proof.Gen.KvDwIdeal.Frame
public import proofs.«01_k».proof.Proof.Proj.KvDw
public import proofs.«01_k».proof.Proof.Gen.KvDx
public import proofs.«01_k».proof.Proof.Gen.KvDx.Frame
public import proofs.«01_k».proof.Proof.Gen.KvDxIdeal
public import proofs.«01_k».proof.Proof.Gen.KvDxIdeal.Frame
public import proofs.«01_k».proof.Proof.Proj.KvDx
public import proofs.«01_k».proof.Proof.Gen.QkvDw
public import proofs.«01_k».proof.Proof.Gen.QkvDw.Frame
public import proofs.«01_k».proof.Proof.Gen.QkvDwIdeal
public import proofs.«01_k».proof.Proof.Gen.QkvDwIdeal.Frame
public import proofs.«01_k».proof.Proof.Proj.QkvDw
public import proofs.«01_k».proof.Proof.Gen.QkvDx
public import proofs.«01_k».proof.Proof.Gen.QkvDx.Frame
public import proofs.«01_k».proof.Proof.Gen.QkvDxIdeal
public import proofs.«01_k».proof.Proof.Gen.QkvDxIdeal.Frame
public import proofs.«01_k».proof.Proof.Proj.QkvDx
public import proofs.«01_k».proof.Proof.Gen.Fz
public import proofs.«01_k».proof.Proof.Gen.Fz.Frame
public import proofs.«01_k».proof.Proof.Gen.FzIdeal
public import proofs.«01_k».proof.Proof.Gen.FzIdeal.Frame
public import proofs.«01_k».proof.Proof.Proj.Fz
public import proofs.«01_k».proof.Proof.Gen.FzDw
public import proofs.«01_k».proof.Proof.Gen.FzDw.Frame
public import proofs.«01_k».proof.Proof.Gen.FzDwIdeal
public import proofs.«01_k».proof.Proof.Gen.FzDwIdeal.Frame
public import proofs.«01_k».proof.Proof.Proj.FzDw
public import proofs.«01_k».proof.Proof.Gen.FzDx
public import proofs.«01_k».proof.Proof.Gen.FzDx.Frame
public import proofs.«01_k».proof.Proof.Gen.FzDxIdeal
public import proofs.«01_k».proof.Proof.Gen.FzDxIdeal.Frame
public import proofs.«01_k».proof.Proof.Proj.FzDx
public import proofs.«01_k».proof.Proof.Gen.Att
public import proofs.«01_k».proof.Proof.Gen.Att.Frame
public import proofs.«01_k».proof.Proof.Gen.AttIdeal
public import proofs.«01_k».proof.Proof.Gen.AttIdeal.Frame
public import proofs.«01_k».proof.Proof.Att.Algebraic
public import proofs.«01_k».proof.Proof.Gen.Pre_real_scores
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Dw2
public import proofs.«01_k».proof.Proof.Gen.Dw2.Frame
public import proofs.«01_k».proof.Proof.Gen.Dw2Ideal
public import proofs.«01_k».proof.Proof.Gen.Dw2Ideal.Frame
public import proofs.«01_k».proof.Proof.Gen.Dw2Ideal.Value
public import proofs.«01_k».proof.Proof.Gen.Dw2RefIdeal
public import proofs.«01_k».proof.Proof.Gen.Dw2RefIdeal.Run
public import proofs.«01_k».proof.Proof.Gen.Dpre
public import proofs.«01_k».proof.Proof.Gen.Dpre.Frame
public import proofs.«01_k».proof.Proof.Gen.DpreIdeal
public import proofs.«01_k».proof.Proof.Gen.DpreIdeal.Frame
public import proofs.«01_k».proof.Proof.Gen.DpreIdeal.Value
public import proofs.«01_k».proof.Proof.Gen.DpreRefIdeal
public import proofs.«01_k».proof.Proof.Gen.DpreRefIdeal.Run
public import proofs.«01_k».proof.Proof.Gen.Dw1
public import proofs.«01_k».proof.Proof.Gen.Dw1.Frame
public import proofs.«01_k».proof.Proof.Gen.Dw1Ideal
public import proofs.«01_k».proof.Proof.Gen.Dw1Ideal.Frame
public import proofs.«01_k».proof.Proof.Gen.Dw1Ideal.Value
public import proofs.«01_k».proof.Proof.Gen.Dw1RefIdeal
public import proofs.«01_k».proof.Proof.Gen.Dw1RefIdeal.Run
public import proofs.«01_k».proof.Proof.Gen.Dn
public import proofs.«01_k».proof.Proof.Gen.Dn.Frame
public import proofs.«01_k».proof.Proof.Gen.DnIdeal
public import proofs.«01_k».proof.Proof.Gen.DnIdeal.Frame
public import proofs.«01_k».proof.Proof.Gen.DnIdeal.Value
public import proofs.«01_k».proof.Proof.Gen.DnRefIdeal
public import proofs.«01_k».proof.Proof.Gen.DnRefIdeal.Run
public import Idealize.ShloMosaic.Adequacy
public import Idealize.ShloMosaic.Init

@[expose] public section

noncomputable section

namespace Cert.Proof

open Idealize.ShloMosaic Idealize.SL.Sem

/-- The reference ends with its arguments as they were and its semaphores at zero. -/
theorem frame_reference : Cert.quiescent_ReferenceIdeal (hReferenceIdeal := Cert.ReferenceIdeal.Gen.facts) := fun m ρ _ =>
  (θ_run Cert.ReferenceIdeal.defs _ _).mono (fun r h => And.intro (fun c => (h c).2.2.2.2) (Idealize.ShloMosaic.sem_eq_zero_of_no_sems (by decide) r.2))
    (Cert.ReferenceIdeal.Value.run (F := Ideal) m ρ)

theorem frame_UpRef : Cert.quiescent_UpRefIdeal (hUpRefIdeal := Cert.UpRefIdeal.Gen.facts) := fun m ρ _ =>
  (θ_run Cert.UpRefIdeal.defs _ _).mono (fun r h => And.intro (fun c => (h c).2.2) (Idealize.ShloMosaic.sem_eq_zero_of_no_sems (by decide) r.2))
    (Cert.UpRefIdeal.Value.run (F := Ideal) m ρ)

theorem frame_DownRef : Cert.quiescent_DownRefIdeal (hDownRefIdeal := Cert.DownRefIdeal.Gen.facts) := fun m ρ _ =>
  (θ_run Cert.DownRefIdeal.defs _ _).mono (fun r h => And.intro (fun c => (h c).2) (Idealize.ShloMosaic.sem_eq_zero_of_no_sems (by decide) r.2))
    (Cert.DownRefIdeal.Value.run (F := Ideal) m ρ)

theorem frame_Dw2Ref : Cert.quiescent_Dw2RefIdeal (hDw2RefIdeal := Cert.Dw2RefIdeal.Gen.facts) := fun m ρ _ =>
  (θ_run Cert.Dw2RefIdeal.defs _ _).mono (fun r h => And.intro (fun c => (h c).2) (Idealize.ShloMosaic.sem_eq_zero_of_no_sems (by decide) r.2))
    (Cert.Dw2RefIdeal.Value.run (F := Ideal) m ρ)

theorem frame_DpreRef : Cert.quiescent_DpreRefIdeal (hDpreRefIdeal := Cert.DpreRefIdeal.Gen.facts) := fun m ρ _ =>
  (θ_run Cert.DpreRefIdeal.defs _ _).mono (fun r h => And.intro (fun c => (h c).2) (Idealize.ShloMosaic.sem_eq_zero_of_no_sems (by decide) r.2))
    (Cert.DpreRefIdeal.Value.run (F := Ideal) m ρ)

theorem frame_Dw1Ref : Cert.quiescent_Dw1RefIdeal (hDw1RefIdeal := Cert.Dw1RefIdeal.Gen.facts) := fun m ρ _ =>
  (θ_run Cert.Dw1RefIdeal.defs _ _).mono (fun r h => And.intro (fun c => (h c).2) (Idealize.ShloMosaic.sem_eq_zero_of_no_sems (by decide) r.2))
    (Cert.Dw1RefIdeal.Value.run (F := Ideal) m ρ)

theorem frame_DnRef : Cert.quiescent_DnRefIdeal (hDnRefIdeal := Cert.DnRefIdeal.Gen.facts) := fun m ρ _ =>
  (θ_run Cert.DnRefIdeal.defs _ _).mono (fun r h => And.intro (fun c => (h c).2) (Idealize.ShloMosaic.sem_eq_zero_of_no_sems (by decide) r.2))
    (Cert.DnRefIdeal.Value.run (F := Ideal) m ρ)

theorem frame_QkvRef : Cert.quiescent_QkvRefIdeal (hQkvRefIdeal := Cert.QkvRefIdeal.Gen.facts) := fun m ρ _ =>
  (θ_run Cert.QkvRefIdeal.defs _ _).mono (fun r h => And.intro (fun c => (h c).2) (Idealize.ShloMosaic.sem_eq_zero_of_no_sems (by decide) r.2))
    (Cert.QkvRefIdeal.Value.run (F := Ideal) m ρ)

theorem frame_OutRef : Cert.quiescent_OutRefIdeal (hOutRefIdeal := Cert.OutRefIdeal.Gen.facts) := fun m ρ _ =>
  (θ_run Cert.OutRefIdeal.defs _ _).mono (fun r h => And.intro (fun c => (h c).2) (Idealize.ShloMosaic.sem_eq_zero_of_no_sems (by decide) r.2))
    (Cert.OutRefIdeal.Value.run (F := Ideal) m ρ)

theorem frame_KvRef : Cert.quiescent_KvRefIdeal (hKvRefIdeal := Cert.KvRefIdeal.Gen.facts) := fun m ρ _ =>
  (θ_run Cert.KvRefIdeal.defs _ _).mono (fun r h => And.intro (fun c => (h c).2) (Idealize.ShloMosaic.sem_eq_zero_of_no_sems (by decide) r.2))
    (Cert.KvRefIdeal.Value.run (F := Ideal) m ρ)

theorem frame_QueryRef : Cert.quiescent_QueryRefIdeal (hQueryRefIdeal := Cert.QueryRefIdeal.Gen.facts) := fun m ρ _ =>
  (θ_run Cert.QueryRefIdeal.defs _ _).mono (fun r h => And.intro (fun c => (h c).2) (Idealize.ShloMosaic.sem_eq_zero_of_no_sems (by decide) r.2))
    (Cert.QueryRefIdeal.Value.run (F := Ideal) m ρ)

theorem frame_OutDxRef : Cert.quiescent_OutDxRefIdeal (hOutDxRefIdeal := Cert.OutDxRefIdeal.Gen.facts) := fun m ρ _ =>
  (θ_run Cert.OutDxRefIdeal.defs _ _).mono (fun r h => And.intro (fun c => (h c).2) (Idealize.ShloMosaic.sem_eq_zero_of_no_sems (by decide) r.2))
    (Cert.OutDxRefIdeal.Value.run (F := Ideal) m ρ)

theorem frame_OutDwRef : Cert.quiescent_OutDwRefIdeal (hOutDwRefIdeal := Cert.OutDwRefIdeal.Gen.facts) := fun m ρ _ =>
  (θ_run Cert.OutDwRefIdeal.defs _ _).mono (fun r h => And.intro (fun c => (h c).2) (Idealize.ShloMosaic.sem_eq_zero_of_no_sems (by decide) r.2))
    (Cert.OutDwRefIdeal.Value.run (F := Ideal) m ρ)

theorem frame_QueryDxRef : Cert.quiescent_QueryDxRefIdeal (hQueryDxRefIdeal := Cert.QueryDxRefIdeal.Gen.facts) := fun m ρ _ =>
  (θ_run Cert.QueryDxRefIdeal.defs _ _).mono (fun r h => And.intro (fun c => (h c).2) (Idealize.ShloMosaic.sem_eq_zero_of_no_sems (by decide) r.2))
    (Cert.QueryDxRefIdeal.Value.run (F := Ideal) m ρ)

theorem frame_KvDwRef : Cert.quiescent_KvDwRefIdeal (hKvDwRefIdeal := Cert.KvDwRefIdeal.Gen.facts) := fun m ρ _ =>
  (θ_run Cert.KvDwRefIdeal.defs _ _).mono (fun r h => And.intro (fun c => (h c).2) (Idealize.ShloMosaic.sem_eq_zero_of_no_sems (by decide) r.2))
    (Cert.KvDwRefIdeal.Value.run (F := Ideal) m ρ)

theorem frame_KvDxRef : Cert.quiescent_KvDxRefIdeal (hKvDxRefIdeal := Cert.KvDxRefIdeal.Gen.facts) := fun m ρ _ =>
  (θ_run Cert.KvDxRefIdeal.defs _ _).mono (fun r h => And.intro (fun c => (h c).2) (Idealize.ShloMosaic.sem_eq_zero_of_no_sems (by decide) r.2))
    (Cert.KvDxRefIdeal.Value.run (F := Ideal) m ρ)

theorem frame_QkvDwRef : Cert.quiescent_QkvDwRefIdeal (hQkvDwRefIdeal := Cert.QkvDwRefIdeal.Gen.facts) := fun m ρ _ =>
  (θ_run Cert.QkvDwRefIdeal.defs _ _).mono (fun r h => And.intro (fun c => (h c).2) (Idealize.ShloMosaic.sem_eq_zero_of_no_sems (by decide) r.2))
    (Cert.QkvDwRefIdeal.Value.run (F := Ideal) m ρ)

theorem frame_QkvDxRef : Cert.quiescent_QkvDxRefIdeal (hQkvDxRefIdeal := Cert.QkvDxRefIdeal.Gen.facts) := fun m ρ _ =>
  (θ_run Cert.QkvDxRefIdeal.defs _ _).mono (fun r h => And.intro (fun c => (h c).2) (Idealize.ShloMosaic.sem_eq_zero_of_no_sems (by decide) r.2))
    (Cert.QkvDxRefIdeal.Value.run (F := Ideal) m ρ)

theorem frame_FzRef : Cert.quiescent_FzRefIdeal (hFzRefIdeal := Cert.FzRefIdeal.Gen.facts) := fun m ρ _ =>
  (θ_run Cert.FzRefIdeal.defs _ _).mono (fun r h => And.intro (fun c => (h c).2) (Idealize.ShloMosaic.sem_eq_zero_of_no_sems (by decide) r.2))
    (Cert.FzRefIdeal.Value.run (F := Ideal) m ρ)

theorem frame_FzDwRef : Cert.quiescent_FzDwRefIdeal (hFzDwRefIdeal := Cert.FzDwRefIdeal.Gen.facts) := fun m ρ _ =>
  (θ_run Cert.FzDwRefIdeal.defs _ _).mono (fun r h => And.intro (fun c => (h c).2) (Idealize.ShloMosaic.sem_eq_zero_of_no_sems (by decide) r.2))
    (Cert.FzDwRefIdeal.Value.run (F := Ideal) m ρ)

theorem frame_FzDxRef : Cert.quiescent_FzDxRefIdeal (hFzDxRefIdeal := Cert.FzDxRefIdeal.Gen.facts) := fun m ρ _ =>
  (θ_run Cert.FzDxRefIdeal.defs _ _).mono (fun r h => And.intro (fun c => (h c).2) (Idealize.ShloMosaic.sem_eq_zero_of_no_sems (by decide) r.2))
    (Cert.FzDxRefIdeal.Value.run (F := Ideal) m ρ)

theorem frame_AttRef : Cert.quiescent_AttRefIdeal (hAttRefIdeal := Cert.AttRefIdeal.Gen.facts) := fun m ρ _ =>
  (θ_run Cert.AttRefIdeal.defs _ _).mono (fun r h => And.intro (fun c => (h c).2) (Idealize.ShloMosaic.sem_eq_zero_of_no_sems (by decide) r.2))
    (Cert.AttRefIdeal.Value.run (F := Ideal) m ρ)

theorem claim : Cert.Claim := ⟨Cert.Kernel.Gen.facts, Cert.KernelIdeal.Gen.facts, Cert.ReferenceIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Dw2.Gen.facts, Cert.Dw2Ideal.Gen.facts, Cert.Dw2RefIdeal.Gen.facts,
    Cert.Dpre.Gen.facts, Cert.DpreIdeal.Gen.facts, Cert.DpreRefIdeal.Gen.facts,
    Cert.Dw1.Gen.facts, Cert.Dw1Ideal.Gen.facts, Cert.Dw1RefIdeal.Gen.facts,
    Cert.Dn.Gen.facts, Cert.DnIdeal.Gen.facts, Cert.DnRefIdeal.Gen.facts,
    Cert.Qkv.Gen.facts, Cert.QkvIdeal.Gen.facts, Cert.QkvRefIdeal.Gen.facts,
    Cert.Out.Gen.facts, Cert.OutIdeal.Gen.facts, Cert.OutRefIdeal.Gen.facts,
    Cert.Kv.Gen.facts, Cert.KvIdeal.Gen.facts, Cert.KvRefIdeal.Gen.facts,
    Cert.Query.Gen.facts, Cert.QueryIdeal.Gen.facts, Cert.QueryRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.QueryDx.Gen.facts, Cert.QueryDxIdeal.Gen.facts, Cert.QueryDxRefIdeal.Gen.facts,
    Cert.KvDw.Gen.facts, Cert.KvDwIdeal.Gen.facts, Cert.KvDwRefIdeal.Gen.facts,
    Cert.KvDx.Gen.facts, Cert.KvDxIdeal.Gen.facts, Cert.KvDxRefIdeal.Gen.facts,
    Cert.QkvDw.Gen.facts, Cert.QkvDwIdeal.Gen.facts, Cert.QkvDwRefIdeal.Gen.facts,
    Cert.QkvDx.Gen.facts, Cert.QkvDxIdeal.Gen.facts, Cert.QkvDxRefIdeal.Gen.facts,
    Cert.Fz.Gen.facts, Cert.FzIdeal.Gen.facts, Cert.FzRefIdeal.Gen.facts,
    Cert.FzDw.Gen.facts, Cert.FzDwIdeal.Gen.facts, Cert.FzDwRefIdeal.Gen.facts,
    Cert.FzDx.Gen.facts, Cert.FzDxIdeal.Gen.facts, Cert.FzDxRefIdeal.Gen.facts,
    Cert.Att.Gen.facts, Cert.AttIdeal.Gen.facts, Cert.AttRefIdeal.Gen.facts,
    Cert.Pre_finite.Gen.facts, Cert.Pre_real_scores.Gen.facts,
    fun m ρ _ => Cert.Kernel.Run.frame m ρ, fun m ρ _ => Cert.KernelIdeal.Run.frame m ρ, fun m ρ _ => Cert.KernelIdeal.Run.frame m ρ,
    frame_reference, fun m ρ _ => frame_reference m ρ trivial,
    fun m ρ _ => Cert.Up.Gen.frame m ρ, fun m ρ _ => Cert.UpIdeal.Gen.frame m ρ, frame_UpRef,
    fun m ρ _ => Cert.Down.Gen.frame m ρ, fun m ρ _ => Cert.DownIdeal.Gen.frame m ρ, frame_DownRef,
    fun m ρ _ => Cert.Dw2.Gen.frame m ρ, fun m ρ _ => Cert.Dw2Ideal.Gen.frame m ρ, frame_Dw2Ref,
    fun m ρ _ => Cert.Dpre.Gen.frame m ρ, fun m ρ _ => Cert.DpreIdeal.Gen.frame m ρ, frame_DpreRef,
    fun m ρ _ => Cert.Dw1.Gen.frame m ρ, fun m ρ _ => Cert.Dw1Ideal.Gen.frame m ρ, frame_Dw1Ref,
    fun m ρ _ => Cert.Dn.Gen.frame m ρ, fun m ρ _ => Cert.DnIdeal.Gen.frame m ρ, frame_DnRef,
    fun m ρ _ => Cert.Qkv.Gen.frame m ρ, fun m ρ _ => Cert.QkvIdeal.Gen.frame m ρ, frame_QkvRef,
    fun m ρ _ => Cert.Out.Gen.frame m ρ, fun m ρ _ => Cert.OutIdeal.Gen.frame m ρ, frame_OutRef,
    fun m ρ _ => Cert.Kv.Gen.frame m ρ, fun m ρ _ => Cert.KvIdeal.Gen.frame m ρ, frame_KvRef,
    fun m ρ _ => Cert.Query.Gen.frame m ρ, fun m ρ _ => Cert.QueryIdeal.Gen.frame m ρ, frame_QueryRef,
    fun m ρ _ => Cert.OutDx.Gen.frame m ρ, fun m ρ _ => Cert.OutDxIdeal.Gen.frame m ρ, frame_OutDxRef,
    fun m ρ _ => Cert.OutDw.Gen.frame m ρ, fun m ρ _ => Cert.OutDwIdeal.Gen.frame m ρ, frame_OutDwRef,
    fun m ρ _ => Cert.QueryDx.Gen.frame m ρ, fun m ρ _ => Cert.QueryDxIdeal.Gen.frame m ρ, frame_QueryDxRef,
    fun m ρ _ => Cert.KvDw.Gen.frame m ρ, fun m ρ _ => Cert.KvDwIdeal.Gen.frame m ρ, frame_KvDwRef,
    fun m ρ _ => Cert.KvDx.Gen.frame m ρ, fun m ρ _ => Cert.KvDxIdeal.Gen.frame m ρ, frame_KvDxRef,
    fun m ρ _ => Cert.QkvDw.Gen.frame m ρ, fun m ρ _ => Cert.QkvDwIdeal.Gen.frame m ρ, frame_QkvDwRef,
    fun m ρ _ => Cert.QkvDx.Gen.frame m ρ, fun m ρ _ => Cert.QkvDxIdeal.Gen.frame m ρ, frame_QkvDxRef,
    fun m ρ _ => Cert.Fz.Gen.frame m ρ, fun m ρ _ => Cert.FzIdeal.Gen.frame m ρ, frame_FzRef,
    fun m ρ _ => Cert.FzDw.Gen.frame m ρ, fun m ρ _ => Cert.FzDwIdeal.Gen.frame m ρ, frame_FzDwRef,
    fun m ρ _ => Cert.FzDx.Gen.frame m ρ, fun m ρ _ => Cert.FzDxIdeal.Gen.frame m ρ, frame_FzDxRef,
    fun m ρ _ => Cert.Att.Gen.frame m ρ, fun m ρ _ => Cert.AttIdeal.Gen.frame m ρ, fun m ρ _ => Cert.AttIdeal.Gen.frame m ρ,
    frame_AttRef, fun m ρ _ => frame_AttRef m ρ trivial,
    IdealRules.named_const.statement Cert.KernelIdeal.κ "mask" .f32 0xF149F2CA#32 ⊥ rfl, Cert.KernelIdeal.Val.algebraic,
    trivial, Cert.UpIdeal.Val.algebraic,
    trivial, Cert.DownIdeal.Val.algebraic,
    trivial, Cert.Dw2Ideal.Val.algebraic,
    trivial, Cert.DpreIdeal.Val.algebraic,
    trivial, Cert.Dw1Ideal.Val.algebraic,
    trivial, Cert.DnIdeal.Val.algebraic,
    trivial, Cert.QkvIdeal.Val.algebraic,
    trivial, Cert.OutIdeal.Val.algebraic,
    trivial, Cert.KvIdeal.Val.algebraic,
    trivial, Cert.QueryIdeal.Val.algebraic,
    trivial, Cert.OutDxIdeal.Val.algebraic,
    trivial, Cert.OutDwIdeal.Val.algebraic,
    trivial, Cert.QueryDxIdeal.Val.algebraic,
    trivial, Cert.KvDwIdeal.Val.algebraic,
    trivial, Cert.KvDxIdeal.Val.algebraic,
    trivial, Cert.QkvDwIdeal.Val.algebraic,
    trivial, Cert.QkvDxIdeal.Val.algebraic,
    trivial, Cert.FzIdeal.Val.algebraic,
    trivial, Cert.FzDwIdeal.Val.algebraic,
    trivial, Cert.FzDxIdeal.Val.algebraic,
    IdealRules.named_const.statement Cert.AttIdeal.κ "mask" .f32 0xF149F2CA#32 ⊥ rfl, Cert.AttIdeal.Val.algebraic⟩

end Cert.Proof

end
